-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_laid_out [hPre_laid_out : Cert.Pre_laid_out.Facts] (m : (ℓ : Loc Cert.KernelIdeal.nD Cert.KernelIdeal.τ Cert.KernelIdeal.sig) → Buf (Elt Ideal) ℓ) : Prop :=
  ∀ c : Dev Cert.KernelIdeal.nD,
    (Cert.Pre_laid_out.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_laid_out.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_laid_out [hPre_laid_out : Cert.Pre_laid_out.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_laid_out.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_laid_out.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_laid_out [hKernelIdeal : Cert.KernelIdeal.Facts] [hPre_laid_out : Cert.Pre_laid_out.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_laid_out m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_laid_out [hReferenceIdeal : Cert.ReferenceIdeal.Facts] [hPre_laid_out : Cert.Pre_laid_out.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_laid_out m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_laid_out [hKernelIdeal : Cert.KernelIdeal.Facts] [hReferenceIdeal : Cert.ReferenceIdeal.Facts] [hPre_laid_out : Cert.Pre_laid_out.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_laid_out m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21_0) = v0 c
          ∧ r.2.mem ((c.tc : Thread Cert.ReferenceIdeal.nD Cert.ReferenceIdeal.τ).loc Cert.ReferenceIdeal.main_v21_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_laid_out : Cert.Pre_laid_out.Facts),
    quiescent_Kernel (hKernel := hKernel)
    ∧ quiescent_KernelIdeal (hKernelIdeal := hKernelIdeal)
    ∧ quiescent_KernelIdeal_pre_laid_out (hKernelIdeal := hKernelIdeal) (hPre_laid_out := hPre_laid_out)
    ∧ quiescent_ReferenceIdeal (hReferenceIdeal := hReferenceIdeal)
    ∧ quiescent_ReferenceIdeal_pre_laid_out (hReferenceIdeal := hReferenceIdeal) (hPre_laid_out := hPre_laid_out)
    ∧ preserves_Kernel_KernelIdeal
    ∧ algebraic_KernelIdeal_ReferenceIdeal_pre_laid_out (hKernelIdeal := hKernelIdeal) (hReferenceIdeal := hReferenceIdeal) (hPre_laid_out := hPre_laid_out)
-- ==== Pre_laid_out.lean ====
abbrev S4x4096x16x128 : Shape := ⟨4, ![4, 4096, 16, 128]⟩
abbrev S4x4096x16 : Shape := ⟨3, ![4, 4096, 16]⟩
abbrev S4x4096x2x128 : Shape := ⟨4, ![4, 4096, 2, 128]⟩
abbrev S4x4096x2 : Shape := ⟨3, ![4, 4096, 2]⟩
abbrev S4x2 : Shape := ⟨2, ![4, 2]⟩
abbrev S4x4096 : Shape := ⟨2, ![4, 4096]⟩
abbrev S_ : Shape := ⟨0, ![]⟩
abbrev S4x4095 : Shape := ⟨2, ![4, 4095]⟩

class Facts : Prop where
  bcast_S_S4x4096x16 : S_.BroadcastsInDim S4x4096x16 (![] : Fin 0 → Fin S4x4096x16.rank)
  slices_S4x4096_S4x4095_0_1 : S4x4096.Slices ![0, 1] S4x4095
  slices_S4x4096_S4x4095_0_0 : S4x4096.Slices ![0, 0] S4x4095

variable [Facts]

def fn {F : FTy → Type} [FloatOps F] (main_arg0 : FVec F S4x4096x16x128 .fp8e4m3) (main_arg1 : FVec F S4x4096x16 .f32) (main_arg2 : FVec F S4x4096x2x128 .fp8e4m3) (main_arg3 : FVec F S4x4096x2 .f32) (main_arg4 : FVec F S4x4096x2x128 .fp8e4m3) (main_arg5 : FVec F S4x2 .f32) (main_arg6 : IVec S4x4096 32) : IVec S4x4096x16 1 × IVec S4x4095 1 :=
  let main_cst : FVec F S_ .f32 := constant S_ .f32 0x00000000#32
  let main_v0 : FVec F S4x4096x16 .f32 := broadcastInDim S4x4096x16 ![] bcast_S_S4x4096x16 main_cst
  let main_v1 : IVec S4x4096x16 1 := cmpf .ogt main_arg1 main_v0
  let main_v2 : IVec S4x4095 32 := (extractStridedSlice S4x4095 ![0, 1] · slices_S4x4096_S4x4095_0_1) main_arg6
  let main_v3 : IVec S4x4095 32 := (extractStridedSlice S4x4095 ![0, 0] · slices_S4x4096_S4x4095_0_0) main_arg6
  let main_v4 : IVec S4x4095 1 := cmpi .sge main_v2 main_v3
  (main_v1, main_v4)
-- ==== Kernel.lean ====
abbrev S4x4096x16x128 : Shape := ⟨4, ![4, 4096, 16, 128]⟩
abbrev S4x4096x16 : Shape := ⟨3, ![4, 4096, 16]⟩
abbrev S4x4096x2x128 : Shape := ⟨4, ![4, 4096, 2, 128]⟩
abbrev S4x4096x2 : Shape := ⟨3, ![4, 4096, 2]⟩
abbrev S4x2 : Shape := ⟨2, ![4, 2]⟩
abbrev S4x4096 : Shape := ⟨2, ![4, 4096]⟩
abbrev S4096 : Shape := ⟨1, ![4096]⟩
abbrev S_ : Shape := ⟨0, ![]⟩
abbrev S1x4096 : Shape := ⟨2, ![1, 4096]⟩
abbrev S1x0x4096 : Shape := ⟨3, ![1, 0, 4096]⟩
abbrev S0x4096 : Shape := ⟨2, ![0, 4096]⟩
abbrev S4x1 : Shape := ⟨2, ![4, 1]⟩
abbrev S4x1x1 : Shape := ⟨3, ![4, 1, 1]⟩
abbrev S4x1x0 : Shape := ⟨3, ![4, 1, 0]⟩
abbrev S4x0 : Shape := ⟨2, ![4, 0]⟩
abbrev S4x4097 : Shape := ⟨2, ![4, 4097]⟩
abbrev S4x32x1x128 : Shape := ⟨4, ![4, 32, 1, 128]⟩
abbrev S4x32x1x128x8 : Shape := ⟨5, ![4, 32, 1, 128, 8]⟩
abbrev S4x32x1x1024 : Shape := ⟨4, ![4, 32, 1, 1024]⟩
abbrev S4x32x128x2x8 : Shape := ⟨5, ![4, 32, 128, 2, 8]⟩
abbrev S4x2x32x128x8 : Shape := ⟨5, ![4, 2, 32, 128, 8]⟩
abbrev S4x2x32x1x1024 : Shape := ⟨5, ![4, 2, 32, 1, 1024]⟩
abbrev S4x2x4096x128 : Shape := ⟨4, ![4, 2, 4096, 128]⟩
abbrev S4x2x4096 : Shape := ⟨3, ![4, 2, 4096]⟩
abbrev S4x2x4096x1 : Shape := ⟨4, ![4, 2, 4096, 1]⟩
abbrev S1x128x8x128 : Shape := ⟨4, ![1, 128, 8, 128]⟩
abbrev S1x1x1x1x1024 : Shape := ⟨5, ![1, 1, 1, 1, 1024]⟩
abbrev S1x1x1x1024 : Shape := ⟨4, ![1, 1, 1, 1024]⟩
abbrev S1x1x4096x128 : Shape := ⟨4, ![1, 1, 4096, 128]⟩
abbrev S1x1x4096x1 : Shape := ⟨4, ![1, 1, 4096, 1]⟩
abbrev S17x256x1024 : Shape := ⟨3, ![17, 256, 1024]⟩
abbrev S1x1024 : Shape := ⟨2, ![1, 1024]⟩
abbrev S128x1024 : Shape := ⟨2, ![128, 1024]⟩
abbrev S1x1 : Shape := ⟨2, ![1, 1]⟩
abbrev S1x1x256x128 : Shape := ⟨4, ![1, 1, 256, 128]⟩
abbrev S256x128 : Shape := ⟨2, ![256, 128]⟩
abbrev S1x1x256x1 : Shape := ⟨4, ![1, 1, 256, 1]⟩
abbrev S256x1 : Shape := ⟨2, ![256, 1]⟩
abbrev S1x32x8x128 : Shape := ⟨4, ![1, 32, 8, 128]⟩
abbrev S32x8x128 : Shape := ⟨3, ![32, 8, 128]⟩
abbrev S256x256 : Shape := ⟨2, ![256, 256]⟩
abbrev S1x256 : Shape := ⟨2, ![1, 256]⟩
abbrev S1x256x256 : Shape := ⟨3, ![1, 256, 256]⟩
abbrev S256 : Shape := ⟨1, ![256]⟩
abbrev S128x256 : Shape := ⟨2, ![128, 256]⟩
abbrev S1024x128 : Shape := ⟨2, ![1024, 128]⟩
abbrev S128x8x128 : Shape := ⟨3, ![128, 8, 128]⟩

abbrev nBuf : Space → Nat
  | .hbm => 48
  | .vmem => 20
  | .smem => 2
  | _ => 0

abbrev bufTy : (tb : Table) → Fin (tcTables nBuf tb) → BufTy
  | .hbm, ⟨0, _⟩ => ⟨S4x4096x16x128, .fp8e4m3⟩
  | .hbm, ⟨1, _⟩ => ⟨S4x4096x16, .f32⟩
  | .hbm, ⟨2, _⟩ => ⟨S4x4096x2x128, .fp8e4m3⟩
  | .hbm, ⟨3, _⟩ => ⟨S4x4096x2, .f32⟩
  | .hbm, ⟨4, _⟩ => ⟨S4x4096x2x128, .fp8e4m3⟩
  | .hbm, ⟨5, _⟩ => ⟨S4x2, .f32⟩
  | .hbm, ⟨6, _⟩ => ⟨S4x4096, .i32⟩
  | .hbm, ⟨7, _⟩ => ⟨S4096, .i32⟩
  | .hbm, ⟨8, _⟩ => ⟨S_, .i32⟩
  | .hbm, ⟨9, _⟩ => ⟨S1x4096, .i32⟩
  | .hbm, ⟨10, _⟩ => ⟨S1x0x4096, .i32⟩
  | .hbm, ⟨11, _⟩ => ⟨S0x4096, .i32⟩
  | .hbm, ⟨12, _⟩ => ⟨S1x4096, .i32⟩
  | .hbm, ⟨13, _⟩ => ⟨S1x0x4096, .i32⟩
  | .hbm, ⟨14, _⟩ => ⟨S0x4096, .i32⟩
  | .hbm, ⟨15, _⟩ => ⟨S4x4096, .i32⟩
  | .hbm, ⟨16, _⟩ => ⟨S4x1, .i32⟩
  | .hbm, ⟨17, _⟩ => ⟨S4x1x1, .i32⟩
  | .hbm, ⟨18, _⟩ => ⟨S4x1, .i32⟩
  | .hbm, ⟨19, _⟩ => ⟨S4x1, .i32⟩
  | .hbm, ⟨20, _⟩ => ⟨S4x1x0, .i32⟩
  | .hbm, ⟨21, _⟩ => ⟨S4x0, .i32⟩
  | .hbm, ⟨22, _⟩ => ⟨S4x4097, .i32⟩
  | .hbm, ⟨23, _⟩ => ⟨S4x4096, .i32⟩
  | .hbm, ⟨24, _⟩ => ⟨S4x4096, .i1⟩
  | .hbm, ⟨25, _⟩ => ⟨S1x4096, .i32⟩
  | .hbm, ⟨26, _⟩ => ⟨S_, .i32⟩
  | .hbm, ⟨27, _⟩ => ⟨S_, .i32⟩
  | .hbm, ⟨28, _⟩ => ⟨S4x4096, .i32⟩
  | .hbm, ⟨29, _⟩ => ⟨S4x4096, .i32⟩
  | .hbm, ⟨30, _⟩ => ⟨S4x4096, .i32⟩
  | .hbm, ⟨31, _⟩ => ⟨S_, .i32⟩
  | .hbm, ⟨32, _⟩ => ⟨S_, .i32⟩
  | .hbm, ⟨33, _⟩ => ⟨S4x32x1x128, .i32⟩
  | .hbm, ⟨34, _⟩ => ⟨S4x32x1x128x8, .i32⟩
  | .hbm, ⟨35, _⟩ => ⟨S4x32x1x1024, .i32⟩
  | .hbm, ⟨36, _⟩ => ⟨S4x32x128x2x8, .f32⟩
  | .hbm, ⟨37, _⟩ => ⟨S4x2x32x128x8, .f32⟩
  | .hbm, ⟨38, _⟩ => ⟨S4x2x32x1x1024, .f32⟩
  | .hbm, ⟨39, _⟩ => ⟨S4x2x4096x128, .fp8e4m3⟩
  | .hbm, ⟨40, _⟩ => ⟨S4x2x4096x128, .fp8e4m3⟩
  | .hbm, ⟨41, _⟩ => ⟨S4x2x4096, .f32⟩
  | .hbm, ⟨42, _⟩ => ⟨S4x2x4096x1, .f32⟩
  | .hbm, ⟨43, _⟩ => ⟨S4x4096x16x128, .bf16⟩
  | .hbm, ⟨44, _⟩ => ⟨S4x2x32x1x1024, .f32⟩
  | .hbm, ⟨45, _⟩ => ⟨S4x2x32x128x8, .f32⟩
  | .hbm, ⟨46, _⟩ => ⟨S4x32x128x2x8, .f32⟩
  | .hbm, ⟨47, _⟩ => ⟨S4x4096x16, .f32⟩
  | .local _ .vmem, ⟨0, _⟩ => ⟨S1x128x8x128, .fp8e4m3⟩
  | .local _ .vmem, ⟨1, _⟩ => ⟨S1x128x8x128, .fp8e4m3⟩
  | .local _ .vmem, ⟨2, _⟩ => ⟨S1x1x1x1x1024, .f32⟩
  | .local _ .vmem, ⟨3, _⟩ => ⟨S1x1x1x1x1024, .f32⟩
  | .local _ .vmem, ⟨4, _⟩ => ⟨S1x1x1x1024, .i32⟩
  | .local _ .vmem, ⟨5, _⟩ => ⟨S1x1x1x1024, .i32⟩
  | .local _ .vmem, ⟨6, _⟩ => ⟨S1x1x4096x128, .fp8e4m3⟩
  | .local _ .vmem, ⟨7, _⟩ => ⟨S1x1x4096x128, .fp8e4m3⟩
  | .local _ .vmem, ⟨8, _⟩ => ⟨S1x1x4096x1, .f32⟩
  | .local _ .vmem, ⟨9, _⟩ => ⟨S1x1x4096x1, .f32⟩
  | .local _ .vmem, ⟨10, _⟩ => ⟨S1x1x4096x128, .fp8e4m3⟩
  | .local _ .vmem, ⟨11, _⟩ => ⟨S1x1x4096x128, .fp8e4m3⟩
  | .local _ .vmem, ⟨12, _⟩ => ⟨S1x128x8x128, .bf16⟩
  | .local _ .vmem, ⟨13, _⟩ => ⟨S1x128x8x128, .bf16⟩
  | .local _ .vmem, ⟨14, _⟩ => ⟨S1x1x1x1x1024, .f32⟩
  | .local _ .vmem, ⟨15, _⟩ => ⟨S1x1x1x1x1024, .f32⟩
  | .local _ .vmem, ⟨16, _⟩ => ⟨S17x256x1024, .f32⟩
  | .local _ .vmem, ⟨17, _⟩ => ⟨S1x1024, .f32⟩
  | .local _ .vmem, ⟨18, _⟩ => ⟨S1x1024, .f32⟩
  | .local _ .vmem, ⟨19, _⟩ => ⟨S128x1024, .f32⟩
  | .local _ .smem, ⟨0, _⟩ => ⟨S4x4096, .i32⟩
  | .local _ .smem, ⟨1, _⟩ => ⟨S4x2, .f32⟩
  | _, _ => ⟨S4x4096x16x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_c_0 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v5 : Ref sig .tc := ⟨.hbm, 30, rfl⟩
abbrev main_call2_c : Ref sig .tc := ⟨.hbm, 31, rfl⟩
abbrev main_call2_v0 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17_0 : Ref sig .tc := ⟨.hbm, 43, rfl⟩
abbrev main_v17_1 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_stg6_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![4, 2, 32], ![false, false, false]⟩

abbrev pre0 : Pipeline.Prefetch sig := ⟨1, ![main_v6.idx], fun | 0 => main_v6.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v3 : Index := Scalar.indexCast arg0
  let arg2 : BitVec 32 := BitVec.ofNat 32 (i 2).val
  let c128_i32_0 : BitVec 32 := 128#32
  let v2 : BitVec 32 := Scalar.muli arg2 c128_i32_0
  let v4 : Index := Scalar.indexCast v2
  ![v3.toNat, v4.toNat]
@[reducible] def k0_t1_loop (i : grid0.Coords) (v5 : BitVec 32) : Scf.Loop 32 :=
  let c0_i32_34 : BitVec 32 := 0#32
  let arg2 : BitVec 32 := BitVec.ofNat 32 (i 2).val
  let c1_i32 : BitVec 32 := 1#32
  let v0 : BitVec 32 := Scalar.addi arg2 c1_i32
  let c128_i32 : BitVec 32 := 128#32
  let v1 : BitVec 32 := Scalar.muli v0 c128_i32
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c128_i32_1 : BitVec 32 := 128#32
  let c0_i32_3 : BitVec 32 := 0#32
  let v12 : BitVec 1 := Scalar.cmpi .sgt c128_i32_1 c0_i32_3
  let v13 : BitVec 32 := Scalar.extui v12
  let c0_i32_4 : BitVec 32 := 0#32
  let v14 : BitVec 1 := Scalar.cmpi .slt c128_i32_1 c0_i32_4
  let v15 : BitVec 32 := Scalar.extui v14
  let v16 : BitVec 32 := Scalar.subi v13 v15
  let v17 : BitVec 1 := Scalar.cmpi .ne v11 v16
  let v18 : BitVec 32 := Scalar.remsi v5 c128_i32_1
  let c0_i32_5 : BitVec 32 := 0#32
  let v19 : BitVec 1 := Scalar.cmpi .ne v18 c0_i32_5
  let v20 : BitVec 1 := Scalar.andi v17 v19
  let v6 : BitVec 32 := Scalar.divsi v5 c128_i32_1
  let c1_i32_6 : BitVec 32 := 1#32
  let v21 : BitVec 32 := Scalar.subi v6 c1_i32_6
  let v22 : BitVec 32 := Scalar.select v20 v21 v6
  let c128_i32_7 : BitVec 32 := 128#32
  let v23 : BitVec 32 := Scalar.muli v22 c128_i32_7
  let v24 : BitVec 32 := Scalar.subi v1 v23
  let c256_i32 : BitVec 32 := 256#32
  let v25 : BitVec 32 := Scalar.addi v24 c256_i32
  let c1_i32_8 : BitVec 32 := 1#32
  let v26 : BitVec 32 := Scalar.subi v25 c1_i32_8
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c256_i32_9 : BitVec 32 := 256#32
  let c0_i32_12 : BitVec 32 := 0#32
  let v33 : BitVec 1 := Scalar.cmpi .sgt c256_i32_9 c0_i32_12
  let v34 : BitVec 32 := Scalar.extui v33
  let c0_i32_13 : BitVec 32 := 0#32
  let v35 : BitVec 1 := Scalar.cmpi .slt c256_i32_9 c0_i32_13
  let v36 : BitVec 32 := Scalar.extui v35
  let v37 : BitVec 32 := Scalar.subi v34 v36
  let v38 : BitVec 1 := Scalar.cmpi .ne v32 v37
  let v39 : BitVec 32 := Scalar.remsi v26 c256_i32_9
  let c0_i32_14 : BitVec 32 := 0#32
  let v40 : BitVec 1 := Scalar.cmpi .ne v39 c0_i32_14
  let v41 : BitVec 1 := Scalar.andi v38 v40
  let v27 : BitVec 32 := Scalar.divsi v26 c256_i32_9
  let c1_i32_15 : BitVec 32 := 1#32
  let v42 : BitVec 32 := Scalar.subi v27 c1_i32_15
  let v43 : BitVec 32 := Scalar.select v41 v42 v27
  let v86 : BitVec 32 := Scalar.subi v43 c0_i32_34
  let c1_i32_36 : BitVec 32 := 1#32
  let v88 : BitVec 32 := Scalar.divsi v86 c1_i32_36
  let v89 : BitVec 32 := Scalar.muli v88 c1_i32_36
  let v90 : BitVec 32 := Scalar.addi c0_i32_34 v89
  let c1_i32_37 : BitVec 32 := 1#32
  ⟨c0_i32_34, v90, c1_i32_37⟩

def k0_mult1 (i : grid0.Coords) (v5 : BitVec 32) (k0_t1 : Fin (k0_t1_loop i v5).trips) : BitVec 32 :=
  let arg2 : BitVec 32 := BitVec.ofNat 32 (i 2).val
  let c1_i32 : BitVec 32 := 1#32
  let v0 : BitVec 32 := Scalar.addi arg2 c1_i32
  let c128_i32 : BitVec 32 := 128#32
  let v1 : BitVec 32 := Scalar.muli v0 c128_i32
  let c0_i32_34 : BitVec 32 := 0#32
  let c1_i32_37 : BitVec 32 := 1#32
  let arg17 : BitVec 32 := Scf.iv c0_i32_34 c1_i32_37 k0_t1
  let c1_i32_72 : BitVec 32 := 1#32
  let v147 : BitVec 32 := Scalar.addi arg17 c1_i32_72
  let c256_i32_73 : BitVec 32 := 256#32
  let v148 : BitVec 32 := Scalar.muli v147 c256_i32_73
  let v149 : BitVec 32 := Scalar.subi v1 v148
  let c0_i32_74 : BitVec 32 := 0#32
  let v150 : BitVec 32 := Scalar.maxsi v149 c0_i32_74
  v150
def k0_off2 (i : grid0.Coords) (v5 : BitVec 32) (k0_t1 : Fin (k0_t1_loop i v5).trips) : Fin 4 → Nat :=
  let c0_76 : Index := 0#32
  let c0_77 : Index := 0#32
  let arg2 : BitVec 32 := BitVec.ofNat 32 (i 2).val
  let c1_i32 : BitVec 32 := 1#32
  let v0 : BitVec 32 := Scalar.addi arg2 c1_i32
  let c128_i32 : BitVec 32 := 128#32
  let v1 : BitVec 32 := Scalar.muli v0 c128_i32
  let c0_i32_34 : BitVec 32 := 0#32
  let c1_i32_37 : BitVec 32 := 1#32
  let arg17 : BitVec 32 := Scf.iv c0_i32_34 c1_i32_37 k0_t1
  let c1_i32_72 : BitVec 32 := 1#32
  let v147 : BitVec 32 := Scalar.addi arg17 c1_i32_72
  let c256_i32_73 : BitVec 32 := 256#32
  let v148 : BitVec 32 := Scalar.muli v147 c256_i32_73
  let v149 : BitVec 32 := Scalar.subi v1 v148
  let c0_i32_74 : BitVec 32 := 0#32
  let v150 : BitVec 32 := Scalar.maxsi v149 c0_i32_74
  let v151 : BitVec 32 := v150
  let v154 : Index := Scalar.indexCast v151
  let c0_78 : Index := 0#32
  ![0, 0, v154.toNat, 0]
def k0_off3 (i : grid0.Coords) (v5 : BitVec 32) (k0_t1 : Fin (k0_t1_loop i v5).trips) : Fin 4 → Nat :=
  let c0_79 : Index := 0#32
  let c0_80 : Index := 0#32
  let arg2 : BitVec 32 := BitVec.ofNat 32 (i 2).val
  let c1_i32 : BitVec 32 := 1#32
  let v0 : BitVec 32 := Scalar.addi arg2 c1_i32
  let c128_i32 : BitVec 32 := 128#32
  let v1 : BitVec 32 := Scalar.muli v0 c128_i32
  let c0_i32_34 : BitVec 32 := 0#32
  let c1_i32_37 : BitVec 32 := 1#32
  let arg17 : BitVec 32 := Scf.iv c0_i32_34 c1_i32_37 k0_t1
  let c1_i32_72 : BitVec 32 := 1#32
  let v147 : BitVec 32 := Scalar.addi arg17 c1_i32_72
  let c256_i32_73 : BitVec 32 := 256#32
  let v148 : BitVec 32 := Scalar.muli v147 c256_i32_73
  let v149 : BitVec 32 := Scalar.subi v1 v148
  let c0_i32_74 : BitVec 32 := 0#32
  let v150 : BitVec 32 := Scalar.maxsi v149 c0_i32_74
  let v151 : BitVec 32 := v150
  let v157 : Index := Scalar.indexCast v151
  let c0_81 : Index := 0#32
  ![0, 0, v157.toNat, 0]
def k0_off4 (i : grid0.Coords) (v5 : BitVec 32) (k0_t1 : Fin (k0_t1_loop i v5).trips) : Fin 3 → Nat :=
  let c0_i32_34 : BitVec 32 := 0#32
  let c1_i32_37 : BitVec 32 := 1#32
  let arg17 : BitVec 32 := Scf.iv c0_i32_34 c1_i32_37 k0_t1
  let v184 : Index := Scalar.indexCast arg17
  let c0_88 : Index := 0#32
  let c0_89 : Index := 0#32
  ![v184.toNat, 0, 0]
def k0_off5 (i : grid0.Coords) (v5 : BitVec 32) (k0_t1 : Fin (k0_t1_loop i v5).trips) : Fin 3 → Nat :=
  let c0_i32_34 : BitVec 32 := 0#32
  let c1_i32_37 : BitVec 32 := 1#32
  let arg17 : BitVec 32 := Scf.iv c0_i32_34 c1_i32_37 k0_t1
  let v216 : Index := Scalar.indexCast arg17
  let c0_100 : Index := 0#32
  let c256 : Index := 256#32
  ![v216.toNat, 0, 256]
def k0_off6 (i : grid0.Coords) (v5 : BitVec 32) (k0_t1 : Fin (k0_t1_loop i v5).trips) : Fin 3 → Nat :=
  let c0_i32_34 : BitVec 32 := 0#32
  let c1_i32_37 : BitVec 32 := 1#32
  let arg17 : BitVec 32 := Scf.iv c0_i32_34 c1_i32_37 k0_t1
  let v248 : Index := Scalar.indexCast arg17
  let c0_111 : Index := 0#32
  let c512 : Index := 512#32
  ![v248.toNat, 0, 512]
def k0_off7 (i : grid0.Coords) (v5 : BitVec 32) (k0_t1 : Fin (k0_t1_loop i v5).trips) : Fin 3 → Nat :=
  let c0_i32_34 : BitVec 32 := 0#32
  let c1_i32_37 : BitVec 32 := 1#32
  let arg17 : BitVec 32 := Scf.iv c0_i32_34 c1_i32_37 k0_t1
  let v280 : Index := Scalar.indexCast arg17
  let c0_122 : Index := 0#32
  let c768 : Index := 768#32
  ![v280.toNat, 0, 768]
@[reducible] def k0_t2_loop (i : grid0.Coords) (v5 : BitVec 32) : Scf.Loop 32 :=
  let c0_i32_34 : BitVec 32 := 0#32
  let arg2 : BitVec 32 := BitVec.ofNat 32 (i 2).val
  let c1_i32 : BitVec 32 := 1#32
  let v0 : BitVec 32 := Scalar.addi arg2 c1_i32
  let c128_i32 : BitVec 32 := 128#32
  let v1 : BitVec 32 := Scalar.muli v0 c128_i32
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c128_i32_1 : BitVec 32 := 128#32
  let c0_i32_3 : BitVec 32 := 0#32
  let v12 : BitVec 1 := Scalar.cmpi .sgt c128_i32_1 c0_i32_3
  let v13 : BitVec 32 := Scalar.extui v12
  let c0_i32_4 : BitVec 32 := 0#32
  let v14 : BitVec 1 := Scalar.cmpi .slt c128_i32_1 c0_i32_4
  let v15 : BitVec 32 := Scalar.extui v14
  let v16 : BitVec 32 := Scalar.subi v13 v15
  let v17 : BitVec 1 := Scalar.cmpi .ne v11 v16
  let v18 : BitVec 32 := Scalar.remsi v5 c128_i32_1
  let c0_i32_5 : BitVec 32 := 0#32
  let v19 : BitVec 1 := Scalar.cmpi .ne v18 c0_i32_5
  let v20 : BitVec 1 := Scalar.andi v17 v19
  let v6 : BitVec 32 := Scalar.divsi v5 c128_i32_1
  let c1_i32_6 : BitVec 32 := 1#32
  let v21 : BitVec 32 := Scalar.subi v6 c1_i32_6
  let v22 : BitVec 32 := Scalar.select v20 v21 v6
  let c128_i32_7 : BitVec 32 := 128#32
  let v23 : BitVec 32 := Scalar.muli v22 c128_i32_7
  let v24 : BitVec 32 := Scalar.subi v1 v23
  let c256_i32 : BitVec 32 := 256#32
  let v25 : BitVec 32 := Scalar.addi v24 c256_i32
  let c1_i32_8 : BitVec 32 := 1#32
  let v26 : BitVec 32 := Scalar.subi v25 c1_i32_8
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c256_i32_9 : BitVec 32 := 256#32
  let c0_i32_12 : BitVec 32 := 0#32
  let v33 : BitVec 1 := Scalar.cmpi .sgt c256_i32_9 c0_i32_12
  let v34 : BitVec 32 := Scalar.extui v33
  let c0_i32_13 : BitVec 32 := 0#32
  let v35 : BitVec 1 := Scalar.cmpi .slt c256_i32_9 c0_i32_13
  let v36 : BitVec 32 := Scalar.extui v35
  let v37 : BitVec 32 := Scalar.subi v34 v36
  let v38 : BitVec 1 := Scalar.cmpi .ne v32 v37
  let v39 : BitVec 32 := Scalar.remsi v26 c256_i32_9
  let c0_i32_14 : BitVec 32 := 0#32
  let v40 : BitVec 1 := Scalar.cmpi .ne v39 c0_i32_14
  let v41 : BitVec 1 := Scalar.andi v38 v40
  let v27 : BitVec 32 := Scalar.divsi v26 c256_i32_9
  let c1_i32_15 : BitVec 32 := 1#32
  let v42 : BitVec 32 := Scalar.subi v27 c1_i32_15
  let v43 : BitVec 32 := Scalar.select v41 v42 v27
  let v86 : BitVec 32 := Scalar.subi v43 c0_i32_34
  let c1_i32_36 : BitVec 32 := 1#32
  let v88 : BitVec 32 := Scalar.divsi v86 c1_i32_36
  let v89 : BitVec 32 := Scalar.muli v88 c1_i32_36
  let v90 : BitVec 32 := Scalar.addi c0_i32_34 v89
  let v87 : BitVec 32 := Scalar.addi c0_i32_34 v86
  let c1_i32_38 : BitVec 32 := 1#32
  ⟨v90, v87, c1_i32_38⟩
def k0_mult2 (i : grid0.Coords) (v5 : BitVec 32) (k0_t2 : Fin (k0_t2_loop i v5).trips) : BitVec 32 :=
  let arg2 : BitVec 32 := BitVec.ofNat 32 (i 2).val
  let c1_i32 : BitVec 32 := 1#32
  let v0 : BitVec 32 := Scalar.addi arg2 c1_i32
  let c128_i32 : BitVec 32 := 128#32
  let v1 : BitVec 32 := Scalar.muli v0 c128_i32
  let c0_i32_34 : BitVec 32 := 0#32
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c128_i32_1 : BitVec 32 := 128#32
  let c0_i32_3 : BitVec 32 := 0#32
  let v12 : BitVec 1 := Scalar.cmpi .sgt c128_i32_1 c0_i32_3
  let v13 : BitVec 32 := Scalar.extui v12
  let c0_i32_4 : BitVec 32 := 0#32
  let v14 : BitVec 1 := Scalar.cmpi .slt c128_i32_1 c0_i32_4
  let v15 : BitVec 32 := Scalar.extui v14
  let v16 : BitVec 32 := Scalar.subi v13 v15
  let v17 : BitVec 1 := Scalar.cmpi .ne v11 v16
  let v18 : BitVec 32 := Scalar.remsi v5 c128_i32_1
  let c0_i32_5 : BitVec 32 := 0#32
  let v19 : BitVec 1 := Scalar.cmpi .ne v18 c0_i32_5
  let v20 : BitVec 1 := Scalar.andi v17 v19
  let v6 : BitVec 32 := Scalar.divsi v5 c128_i32_1
  let c1_i32_6 : BitVec 32 := 1#32
  let v21 : BitVec 32 := Scalar.subi v6 c1_i32_6
  let v22 : BitVec 32 := Scalar.select v20 v21 v6
  let c128_i32_7 : BitVec 32 := 128#32
  let v23 : BitVec 32 := Scalar.muli v22 c128_i32_7
  let v24 : BitVec 32 := Scalar.subi v1 v23
  let c256_i32 : BitVec 32 := 256#32
  let v25 : BitVec 32 := Scalar.addi v24 c256_i32
  let c1_i32_8 : BitVec 32 := 1#32
  let v26 : BitVec 32 := Scalar.subi v25 c1_i32_8
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c256_i32_9 : BitVec 32 := 256#32
  let c0_i32_12 : BitVec 32 := 0#32
  let v33 : BitVec 1 := Scalar.cmpi .sgt c256_i32_9 c0_i32_12
  let v34 : BitVec 32 := Scalar.extui v33
  let c0_i32_13 : BitVec 32 := 0#32
  let v35 : BitVec 1 := Scalar.cmpi .slt c256_i32_9 c0_i32_13
  let v36 : BitVec 32 := Scalar.extui v35
  let v37 : BitVec 32 := Scalar.subi v34 v36
  let v38 : BitVec 1 := Scalar.cmpi .ne v32 v37
  let v39 : BitVec 32 := Scalar.remsi v26 c256_i32_9
  let c0_i32_14 : BitVec 32 := 0#32
  let v40 : BitVec 1 := Scalar.cmpi .ne v39 c0_i32_14
  let v41 : BitVec 1 := Scalar.andi v38 v40
  let v27 : BitVec 32 := Scalar.divsi v26 c256_i32_9
  let c1_i32_15 : BitVec 32 := 1#32
  let v42 : BitVec 32 := Scalar.subi v27 c1_i32_15
  let v43 : BitVec 32 := Scalar.select v41 v42 v27
  let v86 : BitVec 32 := Scalar.subi v43 c0_i32_34
  let c1_i32_36 : BitVec 32 := 1#32
  let v88 : BitVec 32 := Scalar.divsi v86 c1_i32_36
  let v89 : BitVec 32 := Scalar.muli v88 c1_i32_36
  let v90 : BitVec 32 := Scalar.addi c0_i32_34 v89
  let c1_i32_38 : BitVec 32 := 1#32
  let arg17 : BitVec 32 := Scf.iv v90 c1_i32_38 k0_t2
  let c1_i32_72 : BitVec 32 := 1#32
  let v147 : BitVec 32 := Scalar.addi arg17 c1_i32_72
  let c256_i32_73 : BitVec 32 := 256#32
  let v148 : BitVec 32 := Scalar.muli v147 c256_i32_73
  let v149 : BitVec 32 := Scalar.subi v1 v148
  let c0_i32_74 : BitVec 32 := 0#32
  let v150 : BitVec 32 := Scalar.maxsi v149 c0_i32_74
  v150
def k0_off8 (i : grid0.Coords) (v5 : BitVec 32) (k0_t2 : Fin (k0_t2_loop i v5).trips) : Fin 4 → Nat :=
  let c0_76 : Index := 0#32
  let c0_77 : Index := 0#32
  let arg2 : BitVec 32 := BitVec.ofNat 32 (i 2).val
  let c1_i32 : BitVec 32 := 1#32
  let v0 : BitVec 32 := Scalar.addi arg2 c1_i32
  let c128_i32 : BitVec 32 := 128#32
  let v1 : BitVec 32 := Scalar.muli v0 c128_i32
  let c0_i32_34 : BitVec 32 := 0#32
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c128_i32_1 : BitVec 32 := 128#32
  let c0_i32_3 : BitVec 32 := 0#32
  let v12 : BitVec 1 := Scalar.cmpi .sgt c128_i32_1 c0_i32_3
  let v13 : BitVec 32 := Scalar.extui v12
  let c0_i32_4 : BitVec 32 := 0#32
  let v14 : BitVec 1 := Scalar.cmpi .slt c128_i32_1 c0_i32_4
  let v15 : BitVec 32 := Scalar.extui v14
  let v16 : BitVec 32 := Scalar.subi v13 v15
  let v17 : BitVec 1 := Scalar.cmpi .ne v11 v16
  let v18 : BitVec 32 := Scalar.remsi v5 c128_i32_1
  let c0_i32_5 : BitVec 32 := 0#32
  let v19 : BitVec 1 := Scalar.cmpi .ne v18 c0_i32_5
  let v20 : BitVec 1 := Scalar.andi v17 v19
  let v6 : BitVec 32 := Scalar.divsi v5 c128_i32_1
  let c1_i32_6 : BitVec 32 := 1#32
  let v21 : BitVec 32 := Scalar.subi v6 c1_i32_6
  let v22 : BitVec 32 := Scalar.select v20 v21 v6
  let c128_i32_7 : BitVec 32 := 128#32
  let v23 : BitVec 32 := Scalar.muli v22 c128_i32_7
  let v24 : BitVec 32 := Scalar.subi v1 v23
  let c256_i32 : BitVec 32 := 256#32
  let v25 : BitVec 32 := Scalar.addi v24 c256_i32
  let c1_i32_8 : BitVec 32 := 1#32
  let v26 : BitVec 32 := Scalar.subi v25 c1_i32_8
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c256_i32_9 : BitVec 32 := 256#32
  let c0_i32_12 : BitVec 32 := 0#32
  let v33 : BitVec 1 := Scalar.cmpi .sgt c256_i32_9 c0_i32_12
  let v34 : BitVec 32 := Scalar.extui v33
  let c0_i32_13 : BitVec 32 := 0#32
  let v35 : BitVec 1 := Scalar.cmpi .slt c256_i32_9 c0_i32_13
  let v36 : BitVec 32 := Scalar.extui v35
  let v37 : BitVec 32 := Scalar.subi v34 v36
  let v38 : BitVec 1 := Scalar.cmpi .ne v32 v37
  let v39 : BitVec 32 := Scalar.remsi v26 c256_i32_9
  let c0_i32_14 : BitVec 32 := 0#32
  let v40 : BitVec 1 := Scalar.cmpi .ne v39 c0_i32_14
  let v41 : BitVec 1 := Scalar.andi v38 v40
  let v27 : BitVec 32 := Scalar.divsi v26 c256_i32_9
  let c1_i32_15 : BitVec 32 := 1#32
  let v42 : BitVec 32 := Scalar.subi v27 c1_i32_15
  let v43 : BitVec 32 := Scalar.select v41 v42 v27
  let v86 : BitVec 32 := Scalar.subi v43 c0_i32_34
  let c1_i32_36 : BitVec 32 := 1#32
  let v88 : BitVec 32 := Scalar.divsi v86 c1_i32_36
  let v89 : BitVec 32 := Scalar.muli v88 c1_i32_36
  let v90 : BitVec 32 := Scalar.addi c0_i32_34 v89
  let c1_i32_38 : BitVec 32 := 1#32
  let arg17 : BitVec 32 := Scf.iv v90 c1_i32_38 k0_t2
  let c1_i32_72 : BitVec 32 := 1#32
  let v147 : BitVec 32 := Scalar.addi arg17 c1_i32_72
  let c256_i32_73 : BitVec 32 := 256#32
  let v148 : BitVec 32 := Scalar.muli v147 c256_i32_73
  let v149 : BitVec 32 := Scalar.subi v1 v148
  let c0_i32_74 : BitVec 32 := 0#32
  let v150 : BitVec 32 := Scalar.maxsi v149 c0_i32_74
  let v151 : BitVec 32 := v150
  let v154 : Index := Scalar.indexCast v151
  let c0_78 : Index := 0#32
  ![0, 0, v154.toNat, 0]
def k0_off9 (i : grid0.Coords) (v5 : BitVec 32) (k0_t2 : Fin (k0_t2_loop i v5).trips) : Fin 4 → Nat :=
  let c0_79 : Index := 0#32
  let c0_80 : Index := 0#32
  let arg2 : BitVec 32 := BitVec.ofNat 32 (i 2).val
  let c1_i32 : BitVec 32 := 1#32
  let v0 : BitVec 32 := Scalar.addi arg2 c1_i32
  let c128_i32 : BitVec 32 := 128#32
  let v1 : BitVec 32 := Scalar.muli v0 c128_i32
  let c0_i32_34 : BitVec 32 := 0#32
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c128_i32_1 : BitVec 32 := 128#32
  let c0_i32_3 : BitVec 32 := 0#32
  let v12 : BitVec 1 := Scalar.cmpi .sgt c128_i32_1 c0_i32_3
  let v13 : BitVec 32 := Scalar.extui v12
  let c0_i32_4 : BitVec 32 := 0#32
  let v14 : BitVec 1 := Scalar.cmpi .slt c128_i32_1 c0_i32_4
  let v15 : BitVec 32 := Scalar.extui v14
  let v16 : BitVec 32 := Scalar.subi v13 v15
  let v17 : BitVec 1 := Scalar.cmpi .ne v11 v16
  let v18 : BitVec 32 := Scalar.remsi v5 c128_i32_1
  let c0_i32_5 : BitVec 32 := 0#32
  let v19 : BitVec 1 := Scalar.cmpi .ne v18 c0_i32_5
  let v20 : BitVec 1 := Scalar.andi v17 v19
  let v6 : BitVec 32 := Scalar.divsi v5 c128_i32_1
  let c1_i32_6 : BitVec 32 := 1#32
  let v21 : BitVec 32 := Scalar.subi v6 c1_i32_6
  let v22 : BitVec 32 := Scalar.select v20 v21 v6
  let c128_i32_7 : BitVec 32 := 128#32
  let v23 : BitVec 32 := Scalar.muli v22 c128_i32_7
  let v24 : BitVec 32 := Scalar.subi v1 v23
  let c256_i32 : BitVec 32 := 256#32
  let v25 : BitVec 32 := Scalar.addi v24 c256_i32
  let c1_i32_8 : BitVec 32 := 1#32
  let v26 : BitVec 32 := Scalar.subi v25 c1_i32_8
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c256_i32_9 : BitVec 32 := 256#32
  let c0_i32_12 : BitVec 32 := 0#32
  let v33 : BitVec 1 := Scalar.cmpi .sgt c256_i32_9 c0_i32_12
  let v34 : BitVec 32 := Scalar.extui v33
  let c0_i32_13 : BitVec 32 := 0#32
  let v35 : BitVec 1 := Scalar.cmpi .slt c256_i32_9 c0_i32_13
  let v36 : BitVec 32 := Scalar.extui v35
  let v37 : BitVec 32 := Scalar.subi v34 v36
  let v38 : BitVec 1 := Scalar.cmpi .ne v32 v37
  let v39 : BitVec 32 := Scalar.remsi v26 c256_i32_9
  let c0_i32_14 : BitVec 32 := 0#32
  let v40 : BitVec 1 := Scalar.cmpi .ne v39 c0_i32_14
  let v41 : BitVec 1 := Scalar.andi v38 v40
  let v27 : BitVec 32 := Scalar.divsi v26 c256_i32_9
  let c1_i32_15 : BitVec 32 := 1#32
  let v42 : BitVec 32 := Scalar.subi v27 c1_i32_15
  let v43 : BitVec 32 := Scalar.select v41 v42 v27
  let v86 : BitVec 32 := Scalar.subi v43 c0_i32_34
  let c1_i32_36 : BitVec 32 := 1#32
  let v88 : BitVec 32 := Scalar.divsi v86 c1_i32_36
  let v89 : BitVec 32 := Scalar.muli v88 c1_i32_36
  let v90 : BitVec 32 := Scalar.addi c0_i32_34 v89
  let c1_i32_38 : BitVec 32 := 1#32
  let arg17 : BitVec 32 := Scf.iv v90 c1_i32_38 k0_t2
  let c1_i32_72 : BitVec 32 := 1#32
  let v147 : BitVec 32 := Scalar.addi arg17 c1_i32_72
  let c256_i32_73 : BitVec 32 := 256#32
  let v148 : BitVec 32 := Scalar.muli v147 c256_i32_73
  let v149 : BitVec 32 := Scalar.subi v1 v148
  let c0_i32_74 : BitVec 32 := 0#32
  let v150 : BitVec 32 := Scalar.maxsi v149 c0_i32_74
  let v151 : BitVec 32 := v150
  let v157 : Index := Scalar.indexCast v151
  let c0_81 : Index := 0#32
  ![0, 0, v157.toNat, 0]
def k0_off10 (i : grid0.Coords) (v5 : BitVec 32) (k0_t2 : Fin (k0_t2_loop i v5).trips) : Fin 3 → Nat :=
  let c0_i32_34 : BitVec 32 := 0#32
  let arg2 : BitVec 32 := BitVec.ofNat 32 (i 2).val
  let c1_i32 : BitVec 32 := 1#32
  let v0 : BitVec 32 := Scalar.addi arg2 c1_i32
  let c128_i32 : BitVec 32 := 128#32
  let v1 : BitVec 32 := Scalar.muli v0 c128_i32
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c128_i32_1 : BitVec 32 := 128#32
  let c0_i32_3 : BitVec 32 := 0#32
  let v12 : BitVec 1 := Scalar.cmpi .sgt c128_i32_1 c0_i32_3
  let v13 : BitVec 32 := Scalar.extui v12
  let c0_i32_4 : BitVec 32 := 0#32
  let v14 : BitVec 1 := Scalar.cmpi .slt c128_i32_1 c0_i32_4
  let v15 : BitVec 32 := Scalar.extui v14
  let v16 : BitVec 32 := Scalar.subi v13 v15
  let v17 : BitVec 1 := Scalar.cmpi .ne v11 v16
  let v18 : BitVec 32 := Scalar.remsi v5 c128_i32_1
  let c0_i32_5 : BitVec 32 := 0#32
  let v19 : BitVec 1 := Scalar.cmpi .ne v18 c0_i32_5
  let v20 : BitVec 1 := Scalar.andi v17 v19
  let v6 : BitVec 32 := Scalar.divsi v5 c128_i32_1
  let c1_i32_6 : BitVec 32 := 1#32
  let v21 : BitVec 32 := Scalar.subi v6 c1_i32_6
  let v22 : BitVec 32 := Scalar.select v20 v21 v6
  let c128_i32_7 : BitVec 32 := 128#32
  let v23 : BitVec 32 := Scalar.muli v22 c128_i32_7
  let v24 : BitVec 32 := Scalar.subi v1 v23
  let c256_i32 : BitVec 32 := 256#32
  let v25 : BitVec 32 := Scalar.addi v24 c256_i32
  let c1_i32_8 : BitVec 32 := 1#32
  let v26 : BitVec 32 := Scalar.subi v25 c1_i32_8
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c256_i32_9 : BitVec 32 := 256#32
  let c0_i32_12 : BitVec 32 := 0#32
  let v33 : BitVec 1 := Scalar.cmpi .sgt c256_i32_9 c0_i32_12
  let v34 : BitVec 32 := Scalar.extui v33
  let c0_i32_13 : BitVec 32 := 0#32
  let v35 : BitVec 1 := Scalar.cmpi .slt c256_i32_9 c0_i32_13
  let v36 : BitVec 32 := Scalar.extui v35
  let v37 : BitVec 32 := Scalar.subi v34 v36
  let v38 : BitVec 1 := Scalar.cmpi .ne v32 v37
  let v39 : BitVec 32 := Scalar.remsi v26 c256_i32_9
  let c0_i32_14 : BitVec 32 := 0#32
  let v40 : BitVec 1 := Scalar.cmpi .ne v39 c0_i32_14
  let v41 : BitVec 1 := Scalar.andi v38 v40
  let v27 : BitVec 32 := Scalar.divsi v26 c256_i32_9
  let c1_i32_15 : BitVec 32 := 1#32
  let v42 : BitVec 32 := Scalar.subi v27 c1_i32_15
  let v43 : BitVec 32 := Scalar.select v41 v42 v27
  let v86 : BitVec 32 := Scalar.subi v43 c0_i32_34
  let c1_i32_36 : BitVec 32 := 1#32
  let v88 : BitVec 32 := Scalar.divsi v86 c1_i32_36
  let v89 : BitVec 32 := Scalar.muli v88 c1_i32_36
  let v90 : BitVec 32 := Scalar.addi c0_i32_34 v89
  let c1_i32_38 : BitVec 32 := 1#32
  let arg17 : BitVec 32 := Scf.iv v90 c1_i32_38 k0_t2
  let v184 : Index := Scalar.indexCast arg17
  let c0_88 : Index := 0#32
  let c0_89 : Index := 0#32
  ![v184.toNat, 0, 0]
def k0_off11 (i : grid0.Coords) (v5 : BitVec 32) (k0_t2 : Fin (k0_t2_loop i v5).trips) : Fin 3 → Nat :=
  let c0_i32_34 : BitVec 32 := 0#32
  let arg2 : BitVec 32 := BitVec.ofNat 32 (i 2).val
  let c1_i32 : BitVec 32 := 1#32
  let v0 : BitVec 32 := Scalar.addi arg2 c1_i32
  let c128_i32 : BitVec 32 := 128#32
  let v1 : BitVec 32 := Scalar.muli v0 c128_i32
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c128_i32_1 : BitVec 32 := 128#32
  let c0_i32_3 : BitVec 32 := 0#32
  let v12 : BitVec 1 := Scalar.cmpi .sgt c128_i32_1 c0_i32_3
  let v13 : BitVec 32 := Scalar.extui v12
  let c0_i32_4 : BitVec 32 := 0#32
  let v14 : BitVec 1 := Scalar.cmpi .slt c128_i32_1 c0_i32_4
  let v15 : BitVec 32 := Scalar.extui v14
  let v16 : BitVec 32 := Scalar.subi v13 v15
  let v17 : BitVec 1 := Scalar.cmpi .ne v11 v16
  let v18 : BitVec 32 := Scalar.remsi v5 c128_i32_1
  let c0_i32_5 : BitVec 32 := 0#32
  let v19 : BitVec 1 := Scalar.cmpi .ne v18 c0_i32_5
  let v20 : BitVec 1 := Scalar.andi v17 v19
  let v6 : BitVec 32 := Scalar.divsi v5 c128_i32_1
  let c1_i32_6 : BitVec 32 := 1#32
  let v21 : BitVec 32 := Scalar.subi v6 c1_i32_6
  let v22 : BitVec 32 := Scalar.select v20 v21 v6
  let c128_i32_7 : BitVec 32 := 128#32
  let v23 : BitVec 32 := Scalar.muli v22 c128_i32_7
  let v24 : BitVec 32 := Scalar.subi v1 v23
  let c256_i32 : BitVec 32 := 256#32
  let v25 : BitVec 32 := Scalar.addi v24 c256_i32
  let c1_i32_8 : BitVec 32 := 1#32
  let v26 : BitVec 32 := Scalar.subi v25 c1_i32_8
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c256_i32_9 : BitVec 32 := 256#32
  let c0_i32_12 : BitVec 32 := 0#32
  let v33 : BitVec 1 := Scalar.cmpi .sgt c256_i32_9 c0_i32_12
  let v34 : BitVec 32 := Scalar.extui v33
  let c0_i32_13 : BitVec 32 := 0#32
  let v35 : BitVec 1 := Scalar.cmpi .slt c256_i32_9 c0_i32_13
  let v36 : BitVec 32 := Scalar.extui v35
  let v37 : BitVec 32 := Scalar.subi v34 v36
  let v38 : BitVec 1 := Scalar.cmpi .ne v32 v37
  let v39 : BitVec 32 := Scalar.remsi v26 c256_i32_9
  let c0_i32_14 : BitVec 32 := 0#32
  let v40 : BitVec 1 := Scalar.cmpi .ne v39 c0_i32_14
  let v41 : BitVec 1 := Scalar.andi v38 v40
  let v27 : BitVec 32 := Scalar.divsi v26 c256_i32_9
  let c1_i32_15 : BitVec 32 := 1#32
  let v42 : BitVec 32 := Scalar.subi v27 c1_i32_15
  let v43 : BitVec 32 := Scalar.select v41 v42 v27
  let v86 : BitVec 32 := Scalar.subi v43 c0_i32_34
  let c1_i32_36 : BitVec 32 := 1#32
  let v88 : BitVec 32 := Scalar.divsi v86 c1_i32_36
  let v89 : BitVec 32 := Scalar.muli v88 c1_i32_36
  let v90 : BitVec 32 := Scalar.addi c0_i32_34 v89
  let c1_i32_38 : BitVec 32 := 1#32
  let arg17 : BitVec 32 := Scf.iv v90 c1_i32_38 k0_t2
  let v216 : Index := Scalar.indexCast arg17
  let c0_100 : Index := 0#32
  let c256 : Index := 256#32
  ![v216.toNat, 0, 256]
def k0_off12 (i : grid0.Coords) (v5 : BitVec 32) (k0_t2 : Fin (k0_t2_loop i v5).trips) : Fin 3 → Nat :=
  let c0_i32_34 : BitVec 32 := 0#32
  let arg2 : BitVec 32 := BitVec.ofNat 32 (i 2).val
  let c1_i32 : BitVec 32 := 1#32
  let v0 : BitVec 32 := Scalar.addi arg2 c1_i32
  let c128_i32 : BitVec 32 := 128#32
  let v1 : BitVec 32 := Scalar.muli v0 c128_i32
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c128_i32_1 : BitVec 32 := 128#32
  let c0_i32_3 : BitVec 32 := 0#32
  let v12 : BitVec 1 := Scalar.cmpi .sgt c128_i32_1 c0_i32_3
  let v13 : BitVec 32 := Scalar.extui v12
  let c0_i32_4 : BitVec 32 := 0#32
  let v14 : BitVec 1 := Scalar.cmpi .slt c128_i32_1 c0_i32_4
  let v15 : BitVec 32 := Scalar.extui v14
  let v16 : BitVec 32 := Scalar.subi v13 v15
  let v17 : BitVec 1 := Scalar.cmpi .ne v11 v16
  let v18 : BitVec 32 := Scalar.remsi v5 c128_i32_1
  let c0_i32_5 : BitVec 32 := 0#32
  let v19 : BitVec 1 := Scalar.cmpi .ne v18 c0_i32_5
  let v20 : BitVec 1 := Scalar.andi v17 v19
  let v6 : BitVec 32 := Scalar.divsi v5 c128_i32_1
  let c1_i32_6 : BitVec 32 := 1#32
  let v21 : BitVec 32 := Scalar.subi v6 c1_i32_6
  let v22 : BitVec 32 := Scalar.select v20 v21 v6
  let c128_i32_7 : BitVec 32 := 128#32
  let v23 : BitVec 32 := Scalar.muli v22 c128_i32_7
  let v24 : BitVec 32 := Scalar.subi v1 v23
  let c256_i32 : BitVec 32 := 256#32
  let v25 : BitVec 32 := Scalar.addi v24 c256_i32
  let c1_i32_8 : BitVec 32 := 1#32
  let v26 : BitVec 32 := Scalar.subi v25 c1_i32_8
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c256_i32_9 : BitVec 32 := 256#32
  let c0_i32_12 : BitVec 32 := 0#32
  let v33 : BitVec 1 := Scalar.cmpi .sgt c256_i32_9 c0_i32_12
  let v34 : BitVec 32 := Scalar.extui v33
  let c0_i32_13 : BitVec 32 := 0#32
  let v35 : BitVec 1 := Scalar.cmpi .slt c256_i32_9 c0_i32_13
  let v36 : BitVec 32 := Scalar.extui v35
  let v37 : BitVec 32 := Scalar.subi v34 v36
  let v38 : BitVec 1 := Scalar.cmpi .ne v32 v37
  let v39 : BitVec 32 := Scalar.remsi v26 c256_i32_9
  let c0_i32_14 : BitVec 32 := 0#32
  let v40 : BitVec 1 := Scalar.cmpi .ne v39 c0_i32_14
  let v41 : BitVec 1 := Scalar.andi v38 v40
  let v27 : BitVec 32 := Scalar.divsi v26 c256_i32_9
  let c1_i32_15 : BitVec 32 := 1#32
  let v42 : BitVec 32 := Scalar.subi v27 c1_i32_15
  let v43 : BitVec 32 := Scalar.select v41 v42 v27
  let v86 : BitVec 32 := Scalar.subi v43 c0_i32_34
  let c1_i32_36 : BitVec 32 := 1#32
  let v88 : BitVec 32 := Scalar.divsi v86 c1_i32_36
  let v89 : BitVec 32 := Scalar.muli v88 c1_i32_36
  let v90 : BitVec 32 := Scalar.addi c0_i32_34 v89
  let c1_i32_38 : BitVec 32 := 1#32
  let arg17 : BitVec 32 := Scf.iv v90 c1_i32_38 k0_t2
  let v248 : Index := Scalar.indexCast arg17
  let c0_111 : Index := 0#32
  let c512 : Index := 512#32
  ![v248.toNat, 0, 512]
def k0_off13 (i : grid0.Coords) (v5 : BitVec 32) (k0_t2 : Fin (k0_t2_loop i v5).trips) : Fin 3 → Nat :=
  let c0_i32_34 : BitVec 32 := 0#32
  let arg2 : BitVec 32 := BitVec.ofNat 32 (i 2).val
  let c1_i32 : BitVec 32 := 1#32
  let v0 : BitVec 32 := Scalar.addi arg2 c1_i32
  let c128_i32 : BitVec 32 := 128#32
  let v1 : BitVec 32 := Scalar.muli v0 c128_i32
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c128_i32_1 : BitVec 32 := 128#32
  let c0_i32_3 : BitVec 32 := 0#32
  let v12 : BitVec 1 := Scalar.cmpi .sgt c128_i32_1 c0_i32_3
  let v13 : BitVec 32 := Scalar.extui v12
  let c0_i32_4 : BitVec 32 := 0#32
  let v14 : BitVec 1 := Scalar.cmpi .slt c128_i32_1 c0_i32_4
  let v15 : BitVec 32 := Scalar.extui v14
  let v16 : BitVec 32 := Scalar.subi v13 v15
  let v17 : BitVec 1 := Scalar.cmpi .ne v11 v16
  let v18 : BitVec 32 := Scalar.remsi v5 c128_i32_1
  let c0_i32_5 : BitVec 32 := 0#32
  let v19 : BitVec 1 := Scalar.cmpi .ne v18 c0_i32_5
  let v20 : BitVec 1 := Scalar.andi v17 v19
  let v6 : BitVec 32 := Scalar.divsi v5 c128_i32_1
  let c1_i32_6 : BitVec 32 := 1#32
  let v21 : BitVec 32 := Scalar.subi v6 c1_i32_6
  let v22 : BitVec 32 := Scalar.select v20 v21 v6
  let c128_i32_7 : BitVec 32 := 128#32
  let v23 : BitVec 32 := Scalar.muli v22 c128_i32_7
  let v24 : BitVec 32 := Scalar.subi v1 v23
  let c256_i32 : BitVec 32 := 256#32
  let v25 : BitVec 32 := Scalar.addi v24 c256_i32
  let c1_i32_8 : BitVec 32 := 1#32
  let v26 : BitVec 32 := Scalar.subi v25 c1_i32_8
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c256_i32_9 : BitVec 32 := 256#32
  let c0_i32_12 : BitVec 32 := 0#32
  let v33 : BitVec 1 := Scalar.cmpi .sgt c256_i32_9 c0_i32_12
  let v34 : BitVec 32 := Scalar.extui v33
  let c0_i32_13 : BitVec 32 := 0#32
  let v35 : BitVec 1 := Scalar.cmpi .slt c256_i32_9 c0_i32_13
  let v36 : BitVec 32 := Scalar.extui v35
  let v37 : BitVec 32 := Scalar.subi v34 v36
  let v38 : BitVec 1 := Scalar.cmpi .ne v32 v37
  let v39 : BitVec 32 := Scalar.remsi v26 c256_i32_9
  let c0_i32_14 : BitVec 32 := 0#32
  let v40 : BitVec 1 := Scalar.cmpi .ne v39 c0_i32_14
  let v41 : BitVec 1 := Scalar.andi v38 v40
  let v27 : BitVec 32 := Scalar.divsi v26 c256_i32_9
  let c1_i32_15 : BitVec 32 := 1#32
  let v42 : BitVec 32 := Scalar.subi v27 c1_i32_15
  let v43 : BitVec 32 := Scalar.select v41 v42 v27
  let v86 : BitVec 32 := Scalar.subi v43 c0_i32_34
  let c1_i32_36 : BitVec 32 := 1#32
  let v88 : BitVec 32 := Scalar.divsi v86 c1_i32_36
  let v89 : BitVec 32 := Scalar.muli v88 c1_i32_36
  let v90 : BitVec 32 := Scalar.addi c0_i32_34 v89
  let c1_i32_38 : BitVec 32 := 1#32
  let arg17 : BitVec 32 := Scf.iv v90 c1_i32_38 k0_t2
  let v280 : Index := Scalar.indexCast arg17
  let c0_122 : Index := 0#32
  let c768 : Index := 768#32
  ![v280.toNat, 0, 768]
@[reducible] def k0_t3_loop (i : grid0.Coords) (v5 : BitVec 32) : Scf.Loop 32 :=
  let c0_i32_50 : BitVec 32 := 0#32
  let arg2 : BitVec 32 := BitVec.ofNat 32 (i 2).val
  let c1_i32 : BitVec 32 := 1#32
  let v0 : BitVec 32 := Scalar.addi arg2 c1_i32
  let c128_i32 : BitVec 32 := 128#32
  let v1 : BitVec 32 := Scalar.muli v0 c128_i32
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c128_i32_1 : BitVec 32 := 128#32
  let c0_i32_3 : BitVec 32 := 0#32
  let v12 : BitVec 1 := Scalar.cmpi .sgt c128_i32_1 c0_i32_3
  let v13 : BitVec 32 := Scalar.extui v12
  let c0_i32_4 : BitVec 32 := 0#32
  let v14 : BitVec 1 := Scalar.cmpi .slt c128_i32_1 c0_i32_4
  let v15 : BitVec 32 := Scalar.extui v14
  let v16 : BitVec 32 := Scalar.subi v13 v15
  let v17 : BitVec 1 := Scalar.cmpi .ne v11 v16
  let v18 : BitVec 32 := Scalar.remsi v5 c128_i32_1
  let c0_i32_5 : BitVec 32 := 0#32
  let v19 : BitVec 1 := Scalar.cmpi .ne v18 c0_i32_5
  let v20 : BitVec 1 := Scalar.andi v17 v19
  let v6 : BitVec 32 := Scalar.divsi v5 c128_i32_1
  let c1_i32_6 : BitVec 32 := 1#32
  let v21 : BitVec 32 := Scalar.subi v6 c1_i32_6
  let v22 : BitVec 32 := Scalar.select v20 v21 v6
  let c128_i32_7 : BitVec 32 := 128#32
  let v23 : BitVec 32 := Scalar.muli v22 c128_i32_7
  let v24 : BitVec 32 := Scalar.subi v1 v23
  let c256_i32 : BitVec 32 := 256#32
  let v25 : BitVec 32 := Scalar.addi v24 c256_i32
  let c1_i32_8 : BitVec 32 := 1#32
  let v26 : BitVec 32 := Scalar.subi v25 c1_i32_8
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c256_i32_9 : BitVec 32 := 256#32
  let c0_i32_12 : BitVec 32 := 0#32
  let v33 : BitVec 1 := Scalar.cmpi .sgt c256_i32_9 c0_i32_12
  let v34 : BitVec 32 := Scalar.extui v33
  let c0_i32_13 : BitVec 32 := 0#32
  let v35 : BitVec 1 := Scalar.cmpi .slt c256_i32_9 c0_i32_13
  let v36 : BitVec 32 := Scalar.extui v35
  let v37 : BitVec 32 := Scalar.subi v34 v36
  let v38 : BitVec 1 := Scalar.cmpi .ne v32 v37
  let v39 : BitVec 32 := Scalar.remsi v26 c256_i32_9
  let c0_i32_14 : BitVec 32 := 0#32
  let v40 : BitVec 1 := Scalar.cmpi .ne v39 c0_i32_14
  let v41 : BitVec 1 := Scalar.andi v38 v40
  let v27 : BitVec 32 := Scalar.divsi v26 c256_i32_9
  let c1_i32_15 : BitVec 32 := 1#32
  let v42 : BitVec 32 := Scalar.subi v27 c1_i32_15
  let v43 : BitVec 32 := Scalar.select v41 v42 v27
  let v106 : BitVec 32 := Scalar.subi v43 c0_i32_50
  let c1_i32_52 : BitVec 32 := 1#32
  let v108 : BitVec 32 := Scalar.divsi v106 c1_i32_52
  let v109 : BitVec 32 := Scalar.muli v108 c1_i32_52
  let v110 : BitVec 32 := Scalar.addi c0_i32_50 v109
  let c1_i32_53 : BitVec 32 := 1#32
  ⟨c0_i32_50, v110, c1_i32_53⟩
def k0_mult3 (i : grid0.Coords) (v5 : BitVec 32) (k0_t3 : Fin (k0_t3_loop i v5).trips) : BitVec 32 :=
  let arg2 : BitVec 32 := BitVec.ofNat 32 (i 2).val
  let c1_i32 : BitVec 32 := 1#32
  let v0 : BitVec 32 := Scalar.addi arg2 c1_i32
  let c128_i32 : BitVec 32 := 128#32
  let v1 : BitVec 32 := Scalar.muli v0 c128_i32
  let c0_i32_50 : BitVec 32 := 0#32
  let c1_i32_53 : BitVec 32 := 1#32
  let arg17 : BitVec 32 := Scf.iv c0_i32_50 c1_i32_53 k0_t3
  let c1_i32_72 : BitVec 32 := 1#32
  let v147 : BitVec 32 := Scalar.addi arg17 c1_i32_72
  let c256_i32_73 : BitVec 32 := 256#32
  let v148 : BitVec 32 := Scalar.muli v147 c256_i32_73
  let v149 : BitVec 32 := Scalar.subi v1 v148
  let c0_i32_74 : BitVec 32 := 0#32
  let v150 : BitVec 32 := Scalar.maxsi v149 c0_i32_74
  v150
def k0_off14 (i : grid0.Coords) (v5 : BitVec 32) (k0_t3 : Fin (k0_t3_loop i v5).trips) : Fin 4 → Nat :=
  let c0_75 : Index := 0#32
  let c0_76 : Index := 0#32
  let arg2 : BitVec 32 := BitVec.ofNat 32 (i 2).val
  let c1_i32 : BitVec 32 := 1#32
  let v0 : BitVec 32 := Scalar.addi arg2 c1_i32
  let c128_i32 : BitVec 32 := 128#32
  let v1 : BitVec 32 := Scalar.muli v0 c128_i32
  let c0_i32_50 : BitVec 32 := 0#32
  let c1_i32_53 : BitVec 32 := 1#32
  let arg17 : BitVec 32 := Scf.iv c0_i32_50 c1_i32_53 k0_t3
  let c1_i32_72 : BitVec 32 := 1#32
  let v147 : BitVec 32 := Scalar.addi arg17 c1_i32_72
  let c256_i32_73 : BitVec 32 := 256#32
  let v148 : BitVec 32 := Scalar.muli v147 c256_i32_73
  let v149 : BitVec 32 := Scalar.subi v1 v148
  let c0_i32_74 : BitVec 32 := 0#32
  let v150 : BitVec 32 := Scalar.maxsi v149 c0_i32_74
  let v151 : BitVec 32 := v150
  let v152 : Index := Scalar.indexCast v151
  let c0_77 : Index := 0#32
  ![0, 0, v152.toNat, 0]
def k0_off15 (i : grid0.Coords) (v5 : BitVec 32) (k0_t3 : Fin (k0_t3_loop i v5).trips) : Fin 3 → Nat :=
  let c0_i32_50 : BitVec 32 := 0#32
  let c1_i32_53 : BitVec 32 := 1#32
  let arg17 : BitVec 32 := Scf.iv c0_i32_50 c1_i32_53 k0_t3
  let v155 : Index := Scalar.indexCast arg17
  let c0_78 : Index := 0#32
  let c0_79 : Index := 0#32
  ![v155.toNat, 0, 0]
def k0_off16 (i : grid0.Coords) (v5 : BitVec 32) (k0_t3 : Fin (k0_t3_loop i v5).trips) : Fin 3 → Nat :=
  let c0_i32_50 : BitVec 32 := 0#32
  let c1_i32_53 : BitVec 32 := 1#32
  let arg17 : BitVec 32 := Scf.iv c0_i32_50 c1_i32_53 k0_t3
  let v181 : Index := Scalar.indexCast arg17
  let c0_90 : Index := 0#32
  let c256 : Index := 256#32
  ![v181.toNat, 0, 256]
def k0_off17 (i : grid0.Coords) (v5 : BitVec 32) (k0_t3 : Fin (k0_t3_loop i v5).trips) : Fin 3 → Nat :=
  let c0_i32_50 : BitVec 32 := 0#32
  let c1_i32_53 : BitVec 32 := 1#32
  let arg17 : BitVec 32 := Scf.iv c0_i32_50 c1_i32_53 k0_t3
  let v207 : Index := Scalar.indexCast arg17
  let c0_101 : Index := 0#32
  let c512 : Index := 512#32
  ![v207.toNat, 0, 512]
def k0_off18 (i : grid0.Coords) (v5 : BitVec 32) (k0_t3 : Fin (k0_t3_loop i v5).trips) : Fin 3 → Nat :=
  let c0_i32_50 : BitVec 32 := 0#32
  let c1_i32_53 : BitVec 32 := 1#32
  let arg17 : BitVec 32 := Scf.iv c0_i32_50 c1_i32_53 k0_t3
  let v233 : Index := Scalar.indexCast arg17
  let c0_112 : Index := 0#32
  let c768 : Index := 768#32
  ![v233.toNat, 0, 768]
@[reducible] def k0_t4_loop (i : grid0.Coords) (v5 : BitVec 32) : Scf.Loop 32 :=
  let c0_i32_50 : BitVec 32 := 0#32
  let arg2 : BitVec 32 := BitVec.ofNat 32 (i 2).val
  let c1_i32 : BitVec 32 := 1#32
  let v0 : BitVec 32 := Scalar.addi arg2 c1_i32
  let c128_i32 : BitVec 32 := 128#32
  let v1 : BitVec 32 := Scalar.muli v0 c128_i32
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c128_i32_1 : BitVec 32 := 128#32
  let c0_i32_3 : BitVec 32 := 0#32
  let v12 : BitVec 1 := Scalar.cmpi .sgt c128_i32_1 c0_i32_3
  let v13 : BitVec 32 := Scalar.extui v12
  let c0_i32_4 : BitVec 32 := 0#32
  let v14 : BitVec 1 := Scalar.cmpi .slt c128_i32_1 c0_i32_4
  let v15 : BitVec 32 := Scalar.extui v14
  let v16 : BitVec 32 := Scalar.subi v13 v15
  let v17 : BitVec 1 := Scalar.cmpi .ne v11 v16
  let v18 : BitVec 32 := Scalar.remsi v5 c128_i32_1
  let c0_i32_5 : BitVec 32 := 0#32
  let v19 : BitVec 1 := Scalar.cmpi .ne v18 c0_i32_5
  let v20 : BitVec 1 := Scalar.andi v17 v19
  let v6 : BitVec 32 := Scalar.divsi v5 c128_i32_1
  let c1_i32_6 : BitVec 32 := 1#32
  let v21 : BitVec 32 := Scalar.subi v6 c1_i32_6
  let v22 : BitVec 32 := Scalar.select v20 v21 v6
  let c128_i32_7 : BitVec 32 := 128#32
  let v23 : BitVec 32 := Scalar.muli v22 c128_i32_7
  let v24 : BitVec 32 := Scalar.subi v1 v23
  let c256_i32 : BitVec 32 := 256#32
  let v25 : BitVec 32 := Scalar.addi v24 c256_i32
  let c1_i32_8 : BitVec 32 := 1#32
  let v26 : BitVec 32 := Scalar.subi v25 c1_i32_8
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c256_i32_9 : BitVec 32 := 256#32
  let c0_i32_12 : BitVec 32 := 0#32
  let v33 : BitVec 1 := Scalar.cmpi .sgt c256_i32_9 c0_i32_12
  let v34 : BitVec 32 := Scalar.extui v33
  let c0_i32_13 : BitVec 32 := 0#32
  let v35 : BitVec 1 := Scalar.cmpi .slt c256_i32_9 c0_i32_13
  let v36 : BitVec 32 := Scalar.extui v35
  let v37 : BitVec 32 := Scalar.subi v34 v36
  let v38 : BitVec 1 := Scalar.cmpi .ne v32 v37
  let v39 : BitVec 32 := Scalar.remsi v26 c256_i32_9
  let c0_i32_14 : BitVec 32 := 0#32
  let v40 : BitVec 1 := Scalar.cmpi .ne v39 c0_i32_14
  let v41 : BitVec 1 := Scalar.andi v38 v40
  let v27 : BitVec 32 := Scalar.divsi v26 c256_i32_9
  let c1_i32_15 : BitVec 32 := 1#32
  let v42 : BitVec 32 := Scalar.subi v27 c1_i32_15
  let v43 : BitVec 32 := Scalar.select v41 v42 v27
  let v106 : BitVec 32 := Scalar.subi v43 c0_i32_50
  let c1_i32_52 : BitVec 32 := 1#32
  let v108 : BitVec 32 := Scalar.divsi v106 c1_i32_52
  let v109 : BitVec 32 := Scalar.muli v108 c1_i32_52
  let v110 : BitVec 32 := Scalar.addi c0_i32_50 v109
  let v107 : BitVec 32 := Scalar.addi c0_i32_50 v106
  let c1_i32_54 : BitVec 32 := 1#32
  ⟨v110, v107, c1_i32_54⟩
def k0_mult4 (i : grid0.Coords) (v5 : BitVec 32) (k0_t4 : Fin (k0_t4_loop i v5).trips) : BitVec 32 :=
  let arg2 : BitVec 32 := BitVec.ofNat 32 (i 2).val
  let c1_i32 : BitVec 32 := 1#32
  let v0 : BitVec 32 := Scalar.addi arg2 c1_i32
  let c128_i32 : BitVec 32 := 128#32
  let v1 : BitVec 32 := Scalar.muli v0 c128_i32
  let c0_i32_50 : BitVec 32 := 0#32
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c128_i32_1 : BitVec 32 := 128#32
  let c0_i32_3 : BitVec 32 := 0#32
  let v12 : BitVec 1 := Scalar.cmpi .sgt c128_i32_1 c0_i32_3
  let v13 : BitVec 32 := Scalar.extui v12
  let c0_i32_4 : BitVec 32 := 0#32
  let v14 : BitVec 1 := Scalar.cmpi .slt c128_i32_1 c0_i32_4
  let v15 : BitVec 32 := Scalar.extui v14
  let v16 : BitVec 32 := Scalar.subi v13 v15
  let v17 : BitVec 1 := Scalar.cmpi .ne v11 v16
  let v18 : BitVec 32 := Scalar.remsi v5 c128_i32_1
  let c0_i32_5 : BitVec 32 := 0#32
  let v19 : BitVec 1 := Scalar.cmpi .ne v18 c0_i32_5
  let v20 : BitVec 1 := Scalar.andi v17 v19
  let v6 : BitVec 32 := Scalar.divsi v5 c128_i32_1
  let c1_i32_6 : BitVec 32 := 1#32
  let v21 : BitVec 32 := Scalar.subi v6 c1_i32_6
  let v22 : BitVec 32 := Scalar.select v20 v21 v6
  let c128_i32_7 : BitVec 32 := 128#32
  let v23 : BitVec 32 := Scalar.muli v22 c128_i32_7
  let v24 : BitVec 32 := Scalar.subi v1 v23
  let c256_i32 : BitVec 32 := 256#32
  let v25 : BitVec 32 := Scalar.addi v24 c256_i32
  let c1_i32_8 : BitVec 32 := 1#32
  let v26 : BitVec 32 := Scalar.subi v25 c1_i32_8
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c256_i32_9 : BitVec 32 := 256#32
  let c0_i32_12 : BitVec 32 := 0#32
  let v33 : BitVec 1 := Scalar.cmpi .sgt c256_i32_9 c0_i32_12
  let v34 : BitVec 32 := Scalar.extui v33
  let c0_i32_13 : BitVec 32 := 0#32
  let v35 : BitVec 1 := Scalar.cmpi .slt c256_i32_9 c0_i32_13
  let v36 : BitVec 32 := Scalar.extui v35
  let v37 : BitVec 32 := Scalar.subi v34 v36
  let v38 : BitVec 1 := Scalar.cmpi .ne v32 v37
  let v39 : BitVec 32 := Scalar.remsi v26 c256_i32_9
  let c0_i32_14 : BitVec 32 := 0#32
  let v40 : BitVec 1 := Scalar.cmpi .ne v39 c0_i32_14
  let v41 : BitVec 1 := Scalar.andi v38 v40
  let v27 : BitVec 32 := Scalar.divsi v26 c256_i32_9
  let c1_i32_15 : BitVec 32 := 1#32
  let v42 : BitVec 32 := Scalar.subi v27 c1_i32_15
  let v43 : BitVec 32 := Scalar.select v41 v42 v27
  let v106 : BitVec 32 := Scalar.subi v43 c0_i32_50
  let c1_i32_52 : BitVec 32 := 1#32
  let v108 : BitVec 32 := Scalar.divsi v106 c1_i32_52
  let v109 : BitVec 32 := Scalar.muli v108 c1_i32_52
  let v110 : BitVec 32 := Scalar.addi c0_i32_50 v109
  let c1_i32_54 : BitVec 32 := 1#32
  let arg17 : BitVec 32 := Scf.iv v110 c1_i32_54 k0_t4
  let c1_i32_72 : BitVec 32 := 1#32
  let v147 : BitVec 32 := Scalar.addi arg17 c1_i32_72
  let c256_i32_73 : BitVec 32 := 256#32
  let v148 : BitVec 32 := Scalar.muli v147 c256_i32_73
  let v149 : BitVec 32 := Scalar.subi v1 v148
  let c0_i32_74 : BitVec 32 := 0#32
  let v150 : BitVec 32 := Scalar.maxsi v149 c0_i32_74
  v150
def k0_off19 (i : grid0.Coords) (v5 : BitVec 32) (k0_t4 : Fin (k0_t4_loop i v5).trips) : Fin 4 → Nat :=
  let c0_75 : Index := 0#32
  let c0_76 : Index := 0#32
  let arg2 : BitVec 32 := BitVec.ofNat 32 (i 2).val
  let c1_i32 : BitVec 32 := 1#32
  let v0 : BitVec 32 := Scalar.addi arg2 c1_i32
  let c128_i32 : BitVec 32 := 128#32
  let v1 : BitVec 32 := Scalar.muli v0 c128_i32
  let c0_i32_50 : BitVec 32 := 0#32
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c128_i32_1 : BitVec 32 := 128#32
  let c0_i32_3 : BitVec 32 := 0#32
  let v12 : BitVec 1 := Scalar.cmpi .sgt c128_i32_1 c0_i32_3
  let v13 : BitVec 32 := Scalar.extui v12
  let c0_i32_4 : BitVec 32 := 0#32
  let v14 : BitVec 1 := Scalar.cmpi .slt c128_i32_1 c0_i32_4
  let v15 : BitVec 32 := Scalar.extui v14
  let v16 : BitVec 32 := Scalar.subi v13 v15
  let v17 : BitVec 1 := Scalar.cmpi .ne v11 v16
  let v18 : BitVec 32 := Scalar.remsi v5 c128_i32_1
  let c0_i32_5 : BitVec 32 := 0#32
  let v19 : BitVec 1 := Scalar.cmpi .ne v18 c0_i32_5
  let v20 : BitVec 1 := Scalar.andi v17 v19
  let v6 : BitVec 32 := Scalar.divsi v5 c128_i32_1
  let c1_i32_6 : BitVec 32 := 1#32
  let v21 : BitVec 32 := Scalar.subi v6 c1_i32_6
  let v22 : BitVec 32 := Scalar.select v20 v21 v6
  let c128_i32_7 : BitVec 32 := 128#32
  let v23 : BitVec 32 := Scalar.muli v22 c128_i32_7
  let v24 : BitVec 32 := Scalar.subi v1 v23
  let c256_i32 : BitVec 32 := 256#32
  let v25 : BitVec 32 := Scalar.addi v24 c256_i32
  let c1_i32_8 : BitVec 32 := 1#32
  let v26 : BitVec 32 := Scalar.subi v25 c1_i32_8
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c256_i32_9 : BitVec 32 := 256#32
  let c0_i32_12 : BitVec 32 := 0#32
  let v33 : BitVec 1 := Scalar.cmpi .sgt c256_i32_9 c0_i32_12
  let v34 : BitVec 32 := Scalar.extui v33
  let c0_i32_13 : BitVec 32 := 0#32
  let v35 : BitVec 1 := Scalar.cmpi .slt c256_i32_9 c0_i32_13
  let v36 : BitVec 32 := Scalar.extui v35
  let v37 : BitVec 32 := Scalar.subi v34 v36
  let v38 : BitVec 1 := Scalar.cmpi .ne v32 v37
  let v39 : BitVec 32 := Scalar.remsi v26 c256_i32_9
  let c0_i32_14 : BitVec 32 := 0#32
  let v40 : BitVec 1 := Scalar.cmpi .ne v39 c0_i32_14
  let v41 : BitVec 1 := Scalar.andi v38 v40
  let v27 : BitVec 32 := Scalar.divsi v26 c256_i32_9
  let c1_i32_15 : BitVec 32 := 1#32
  let v42 : BitVec 32 := Scalar.subi v27 c1_i32_15
  let v43 : BitVec 32 := Scalar.select v41 v42 v27
  let v106 : BitVec 32 := Scalar.subi v43 c0_i32_50
  let c1_i32_52 : BitVec 32 := 1#32
  let v108 : BitVec 32 := Scalar.divsi v106 c1_i32_52
  let v109 : BitVec 32 := Scalar.muli v108 c1_i32_52
  let v110 : BitVec 32 := Scalar.addi c0_i32_50 v109
  let c1_i32_54 : BitVec 32 := 1#32
  let arg17 : BitVec 32 := Scf.iv v110 c1_i32_54 k0_t4
  let c1_i32_72 : BitVec 32 := 1#32
  let v147 : BitVec 32 := Scalar.addi arg17 c1_i32_72
  let c256_i32_73 : BitVec 32 := 256#32
  let v148 : BitVec 32 := Scalar.muli v147 c256_i32_73
  let v149 : BitVec 32 := Scalar.subi v1 v148
  let c0_i32_74 : BitVec 32 := 0#32
  let v150 : BitVec 32 := Scalar.maxsi v149 c0_i32_74
  let v151 : BitVec 32 := v150
  let v152 : Index := Scalar.indexCast v151
  let c0_77 : Index := 0#32
  ![0, 0, v152.toNat, 0]
def k0_off20 (i : grid0.Coords) (v5 : BitVec 32) (k0_t4 : Fin (k0_t4_loop i v5).trips) : Fin 3 → Nat :=
  let c0_i32_50 : BitVec 32 := 0#32
  let arg2 : BitVec 32 := BitVec.ofNat 32 (i 2).val
  let c1_i32 : BitVec 32 := 1#32
  let v0 : BitVec 32 := Scalar.addi arg2 c1_i32
  let c128_i32 : BitVec 32 := 128#32
  let v1 : BitVec 32 := Scalar.muli v0 c128_i32
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c128_i32_1 : BitVec 32 := 128#32
  let c0_i32_3 : BitVec 32 := 0#32
  let v12 : BitVec 1 := Scalar.cmpi .sgt c128_i32_1 c0_i32_3
  let v13 : BitVec 32 := Scalar.extui v12
  let c0_i32_4 : BitVec 32 := 0#32
  let v14 : BitVec 1 := Scalar.cmpi .slt c128_i32_1 c0_i32_4
  let v15 : BitVec 32 := Scalar.extui v14
  let v16 : BitVec 32 := Scalar.subi v13 v15
  let v17 : BitVec 1 := Scalar.cmpi .ne v11 v16
  let v18 : BitVec 32 := Scalar.remsi v5 c128_i32_1
  let c0_i32_5 : BitVec 32 := 0#32
  let v19 : BitVec 1 := Scalar.cmpi .ne v18 c0_i32_5
  let v20 : BitVec 1 := Scalar.andi v17 v19
  let v6 : BitVec 32 := Scalar.divsi v5 c128_i32_1
  let c1_i32_6 : BitVec 32 := 1#32
  let v21 : BitVec 32 := Scalar.subi v6 c1_i32_6
  let v22 : BitVec 32 := Scalar.select v20 v21 v6
  let c128_i32_7 : BitVec 32 := 128#32
  let v23 : BitVec 32 := Scalar.muli v22 c128_i32_7
  let v24 : BitVec 32 := Scalar.subi v1 v23
  let c256_i32 : BitVec 32 := 256#32
  let v25 : BitVec 32 := Scalar.addi v24 c256_i32
  let c1_i32_8 : BitVec 32 := 1#32
  let v26 : BitVec 32 := Scalar.subi v25 c1_i32_8
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c256_i32_9 : BitVec 32 := 256#32
  let c0_i32_12 : BitVec 32 := 0#32
  let v33 : BitVec 1 := Scalar.cmpi .sgt c256_i32_9 c0_i32_12
  let v34 : BitVec 32 := Scalar.extui v33
  let c0_i32_13 : BitVec 32 := 0#32
  let v35 : BitVec 1 := Scalar.cmpi .slt c256_i32_9 c0_i32_13
  let v36 : BitVec 32 := Scalar.extui v35
  let v37 : BitVec 32 := Scalar.subi v34 v36
  let v38 : BitVec 1 := Scalar.cmpi .ne v32 v37
  let v39 : BitVec 32 := Scalar.remsi v26 c256_i32_9
  let c0_i32_14 : BitVec 32 := 0#32
  let v40 : BitVec 1 := Scalar.cmpi .ne v39 c0_i32_14
  let v41 : BitVec 1 := Scalar.andi v38 v40
  let v27 : BitVec 32 := Scalar.divsi v26 c256_i32_9
  let c1_i32_15 : BitVec 32 := 1#32
  let v42 : BitVec 32 := Scalar.subi v27 c1_i32_15
  let v43 : BitVec 32 := Scalar.select v41 v42 v27
  let v106 : BitVec 32 := Scalar.subi v43 c0_i32_50
  let c1_i32_52 : BitVec 32 := 1#32
  let v108 : BitVec 32 := Scalar.divsi v106 c1_i32_52
  let v109 : BitVec 32 := Scalar.muli v108 c1_i32_52
  let v110 : BitVec 32 := Scalar.addi c0_i32_50 v109
  let c1_i32_54 : BitVec 32 := 1#32
  let arg17 : BitVec 32 := Scf.iv v110 c1_i32_54 k0_t4
  let v155 : Index := Scalar.indexCast arg17
  let c0_78 : Index := 0#32
  let c0_79 : Index := 0#32
  ![v155.toNat, 0, 0]
def k0_off21 (i : grid0.Coords) (v5 : BitVec 32) (k0_t4 : Fin (k0_t4_loop i v5).trips) : Fin 3 → Nat :=
  let c0_i32_50 : BitVec 32 := 0#32
  let arg2 : BitVec 32 := BitVec.ofNat 32 (i 2).val
  let c1_i32 : BitVec 32 := 1#32
  let v0 : BitVec 32 := Scalar.addi arg2 c1_i32
  let c128_i32 : BitVec 32 := 128#32
  let v1 : BitVec 32 := Scalar.muli v0 c128_i32
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c128_i32_1 : BitVec 32 := 128#32
  let c0_i32_3 : BitVec 32 := 0#32
  let v12 : BitVec 1 := Scalar.cmpi .sgt c128_i32_1 c0_i32_3
  let v13 : BitVec 32 := Scalar.extui v12
  let c0_i32_4 : BitVec 32 := 0#32
  let v14 : BitVec 1 := Scalar.cmpi .slt c128_i32_1 c0_i32_4
  let v15 : BitVec 32 := Scalar.extui v14
  let v16 : BitVec 32 := Scalar.subi v13 v15
  let v17 : BitVec 1 := Scalar.cmpi .ne v11 v16
  let v18 : BitVec 32 := Scalar.remsi v5 c128_i32_1
  let c0_i32_5 : BitVec 32 := 0#32
  let v19 : BitVec 1 := Scalar.cmpi .ne v18 c0_i32_5
  let v20 : BitVec 1 := Scalar.andi v17 v19
  let v6 : BitVec 32 := Scalar.divsi v5 c128_i32_1
  let c1_i32_6 : BitVec 32 := 1#32
  let v21 : BitVec 32 := Scalar.subi v6 c1_i32_6
  let v22 : BitVec 32 := Scalar.select v20 v21 v6
  let c128_i32_7 : BitVec 32 := 128#32
  let v23 : BitVec 32 := Scalar.muli v22 c128_i32_7
  let v24 : BitVec 32 := Scalar.subi v1 v23
  let c256_i32 : BitVec 32 := 256#32
  let v25 : BitVec 32 := Scalar.addi v24 c256_i32
  let c1_i32_8 : BitVec 32 := 1#32
  let v26 : BitVec 32 := Scalar.subi v25 c1_i32_8
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c256_i32_9 : BitVec 32 := 256#32
  let c0_i32_12 : BitVec 32 := 0#32
  let v33 : BitVec 1 := Scalar.cmpi .sgt c256_i32_9 c0_i32_12
  let v34 : BitVec 32 := Scalar.extui v33
  let c0_i32_13 : BitVec 32 := 0#32
  let v35 : BitVec 1 := Scalar.cmpi .slt c256_i32_9 c0_i32_13
  let v36 : BitVec 32 := Scalar.extui v35
  let v37 : BitVec 32 := Scalar.subi v34 v36
  let v38 : BitVec 1 := Scalar.cmpi .ne v32 v37
  let v39 : BitVec 32 := Scalar.remsi v26 c256_i32_9
  let c0_i32_14 : BitVec 32 := 0#32
  let v40 : BitVec 1 := Scalar.cmpi .ne v39 c0_i32_14
  let v41 : BitVec 1 := Scalar.andi v38 v40
  let v27 : BitVec 32 := Scalar.divsi v26 c256_i32_9
  let c1_i32_15 : BitVec 32 := 1#32
  let v42 : BitVec 32 := Scalar.subi v27 c1_i32_15
  let v43 : BitVec 32 := Scalar.select v41 v42 v27
  let v106 : BitVec 32 := Scalar.subi v43 c0_i32_50
  let c1_i32_52 : BitVec 32 := 1#32
  let v108 : BitVec 32 := Scalar.divsi v106 c1_i32_52
  let v109 : BitVec 32 := Scalar.muli v108 c1_i32_52
  let v110 : BitVec 32 := Scalar.addi c0_i32_50 v109
  let c1_i32_54 : BitVec 32 := 1#32
  let arg17 : BitVec 32 := Scf.iv v110 c1_i32_54 k0_t4
  let v181 : Index := Scalar.indexCast arg17
  let c0_90 : Index := 0#32
  let c256 : Index := 256#32
  ![v181.toNat, 0, 256]
def k0_off22 (i : grid0.Coords) (v5 : BitVec 32) (k0_t4 : Fin (k0_t4_loop i v5).trips) : Fin 3 → Nat :=
  let c0_i32_50 : BitVec 32 := 0#32
  let arg2 : BitVec 32 := BitVec.ofNat 32 (i 2).val
  let c1_i32 : BitVec 32 := 1#32
  let v0 : BitVec 32 := Scalar.addi arg2 c1_i32
  let c128_i32 : BitVec 32 := 128#32
  let v1 : BitVec 32 := Scalar.muli v0 c128_i32
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c128_i32_1 : BitVec 32 := 128#32
  let c0_i32_3 : BitVec 32 := 0#32
  let v12 : BitVec 1 := Scalar.cmpi .sgt c128_i32_1 c0_i32_3
  let v13 : BitVec 32 := Scalar.extui v12
  let c0_i32_4 : BitVec 32 := 0#32
  let v14 : BitVec 1 := Scalar.cmpi .slt c128_i32_1 c0_i32_4
  let v15 : BitVec 32 := Scalar.extui v14
  let v16 : BitVec 32 := Scalar.subi v13 v15
  let v17 : BitVec 1 := Scalar.cmpi .ne v11 v16
  let v18 : BitVec 32 := Scalar.remsi v5 c128_i32_1
  let c0_i32_5 : BitVec 32 := 0#32
  let v19 : BitVec 1 := Scalar.cmpi .ne v18 c0_i32_5
  let v20 : BitVec 1 := Scalar.andi v17 v19
  let v6 : BitVec 32 := Scalar.divsi v5 c128_i32_1
  let c1_i32_6 : BitVec 32 := 1#32
  let v21 : BitVec 32 := Scalar.subi v6 c1_i32_6
  let v22 : BitVec 32 := Scalar.select v20 v21 v6
  let c128_i32_7 : BitVec 32 := 128#32
  let v23 : BitVec 32 := Scalar.muli v22 c128_i32_7
  let v24 : BitVec 32 := Scalar.subi v1 v23
  let c256_i32 : BitVec 32 := 256#32
  let v25 : BitVec 32 := Scalar.addi v24 c256_i32
  let c1_i32_8 : BitVec 32 := 1#32
  let v26 : BitVec 32 := Scalar.subi v25 c1_i32_8
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c256_i32_9 : BitVec 32 := 256#32
  let c0_i32_12 : BitVec 32 := 0#32
  let v33 : BitVec 1 := Scalar.cmpi .sgt c256_i32_9 c0_i32_12
  let v34 : BitVec 32 := Scalar.extui v33
  let c0_i32_13 : BitVec 32 := 0#32
  let v35 : BitVec 1 := Scalar.cmpi .slt c256_i32_9 c0_i32_13
  let v36 : BitVec 32 := Scalar.extui v35
  let v37 : BitVec 32 := Scalar.subi v34 v36
  let v38 : BitVec 1 := Scalar.cmpi .ne v32 v37
  let v39 : BitVec 32 := Scalar.remsi v26 c256_i32_9
  let c0_i32_14 : BitVec 32 := 0#32
  let v40 : BitVec 1 := Scalar.cmpi .ne v39 c0_i32_14
  let v41 : BitVec 1 := Scalar.andi v38 v40
  let v27 : BitVec 32 := Scalar.divsi v26 c256_i32_9
  let c1_i32_15 : BitVec 32 := 1#32
  let v42 : BitVec 32 := Scalar.subi v27 c1_i32_15
  let v43 : BitVec 32 := Scalar.select v41 v42 v27
  let v106 : BitVec 32 := Scalar.subi v43 c0_i32_50
  let c1_i32_52 : BitVec 32 := 1#32
  let v108 : BitVec 32 := Scalar.divsi v106 c1_i32_52
  let v109 : BitVec 32 := Scalar.muli v108 c1_i32_52
  let v110 : BitVec 32 := Scalar.addi c0_i32_50 v109
  let c1_i32_54 : BitVec 32 := 1#32
  let arg17 : BitVec 32 := Scf.iv v110 c1_i32_54 k0_t4
  let v207 : Index := Scalar.indexCast arg17
  let c0_101 : Index := 0#32
  let c512 : Index := 512#32
  ![v207.toNat, 0, 512]
def k0_off23 (i : grid0.Coords) (v5 : BitVec 32) (k0_t4 : Fin (k0_t4_loop i v5).trips) : Fin 3 → Nat :=
  let c0_i32_50 : BitVec 32 := 0#32
  let arg2 : BitVec 32 := BitVec.ofNat 32 (i 2).val
  let c1_i32 : BitVec 32 := 1#32
  let v0 : BitVec 32 := Scalar.addi arg2 c1_i32
  let c128_i32 : BitVec 32 := 128#32
  let v1 : BitVec 32 := Scalar.muli v0 c128_i32
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c128_i32_1 : BitVec 32 := 128#32
  let c0_i32_3 : BitVec 32 := 0#32
  let v12 : BitVec 1 := Scalar.cmpi .sgt c128_i32_1 c0_i32_3
  let v13 : BitVec 32 := Scalar.extui v12
  let c0_i32_4 : BitVec 32 := 0#32
  let v14 : BitVec 1 := Scalar.cmpi .slt c128_i32_1 c0_i32_4
  let v15 : BitVec 32 := Scalar.extui v14
  let v16 : BitVec 32 := Scalar.subi v13 v15
  let v17 : BitVec 1 := Scalar.cmpi .ne v11 v16
  let v18 : BitVec 32 := Scalar.remsi v5 c128_i32_1
  let c0_i32_5 : BitVec 32 := 0#32
  let v19 : BitVec 1 := Scalar.cmpi .ne v18 c0_i32_5
  let v20 : BitVec 1 := Scalar.andi v17 v19
  let v6 : BitVec 32 := Scalar.divsi v5 c128_i32_1
  let c1_i32_6 : BitVec 32 := 1#32
  let v21 : BitVec 32 := Scalar.subi v6 c1_i32_6
  let v22 : BitVec 32 := Scalar.select v20 v21 v6
  let c128_i32_7 : BitVec 32 := 128#32
  let v23 : BitVec 32 := Scalar.muli v22 c128_i32_7
  let v24 : BitVec 32 := Scalar.subi v1 v23
  let c256_i32 : BitVec 32 := 256#32
  let v25 : BitVec 32 := Scalar.addi v24 c256_i32
  let c1_i32_8 : BitVec 32 := 1#32
  let v26 : BitVec 32 := Scalar.subi v25 c1_i32_8
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c256_i32_9 : BitVec 32 := 256#32
  let c0_i32_12 : BitVec 32 := 0#32
  let v33 : BitVec 1 := Scalar.cmpi .sgt c256_i32_9 c0_i32_12
  let v34 : BitVec 32 := Scalar.extui v33
  let c0_i32_13 : BitVec 32 := 0#32
  let v35 : BitVec 1 := Scalar.cmpi .slt c256_i32_9 c0_i32_13
  let v36 : BitVec 32 := Scalar.extui v35
  let v37 : BitVec 32 := Scalar.subi v34 v36
  let v38 : BitVec 1 := Scalar.cmpi .ne v32 v37
  let v39 : BitVec 32 := Scalar.remsi v26 c256_i32_9
  let c0_i32_14 : BitVec 32 := 0#32
  let v40 : BitVec 1 := Scalar.cmpi .ne v39 c0_i32_14
  let v41 : BitVec 1 := Scalar.andi v38 v40
  let v27 : BitVec 32 := Scalar.divsi v26 c256_i32_9
  let c1_i32_15 : BitVec 32 := 1#32
  let v42 : BitVec 32 := Scalar.subi v27 c1_i32_15
  let v43 : BitVec 32 := Scalar.select v41 v42 v27
  let v106 : BitVec 32 := Scalar.subi v43 c0_i32_50
  let c1_i32_52 : BitVec 32 := 1#32
  let v108 : BitVec 32 := Scalar.divsi v106 c1_i32_52
  let v109 : BitVec 32 := Scalar.muli v108 c1_i32_52
  let v110 : BitVec 32 := Scalar.addi c0_i32_50 v109
  let c1_i32_54 : BitVec 32 := 1#32
  let arg17 : BitVec 32 := Scf.iv v110 c1_i32_54 k0_t4
  let v233 : Index := Scalar.indexCast arg17
  let c0_112 : Index := 0#32
  let c768 : Index := 768#32
  ![v233.toNat, 0, 768]

def k0_chk1 (i : grid0.Coords) (v5 : BitVec 32) : Prop :=
  ((k0_t1_loop i v5).OK) ∧
  (∀ k0_t1 : Fin (k0_t1_loop i v5).trips, 128 ∣ (k0_mult1 i v5 k0_t1).toNat) ∧
  (∀ k0_t1 : Fin (k0_t1_loop i v5).trips, ∀ a, (k0_off2 i v5 k0_t1) a + S1x1x256x128.size a ≤ S1x1x4096x128.size a) ∧
  (∀ k0_t1 : Fin (k0_t1_loop i v5).trips, ∀ a, (k0_off3 i v5 k0_t1) a + S1x1x256x1.size a ≤ S1x1x4096x1.size a) ∧
  (∀ k0_t1 : Fin (k0_t1_loop i v5).trips, ∀ a, (k0_off4 i v5 k0_t1) a + S1x256x256.size a ≤ S17x256x1024.size a) ∧
  (∀ k0_t1 : Fin (k0_t1_loop i v5).trips, ∀ a, (k0_off5 i v5 k0_t1) a + S1x256x256.size a ≤ S17x256x1024.size a) ∧
  (∀ k0_t1 : Fin (k0_t1_loop i v5).trips, ∀ a, (k0_off6 i v5 k0_t1) a + S1x256x256.size a ≤ S17x256x1024.size a) ∧
  (∀ k0_t1 : Fin (k0_t1_loop i v5).trips, ∀ a, (k0_off7 i v5 k0_t1) a + S1x256x256.size a ≤ S17x256x1024.size a) ∧
  ((k0_t2_loop i v5).OK) ∧
  (∀ k0_t2 : Fin (k0_t2_loop i v5).trips, 128 ∣ (k0_mult2 i v5 k0_t2).toNat) ∧
  (∀ k0_t2 : Fin (k0_t2_loop i v5).trips, ∀ a, (k0_off8 i v5 k0_t2) a + S1x1x256x128.size a ≤ S1x1x4096x128.size a) ∧
  (∀ k0_t2 : Fin (k0_t2_loop i v5).trips, ∀ a, (k0_off9 i v5 k0_t2) a + S1x1x256x1.size a ≤ S1x1x4096x1.size a) ∧
  (∀ k0_t2 : Fin (k0_t2_loop i v5).trips, ∀ a, (k0_off10 i v5 k0_t2) a + S1x256x256.size a ≤ S17x256x1024.size a) ∧
  (∀ k0_t2 : Fin (k0_t2_loop i v5).trips, ∀ a, (k0_off11 i v5 k0_t2) a + S1x256x256.size a ≤ S17x256x1024.size a) ∧
  (∀ k0_t2 : Fin (k0_t2_loop i v5).trips, ∀ a, (k0_off12 i v5 k0_t2) a + S1x256x256.size a ≤ S17x256x1024.size a) ∧
  (∀ k0_t2 : Fin (k0_t2_loop i v5).trips, ∀ a, (k0_off13 i v5 k0_t2) a + S1x256x256.size a ≤ S17x256x1024.size a) ∧
  ((k0_t3_loop i v5).OK) ∧
  (∀ k0_t3 : Fin (k0_t3_loop i v5).trips, 128 ∣ (k0_mult3 i v5 k0_t3).toNat) ∧
  (∀ k0_t3 : Fin (k0_t3_loop i v5).trips, ∀ a, (k0_off14 i v5 k0_t3) a + S1x1x256x128.size a ≤ S1x1x4096x128.size a) ∧
  (∀ k0_t3 : Fin (k0_t3_loop i v5).trips, ∀ a, (k0_off15 i v5 k0_t3) a + S1x256x256.size a ≤ S17x256x1024.size a) ∧
  (∀ k0_t3 : Fin (k0_t3_loop i v5).trips, ∀ a, (k0_off16 i v5 k0_t3) a + S1x256x256.size a ≤ S17x256x1024.size a) ∧
  (∀ k0_t3 : Fin (k0_t3_loop i v5).trips, ∀ a, (k0_off17 i v5 k0_t3) a + S1x256x256.size a ≤ S17x256x1024.size a) ∧
  (∀ k0_t3 : Fin (k0_t3_loop i v5).trips, ∀ a, (k0_off18 i v5 k0_t3) a + S1x256x256.size a ≤ S17x256x1024.size a) ∧
  ((k0_t4_loop i v5).OK) ∧
  (∀ k0_t4 : Fin (k0_t4_loop i v5).trips, 128 ∣ (k0_mult4 i v5 k0_t4).toNat) ∧
  (∀ k0_t4 : Fin (k0_t4_loop i v5).trips, ∀ a, (k0_off19 i v5 k0_t4) a + S1x1x256x128.size a ≤ S1x1x4096x128.size a) ∧
  (∀ k0_t4 : Fin (k0_t4_loop i v5).trips, ∀ a, (k0_off20 i v5 k0_t4) a + S1x256x256.size a ≤ S17x256x1024.size a) ∧
  (∀ k0_t4 : Fin (k0_t4_loop i v5).trips, ∀ a, (k0_off21 i v5 k0_t4) a + S1x256x256.size a ≤ S17x256x1024.size a) ∧
  (∀ k0_t4 : Fin (k0_t4_loop i v5).trips, ∀ a, (k0_off22 i v5 k0_t4) a + S1x256x256.size a ≤ S17x256x1024.size a) ∧
  (∀ k0_t4 : Fin (k0_t4_loop i v5).trips, ∀ a, (k0_off23 i v5 k0_t4) a + S1x256x256.size a ≤ S17x256x1024.size a)
theorem k0_t1_ok : ∀ (i : grid0.Coords) (v5 : BitVec 32) (k0_hw1 : k0_chk1 i v5), (k0_t1_loop i v5).OK := fun i v5 k0_hw1 => k0_hw1.1
theorem k0_mult1_dvd : ∀ (i : grid0.Coords) (v5 : BitVec 32) (k0_hw1 : k0_chk1 i v5) (k0_t1 : Fin (k0_t1_loop i v5).trips), 128 ∣ (k0_mult1 i v5 k0_t1).toNat := fun i v5 k0_hw1 k0_t1 => k0_hw1.2.1 k0_t1
theorem k0_off2_inb : ∀ (i : grid0.Coords) (v5 : BitVec 32) (k0_hw1 : k0_chk1 i v5) (k0_t1 : Fin (k0_t1_loop i v5).trips), ∀ a, (k0_off2 i v5 k0_t1) a + S1x1x256x128.size a ≤ S1x1x4096x128.size a := fun i v5 k0_hw1 k0_t1 => k0_hw1.2.2.1 k0_t1
theorem k0_off3_inb : ∀ (i : grid0.Coords) (v5 : BitVec 32) (k0_hw1 : k0_chk1 i v5) (k0_t1 : Fin (k0_t1_loop i v5).trips), ∀ a, (k0_off3 i v5 k0_t1) a + S1x1x256x1.size a ≤ S1x1x4096x1.size a := fun i v5 k0_hw1 k0_t1 => k0_hw1.2.2.2.1 k0_t1
theorem k0_off4_inb : ∀ (i : grid0.Coords) (v5 : BitVec 32) (k0_hw1 : k0_chk1 i v5) (k0_t1 : Fin (k0_t1_loop i v5).trips), ∀ a, (k0_off4 i v5 k0_t1) a + S1x256x256.size a ≤ S17x256x1024.size a := fun i v5 k0_hw1 k0_t1 => k0_hw1.2.2.2.2.1 k0_t1
theorem k0_off5_inb : ∀ (i : grid0.Coords) (v5 : BitVec 32) (k0_hw1 : k0_chk1 i v5) (k0_t1 : Fin (k0_t1_loop i v5).trips), ∀ a, (k0_off5 i v5 k0_t1) a + S1x256x256.size a ≤ S17x256x1024.size a := fun i v5 k0_hw1 k0_t1 => k0_hw1.2.2.2.2.2.1 k0_t1
theorem k0_off6_inb : ∀ (i : grid0.Coords) (v5 : BitVec 32) (k0_hw1 : k0_chk1 i v5) (k0_t1 : Fin (k0_t1_loop i v5).trips), ∀ a, (k0_off6 i v5 k0_t1) a + S1x256x256.size a ≤ S17x256x1024.size a := fun i v5 k0_hw1 k0_t1 => k0_hw1.2.2.2.2.2.2.1 k0_t1
theorem k0_off7_inb : ∀ (i : grid0.Coords) (v5 : BitVec 32) (k0_hw1 : k0_chk1 i v5) (k0_t1 : Fin (k0_t1_loop i v5).trips), ∀ a, (k0_off7 i v5 k0_t1) a + S1x256x256.size a ≤ S17x256x1024.size a := fun i v5 k0_hw1 k0_t1 => k0_hw1.2.2.2.2.2.2.2.1 k0_t1
theorem k0_t2_ok : ∀ (i : grid0.Coords) (v5 : BitVec 32) (k0_hw1 : k0_chk1 i v5), (k0_t2_loop i v5).OK := fun i v5 k0_hw1 => k0_hw1.2.2.2.2.2.2.2.2.1
theorem k0_mult2_dvd : ∀ (i : grid0.Coords) (v5 : BitVec 32) (k0_hw1 : k0_chk1 i v5) (k0_t2 : Fin (k0_t2_loop i v5).trips), 128 ∣ (k0_mult2 i v5 k0_t2).toNat := fun i v5 k0_hw1 k0_t2 => k0_hw1.2.2.2.2.2.2.2.2.2.1 k0_t2
theorem k0_off8_inb : ∀ (i : grid0.Coords) (v5 : BitVec 32) (k0_hw1 : k0_chk1 i v5) (k0_t2 : Fin (k0_t2_loop i v5).trips), ∀ a, (k0_off8 i v5 k0_t2) a + S1x1x256x128.size a ≤ S1x1x4096x128.size a := fun i v5 k0_hw1 k0_t2 => k0_hw1.2.2.2.2.2.2.2.2.2.2.1 k0_t2
theorem k0_off9_inb : ∀ (i : grid0.Coords) (v5 : BitVec 32) (k0_hw1 : k0_chk1 i v5) (k0_t2 : Fin (k0_t2_loop i v5).trips), ∀ a, (k0_off9 i v5 k0_t2) a + S1x1x256x1.size a ≤ S1x1x4096x1.size a := fun i v5 k0_hw1 k0_t2 => k0_hw1.2.2.2.2.2.2.2.2.2.2.2.1 k0_t2
theorem k0_off10_inb : ∀ (i : grid0.Coords) (v5 : BitVec 32) (k0_hw1 : k0_chk1 i v5) (k0_t2 : Fin (k0_t2_loop i v5).trips), ∀ a, (k0_off10 i v5 k0_t2) a + S1x256x256.size a ≤ S17x256x1024.size a := fun i v5 k0_hw1 k0_t2 => k0_hw1.2.2.2.2.2.2.2.2.2.2.2.2.1 k0_t2
theorem k0_off11_inb : ∀ (i : grid0.Coords) (v5 : BitVec 32) (k0_hw1 : k0_chk1 i v5) (k0_t2 : Fin (k0_t2_loop i v5).trips), ∀ a, (k0_off11 i v5 k0_t2) a + S1x256x256.size a ≤ S17x256x1024.size a := fun i v5 k0_hw1 k0_t2 => k0_hw1.2.2.2.2.2.2.2.2.2.2.2.2.2.1 k0_t2
theorem k0_off12_inb : ∀ (i : grid0.Coords) (v5 : BitVec 32) (k0_hw1 : k0_chk1 i v5) (k0_t2 : Fin (k0_t2_loop i v5).trips), ∀ a, (k0_off12 i v5 k0_t2) a + S1x256x256.size a ≤ S17x256x1024.size a := fun i v5 k0_hw1 k0_t2 => k0_hw1.2.2.2.2.2.2.2.2.2.2.2.2.2.2.1 k0_t2
theorem k0_off13_inb : ∀ (i : grid0.Coords) (v5 : BitVec 32) (k0_hw1 : k0_chk1 i v5) (k0_t2 : Fin (k0_t2_loop i v5).trips), ∀ a, (k0_off13 i v5 k0_t2) a + S1x256x256.size a ≤ S17x256x1024.size a := fun i v5 k0_hw1 k0_t2 => k0_hw1.2.2.2.2.2.2.2.2.2.2.2.2.2.2.2.1 k0_t2
theorem k0_t3_ok : ∀ (i : grid0.Coords) (v5 : BitVec 32) (k0_hw1 : k0_chk1 i v5), (k0_t3_loop i v5).OK := fun i v5 k0_hw1 => k0_hw1.2.2.2.2.2.2.2.2.2.2.2.2.2.2.2.2.1
theorem k0_mult3_dvd : ∀ (i : grid0.Coords) (v5 : BitVec 32) (k0_hw1 : k0_chk1 i v5) (k0_t3 : Fin (k0_t3_loop i v5).trips), 128 ∣ (k0_mult3 i v5 k0_t3).toNat := fun i v5 k0_hw1 k0_t3 => k0_hw1.2.2.2.2.2.2.2.2.2.2.2.2.2.2.2.2.2.1 k0_t3
theorem k0_off14_inb : ∀ (i : grid0.Coords) (v5 : BitVec 32) (k0_hw1 : k0_chk1 i v5) (k0_t3 : Fin (k0_t3_loop i v5).trips), ∀ a, (k0_off14 i v5 k0_t3) a + S1x1x256x128.size a ≤ S1x1x4096x128.size a := fun i v5 k0_hw1 k0_t3 => k0_hw1.2.2.2.2.2.2.2.2.2.2.2.2.2.2.2.2.2.2.1 k0_t3
theorem k0_off15_inb : ∀ (i : grid0.Coords) (v5 : BitVec 32) (k0_hw1 : k0_chk1 i v5) (k0_t3 : Fin (k0_t3_loop i v5).trips), ∀ a, (k0_off15 i v5 k0_t3) a + S1x256x256.size a ≤ S17x256x1024.size a := fun i v5 k0_hw1 k0_t3 => k0_hw1.2.2.2.2.2.2.2.2.2.2.2.2.2.2.2.2.2.2.2.1 k0_t3
theorem k0_off16_inb : ∀ (i : grid0.Coords) (v5 : BitVec 32) (k0_hw1 : k0_chk1 i v5) (k0_t3 : Fin (k0_t3_loop i v5).trips), ∀ a, (k0_off16 i v5 k0_t3) a + S1x256x256.size a ≤ S17x256x1024.size a := fun i v5 k0_hw1 k0_t3 => k0_hw1.2.2.2.2.2.2.2.2.2.2.2.2.2.2.2.2.2.2.2.2.1 k0_t3
theorem k0_off17_inb : ∀ (i : grid0.Coords) (v5 : BitVec 32) (k0_hw1 : k0_chk1 i v5) (k0_t3 : Fin (k0_t3_loop i v5).trips), ∀ a, (k0_off17 i v5 k0_t3) a + S1x256x256.size a ≤ S17x256x1024.size a := fun i v5 k0_hw1 k0_t3 => k0_hw1.2.2.2.2.2.2.2.2.2.2.2.2.2.2.2.2.2.2.2.2.2.1 k0_t3
theorem k0_off18_inb : ∀ (i : grid0.Coords) (v5 : BitVec 32) (k0_hw1 : k0_chk1 i v5) (k0_t3 : Fin (k0_t3_loop i v5).trips), ∀ a, (k0_off18 i v5 k0_t3) a + S1x256x256.size a ≤ S17x256x1024.size a := fun i v5 k0_hw1 k0_t3 => k0_hw1.2.2.2.2.2.2.2.2.2.2.2.2.2.2.2.2.2.2.2.2.2.2.1 k0_t3
theorem k0_t4_ok : ∀ (i : grid0.Coords) (v5 : BitVec 32) (k0_hw1 : k0_chk1 i v5), (k0_t4_loop i v5).OK := fun i v5 k0_hw1 => k0_hw1.2.2.2.2.2.2.2.2.2.2.2.2.2.2.2.2.2.2.2.2.2.2.2.1
theorem k0_mult4_dvd : ∀ (i : grid0.Coords) (v5 : BitVec 32) (k0_hw1 : k0_chk1 i v5) (k0_t4 : Fin (k0_t4_loop i v5).trips), 128 ∣ (k0_mult4 i v5 k0_t4).toNat := fun i v5 k0_hw1 k0_t4 => k0_hw1.2.2.2.2.2.2.2.2.2.2.2.2.2.2.2.2.2.2.2.2.2.2.2.2.1 k0_t4
theorem k0_off19_inb : ∀ (i : grid0.Coords) (v5 : BitVec 32) (k0_hw1 : k0_chk1 i v5) (k0_t4 : Fin (k0_t4_loop i v5).trips), ∀ a, (k0_off19 i v5 k0_t4) a + S1x1x256x128.size a ≤ S1x1x4096x128.size a := fun i v5 k0_hw1 k0_t4 => k0_hw1.2.2.2.2.2.2.2.2.2.2.2.2.2.2.2.2.2.2.2.2.2.2.2.2.2.1 k0_t4
theorem k0_off20_inb : ∀ (i : grid0.Coords) (v5 : BitVec 32) (k0_hw1 : k0_chk1 i v5) (k0_t4 : Fin (k0_t4_loop i v5).trips), ∀ a, (k0_off20 i v5 k0_t4) a + S1x256x256.size a ≤ S17x256x1024.size a := fun i v5 k0_hw1 k0_t4 => k0_hw1.2.2.2.2.2.2.2.2.2.2.2.2.2.2.2.2.2.2.2.2.2.2.2.2.2.2.1 k0_t4
theorem k0_off21_inb : ∀ (i : grid0.Coords) (v5 : BitVec 32) (k0_hw1 : k0_chk1 i v5) (k0_t4 : Fin (k0_t4_loop i v5).trips), ∀ a, (k0_off21 i v5 k0_t4) a + S1x256x256.size a ≤ S17x256x1024.size a := fun i v5 k0_hw1 k0_t4 => k0_hw1.2.2.2.2.2.2.2.2.2.2.2.2.2.2.2.2.2.2.2.2.2.2.2.2.2.2.2.1 k0_t4
theorem k0_off22_inb : ∀ (i : grid0.Coords) (v5 : BitVec 32) (k0_hw1 : k0_chk1 i v5) (k0_t4 : Fin (k0_t4_loop i v5).trips), ∀ a, (k0_off22 i v5 k0_t4) a + S1x256x256.size a ≤ S17x256x1024.size a := fun i v5 k0_hw1 k0_t4 => k0_hw1.2.2.2.2.2.2.2.2.2.2.2.2.2.2.2.2.2.2.2.2.2.2.2.2.2.2.2.2.1 k0_t4
theorem k0_off23_inb : ∀ (i : grid0.Coords) (v5 : BitVec 32) (k0_hw1 : k0_chk1 i v5) (k0_t4 : Fin (k0_t4_loop i v5).trips), ∀ a, (k0_off23 i v5 k0_t4) a + S1x256x256.size a ≤ S17x256x1024.size a := fun i v5 k0_hw1 k0_t4 => k0_hw1.2.2.2.2.2.2.2.2.2.2.2.2.2.2.2.2.2.2.2.2.2.2.2.2.2.2.2.2.2 k0_t4

def k0_off24 (i : grid0.Coords) : Fin 2 → Nat :=
  let arg0 : BitVec 32 := BitVec.ofNat 32 (i 0).val
  let v114 : Index := Scalar.indexCast arg0
  let arg1 : BitVec 32 := BitVec.ofNat 32 (i 1).val
  let v115 : Index := Scalar.indexCast arg1
  ![v114.toNat, v115.toNat]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_8 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x128x8x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x4096x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x4096x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x4096x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .smem S4x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x128x8x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S4x4096x16x128 : Shape := ⟨4, ![4, 4096, 16, 128]⟩
abbrev S4x4096x16 : Shape := ⟨3, ![4, 4096, 16]⟩
abbrev S4x4096x2x128 : Shape := ⟨4, ![4, 4096, 2, 128]⟩
abbrev S4x4096x2 : Shape := ⟨3, ![4, 4096, 2]⟩
abbrev S4x2 : Shape := ⟨2, ![4, 2]⟩
abbrev S4x4096 : Shape := ⟨2, ![4, 4096]⟩
abbrev S4x4096x2x8x128 : Shape := ⟨5, ![4, 4096, 2, 8, 128]⟩
abbrev S4x2x4096x8x128 : Shape := ⟨5, ![4, 2, 4096, 8, 128]⟩
abbrev S8x32768x128 : Shape := ⟨3, ![8, 32768, 128]⟩
abbrev S4x4096x2x8 : Shape := ⟨4, ![4, 4096, 2, 8]⟩
abbrev S4x2x4096x8 : Shape := ⟨4, ![4, 2, 4096, 8]⟩
abbrev S8x32768x1 : Shape := ⟨3, ![8, 32768, 1]⟩
abbrev S4x2x4096x128 : Shape := ⟨4, ![4, 2, 4096, 128]⟩
abbrev S8x4096x128 : Shape := ⟨3, ![8, 4096, 128]⟩
abbrev S4x2x4096 : Shape := ⟨3, ![4, 2, 4096]⟩
abbrev S8x1x4096 : Shape := ⟨3, ![8, 1, 4096]⟩
abbrev S8x1x1 : Shape := ⟨3, ![8, 1, 1]⟩
abbrev S8x4096 : Shape := ⟨2, ![8, 4096]⟩
abbrev S8x4096x1 : Shape := ⟨3, ![8, 4096, 1]⟩
abbrev S8x4096x8x1 : Shape := ⟨4, ![8, 4096, 8, 1]⟩
abbrev S8x32768x4096 : Shape := ⟨3, ![8, 32768, 4096]⟩
abbrev S8x32768 : Shape := ⟨2, ![8, 32768]⟩

abbrev nBuf : Space → Nat
  | .hbm => 30
  | .vmem => 10
  | .smem => 0
  | _ => 0

abbrev bufTy : (tb : Table) → Fin (tcTables nBuf tb) → BufTy
  | .hbm, ⟨0, _⟩ => ⟨S4x4096x16x128, .fp8e4m3⟩
  | .hbm, ⟨1, _⟩ => ⟨S4x4096x16, .f32⟩
  | .hbm, ⟨2, _⟩ => ⟨S4x4096x2x128, .fp8e4m3⟩
  | .hbm, ⟨3, _⟩ => ⟨S4x4096x2, .f32⟩
  | .hbm, ⟨4, _⟩ => ⟨S4x4096x2x128, .fp8e4m3⟩
  | .hbm, ⟨5, _⟩ => ⟨S4x2, .f32⟩
  | .hbm, ⟨6, _⟩ => ⟨S4x4096, .i32⟩
  | .hbm, ⟨7, _⟩ => ⟨S4x4096x2x8x128, .fp8e4m3⟩
  | .hbm, ⟨8, _⟩ => ⟨S4x2x4096x8x128, .fp8e4m3⟩
  | .hbm, ⟨9, _⟩ => ⟨S8x32768x128, .fp8e4m3⟩
  | .hbm, ⟨10, _⟩ => ⟨S4x4096x2x8, .f32⟩
  | .hbm, ⟨11, _⟩ => ⟨S4x2x4096x8, .f32⟩
  | .hbm, ⟨12, _⟩ => ⟨S8x32768x1, .f32⟩
  | .hbm, ⟨13, _⟩ => ⟨S4x2x4096x128, .fp8e4m3⟩
  | .hbm, ⟨14, _⟩ => ⟨S8x4096x128, .fp8e4m3⟩
  | .hbm, ⟨15, _⟩ => ⟨S4x2x4096, .f32⟩
  | .hbm, ⟨16, _⟩ => ⟨S8x1x4096, .f32⟩
  | .hbm, ⟨17, _⟩ => ⟨S4x2x4096x128, .fp8e4m3⟩
  | .hbm, ⟨18, _⟩ => ⟨S8x4096x128, .fp8e4m3⟩
  | .hbm, ⟨19, _⟩ => ⟨S8x1x1, .f32⟩
  | .hbm, ⟨20, _⟩ => ⟨S4x2x4096, .i32⟩
  | .hbm, ⟨21, _⟩ => ⟨S8x4096, .i32⟩
  | .hbm, ⟨22, _⟩ => ⟨S8x1x4096, .i32⟩
  | .hbm, ⟨23, _⟩ => ⟨S4x2x4096, .i32⟩
  | .hbm, ⟨24, _⟩ => ⟨S8x4096, .i32⟩
  | .hbm, ⟨25, _⟩ => ⟨S8x4096x1, .i32⟩
  | .hbm, ⟨26, _⟩ => ⟨S8x4096x8x1, .i32⟩
  | .hbm, ⟨27, _⟩ => ⟨S8x32768x1, .i32⟩
  | .hbm, ⟨28, _⟩ => ⟨S4x4096x16x128, .bf16⟩
  | .hbm, ⟨29, _⟩ => ⟨S4x4096x16, .f32⟩
  | .local _ .vmem, ⟨0, _⟩ => ⟨S8x32768x128, .fp8e4m3⟩
  | .local _ .vmem, ⟨1, _⟩ => ⟨S8x32768x1, .f32⟩
  | .local _ .vmem, ⟨2, _⟩ => ⟨S8x4096x128, .fp8e4m3⟩
  | .local _ .vmem, ⟨3, _⟩ => ⟨S8x1x4096, .f32⟩
  | .local _ .vmem, ⟨4, _⟩ => ⟨S8x4096x128, .fp8e4m3⟩
  | .local _ .vmem, ⟨5, _⟩ => ⟨S8x1x1, .f32⟩
  | .local _ .vmem, ⟨6, _⟩ => ⟨S8x32768x1, .i32⟩
  | .local _ .vmem, ⟨7, _⟩ => ⟨S8x1x4096, .i32⟩
  | .local _ .vmem, ⟨8, _⟩ => ⟨S4x4096x16x128, .bf16⟩
  | .local _ .vmem, ⟨9, _⟩ => ⟨S4x4096x16, .f32⟩
  | _, _ => ⟨S4x4096x16x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21_0 : Ref sig .tc := ⟨.hbm, 28, rfl⟩
abbrev main_v21_1 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S8x32768x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x32768x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4096x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x4096x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x32768x1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x1x4096 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x4096x16x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x4096x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.P.Words.lean ====
/- The loop bounds and offsets of the kernel, computed from the first visible row of the query block (the word the
   body reads off the table of document starts): the trip count, the rows each trip visits, and that every access is
   in range when the word is not after the block. -/
module

public import proofs.«01_k».proof.Proof.Gen.Kernel
public import Idealize.ShloMosaic.Lib.Scf

@[expose] public section

set_option maxRecDepth 16384

namespace Cert.Kernel.Gen

open Idealize.ShloMosaic Idealize.SL.Sem

/-- The number of key windows of 256 rows query block `j` visits when its first visible row is `w`. -/
def nTrips (j w : Nat) : Nat := ((j + 1) * 128 - w / 128 * 128 + 255) / 256

/-- The first key row of window `k` of query block `j`. -/
def row0 (j k : Nat) : Nat := (j + 1) * 128 - (k + 1) * 256

theorem nTrips_pos {j w : Nat} (h : w ≤ j * 128) : 1 ≤ nTrips j w := by unfold nTrips; omega
theorem nTrips_le {j w : Nat} (h : j < 32) : nTrips j w ≤ 16 := by unfold nTrips; omega

/-- The quotient by 128 the body computes of the word. -/
def q128 (v5 : BitVec 32) : BitVec 32 :=
  Scalar.select (Scalar.andi (Scalar.cmpi .ne (Scalar.subi (Scalar.extui (Scalar.cmpi .sgt v5 0#32) : BitVec 32) (Scalar.extui (Scalar.cmpi .slt v5 0#32)))
    (Scalar.subi (Scalar.extui (Scalar.cmpi .sgt 128#32 0#32) : BitVec 32) (Scalar.extui (Scalar.cmpi .slt 128#32 0#32))))
    (Scalar.cmpi .ne (Scalar.remsi v5 128#32) 0#32)) (Scalar.subi (Scalar.divsi v5 128#32) 1#32) (Scalar.divsi v5 128#32)

/-- The trip count the body computes of the block number and that quotient. -/
def n256 (a2 v22 : BitVec 32) : BitVec 32 :=
  let v26 := Scalar.subi (Scalar.addi (Scalar.subi (Scalar.muli (Scalar.addi a2 1#32) 128#32) (Scalar.muli v22 128#32)) 256#32) 1#32
  Scalar.subi (Scalar.select (Scalar.andi (Scalar.cmpi .ne (Scalar.subi (Scalar.extui (Scalar.cmpi .sgt v26 0#32) : BitVec 32) (Scalar.extui (Scalar.cmpi .slt v26 0#32)))
    (Scalar.subi (Scalar.extui (Scalar.cmpi .sgt 256#32 0#32) : BitVec 32) (Scalar.extui (Scalar.cmpi .slt 256#32 0#32))))
    (Scalar.cmpi .ne (Scalar.remsi v26 256#32) 0#32)) (Scalar.subi (Scalar.divsi v26 256#32) 1#32) (Scalar.divsi v26 256#32)) 0#32

theorem q128_eq : ∀ w : Fin 4096, q128 (BitVec.ofNat 32 w.val) = BitVec.ofNat 32 (w.val / 128) := by decide +kernel

theorem n256_eq : ∀ j : Fin 32, ∀ q : Fin 32, q.val ≤ j.val →
    n256 (BitVec.ofNat 32 j.val) (BitVec.ofNat 32 q.val) = BitVec.ofNat 32 (((j.val + 1) * 128 - q.val * 128 + 255) / 256)
    ∧ Scalar.muli (Scalar.divsi (n256 (BitVec.ofNat 32 j.val) (BitVec.ofNat 32 q.val)) 1#32) 1#32 = BitVec.ofNat 32 (((j.val + 1) * 128 - q.val * 128 + 255) / 256) := by
  decide +kernel

theorem i2_lt (i : grid0.Coords) : (i 2).val < 32 := (i 2).isLt

theorem n256_word (j w : Nat) (hj : j < 32) (h : w ≤ j * 128) :
    n256 (BitVec.ofNat 32 j) (q128 (BitVec.ofNat 32 w)) = BitVec.ofNat 32 (nTrips j w)
    ∧ Scalar.muli (Scalar.divsi (n256 (BitVec.ofNat 32 j) (q128 (BitVec.ofNat 32 w))) 1#32) 1#32 = BitVec.ofNat 32 (nTrips j w) := by
  rw [q128_eq ⟨w, by omega⟩]
  exact n256_eq ⟨j, hj⟩ ⟨w / 128, by omega⟩ (by show w / 128 ≤ j; omega)

/-- The score loop runs `nTrips` trips from zero by one. -/
theorem t1_loop_eq (i : grid0.Coords) (w : Nat) (h : w ≤ (i 2).val * 128) :
    k0_t1_loop i (BitVec.ofNat 32 w) = ⟨0#32, BitVec.ofNat 32 (nTrips (i 2).val w), 1#32⟩ := by
  have e := (n256_word (i 2).val w (i2_lt i) h).2
  show (⟨0#32, Scalar.addi 0#32 (Scalar.muli (Scalar.divsi (n256 (BitVec.ofNat 32 (i 2).val) (q128 (BitVec.ofNat 32 w))) 1#32) 1#32), 1#32⟩ : Scf.Loop 32) = _
  rw [e]; simp [Scalar.addi, IntOp.addi]

theorem t3_loop_eq (i : grid0.Coords) (w : Nat) (h : w ≤ (i 2).val * 128) :
    k0_t3_loop i (BitVec.ofNat 32 w) = ⟨0#32, BitVec.ofNat 32 (nTrips (i 2).val w), 1#32⟩ := by
  have e := (n256_word (i 2).val w (i2_lt i) h).2
  show (⟨0#32, Scalar.addi 0#32 (Scalar.muli (Scalar.divsi (n256 (BitVec.ofNat 32 (i 2).val) (q128 (BitVec.ofNat 32 w))) 1#32) 1#32), 1#32⟩ : Scf.Loop 32) = _
  rw [e]; simp [Scalar.addi, IntOp.addi]

/-- The loop after each is empty. -/
theorem t2_loop_eq (i : grid0.Coords) (w : Nat) (h : w ≤ (i 2).val * 128) :
    k0_t2_loop i (BitVec.ofNat 32 w) = ⟨BitVec.ofNat 32 (nTrips (i 2).val w), BitVec.ofNat 32 (nTrips (i 2).val w), 1#32⟩ := by
  have e := n256_word (i 2).val w (i2_lt i) h
  show (⟨Scalar.addi 0#32 (Scalar.muli (Scalar.divsi (n256 (BitVec.ofNat 32 (i 2).val) (q128 (BitVec.ofNat 32 w))) 1#32) 1#32), Scalar.addi 0#32 (n256 (BitVec.ofNat 32 (i 2).val) (q128 (BitVec.ofNat 32 w))), 1#32⟩ : Scf.Loop 32) = _
  rw [e.2, e.1]; simp [Scalar.addi, IntOp.addi]

theorem t4_loop_eq (i : grid0.Coords) (w : Nat) (h : w ≤ (i 2).val * 128) :
    k0_t4_loop i (BitVec.ofNat 32 w) = ⟨BitVec.ofNat 32 (nTrips (i 2).val w), BitVec.ofNat 32 (nTrips (i 2).val w), 1#32⟩ := by
  have e := n256_word (i 2).val w (i2_lt i) h
  show (⟨Scalar.addi 0#32 (Scalar.muli (Scalar.divsi (n256 (BitVec.ofNat 32 (i 2).val) (q128 (BitVec.ofNat 32 w))) 1#32) 1#32), Scalar.addi 0#32 (n256 (BitVec.ofNat 32 (i 2).val) (q128 (BitVec.ofNat 32 w))), 1#32⟩ : Scf.Loop 32) = _
  rw [e.2, e.1]; simp [Scalar.addi, IntOp.addi]

theorem trips_up : ∀ n : Fin 17, Scf.trips 0#32 (BitVec.ofNat 32 n.val) 1#32 = n.val ∧ Scf.OK 0#32 (BitVec.ofNat 32 n.val) 1#32
    ∧ Scf.trips (BitVec.ofNat 32 n.val) (BitVec.ofNat 32 n.val) 1#32 = 0 ∧ Scf.OK (BitVec.ofNat 32 n.val) (BitVec.ofNat 32 n.val) 1#32 := by decide +kernel

theorem t1_trips (i : grid0.Coords) (w : Nat) (h : w ≤ (i 2).val * 128) : (k0_t1_loop i (BitVec.ofNat 32 w)).trips = nTrips (i 2).val w := by
  have := trips_up ⟨nTrips (i 2).val w, Nat.lt_succ_of_le (nTrips_le (i2_lt i))⟩
  rw [t1_loop_eq i w h]; exact this.1
theorem t3_trips (i : grid0.Coords) (w : Nat) (h : w ≤ (i 2).val * 128) : (k0_t3_loop i (BitVec.ofNat 32 w)).trips = nTrips (i 2).val w := by
  have := trips_up ⟨nTrips (i 2).val w, Nat.lt_succ_of_le (nTrips_le (i2_lt i))⟩
  rw [t3_loop_eq i w h]; exact this.1
theorem t2_trips (i : grid0.Coords) (w : Nat) (h : w ≤ (i 2).val * 128) : (k0_t2_loop i (BitVec.ofNat 32 w)).trips = 0 := by
  have := trips_up ⟨nTrips (i 2).val w, Nat.lt_succ_of_le (nTrips_le (i2_lt i))⟩
  rw [t2_loop_eq i w h]; exact this.2.2.1
theorem t4_trips (i : grid0.Coords) (w : Nat) (h : w ≤ (i 2).val * 128) : (k0_t4_loop i (BitVec.ofNat 32 w)).trips = 0 := by
  have := trips_up ⟨nTrips (i 2).val w, Nat.lt_succ_of_le (nTrips_le (i2_lt i))⟩
  rw [t4_loop_eq i w h]; exact this.2.2.1

/-- The row a trip starts at, as the body computes it. -/
def rowW (a2 : BitVec 32) (k : Nat) : BitVec 32 :=
  Scalar.maxsi (Scalar.subi (Scalar.muli (Scalar.addi a2 1#32) 128#32) (Scalar.muli (Scalar.addi (Scf.iv 0#32 1#32 k) 1#32) 256#32)) 0#32

theorem rowW_eq : ∀ j : Fin 32, ∀ k : Fin 17, rowW (BitVec.ofNat 32 j.val) k.val = BitVec.ofNat 32 (row0 j.val k.val)
    ∧ (BitVec.ofNat 32 (row0 j.val k.val)).toNat = row0 j.val k.val := by decide +kernel

theorem iv_eq : ∀ k : Fin 17, Scf.iv 0#32 1#32 k.val = BitVec.ofNat 32 k.val ∧ (BitVec.ofNat 32 k.val).toNat = k.val := by decide +kernel

theorem row0_lt (j k : Nat) (hj : j < 32) : row0 j k + 256 ≤ 4096 := by unfold row0; omega
theorem row0_dvd (j k : Nat) : 128 ∣ row0 j k := by unfold row0; omega

theorem chk_ok (i : grid0.Coords) (w : Nat) (h : w ≤ (i 2).val * 128) : k0_chk1 i (BitVec.ofNat 32 w) := by
  have hn := nTrips_le (w := w) (i2_lt i)
  have hok := trips_up ⟨nTrips (i 2).val w, Nat.lt_succ_of_le hn⟩
  have hr : ∀ k : Nat, k < nTrips (i 2).val w → rowW (BitVec.ofNat 32 (i 2).val) k = BitVec.ofNat 32 (row0 (i 2).val k) ∧ (BitVec.ofNat 32 (row0 (i 2).val k)).toNat = row0 (i 2).val k :=
    fun k hk => rowW_eq ⟨_, i2_lt i⟩ ⟨k, by omega⟩
  have hiv : ∀ k : Nat, k < nTrips (i 2).val w → Scf.iv 0#32 1#32 k = BitVec.ofNat 32 k ∧ (BitVec.ofNat 32 k).toNat = k := fun k hk => iv_eq ⟨k, by omega⟩
  have lt1 : ∀ k : Fin (k0_t1_loop i (BitVec.ofNat 32 w)).trips, k.val < nTrips (i 2).val w := fun k => by rw [← t1_trips i w h]; exact k.isLt
  have lt3 : ∀ k : Fin (k0_t3_loop i (BitVec.ofNat 32 w)).trips, k.val < nTrips (i 2).val w := fun k => by rw [← t3_trips i w h]; exact k.isLt
  have el2 : ∀ {P : Fin (k0_t2_loop i (BitVec.ofNat 32 w)).trips → Prop}, ∀ k, P k := fun k => absurd (lt_of_lt_of_eq k.isLt (t2_trips i w h)) (Nat.not_lt_zero _)
  have el4 : ∀ {P : Fin (k0_t4_loop i (BitVec.ofNat 32 w)).trips → Prop}, ∀ k, P k := fun k => absurd (lt_of_lt_of_eq k.isLt (t4_trips i w h)) (Nat.not_lt_zero _)
  have dv : ∀ k : Nat, k < nTrips (i 2).val w → 128 ∣ (rowW (BitVec.ofNat 32 (i 2).val) k).toNat := fun k hk => by
    rw [(hr k hk).1, (hr k hk).2]; exact row0_dvd _ _
  have rw4 : ∀ (e : Nat), e ≤ 128 → ∀ k : Nat, k < nTrips (i 2).val w → ∀ a : Fin 4, (![0, 0, (Scalar.indexCast (rowW (BitVec.ofNat 32 (i 2).val) k)).toNat, 0] : Fin 4 → Nat) a + (![1, 1, 256, e] : Fin 4 → Nat) a ≤ (![1, 1, 4096, e] : Fin 4 → Nat) a := fun e he k hk a => by
    have := row0_lt (i 2).val k (i2_lt i)
    fin_cases a
    · simp
    · simp
    · simp only [Scalar.indexCast, (hr k hk).1, (hr k hk).2]; simpa using this
    · simp
  have rw3 : ∀ (c : Nat), c + 256 ≤ 1024 → ∀ k : Nat, k < nTrips (i 2).val w → ∀ a : Fin 3, (![(Scalar.indexCast (Scf.iv 0#32 1#32 k)).toNat, 0, c] : Fin 3 → Nat) a + (![1, 256, 256] : Fin 3 → Nat) a ≤ (![17, 256, 1024] : Fin 3 → Nat) a := fun c hc k hk a => by
    fin_cases a
    · simp only [Scalar.indexCast, (hiv k hk).1, (hiv k hk).2]; show k + 1 ≤ 17; omega
    · simp
    · simpa using hc
  refine ⟨by rw [t1_loop_eq i w h]; exact hok.2.1, fun k => dv k (lt1 k), fun k => rw4 128 (by omega) k (lt1 k), fun k => rw4 1 (by omega) k (lt1 k),
    fun k => rw3 0 (by omega) k (lt1 k), fun k => rw3 256 (by omega) k (lt1 k), fun k => rw3 512 (by omega) k (lt1 k), fun k => rw3 768 (by omega) k (lt1 k),
    by rw [t2_loop_eq i w h]; exact hok.2.2.2, el2, el2, el2, el2, el2, el2, el2,
    by rw [t3_loop_eq i w h]; exact hok.2.1, fun k => dv k (lt3 k), fun k => rw4 128 (by omega) k (lt3 k),
    fun k => rw3 0 (by omega) k (lt3 k), fun k => rw3 256 (by omega) k (lt3 k), fun k => rw3 512 (by omega) k (lt3 k), fun k => rw3 768 (by omega) k (lt3 k),
    by rw [t4_loop_eq i w h]; exact hok.2.2.2, el4, el4, el4, el4, el4, el4⟩

end Cert.Kernel.Gen
-- ==== Proof.P.Runs.lean ====
/- What the runs of the kernel share: @main around the pipelined call, the staging and scratch memrefs, the prefetched
   table, the windows' blocks, and the frame of a run. -/
module

public import proofs.«01_k».proof.Proof.Gen.Kernel.Launch
public import proofs.«01_k».proof.Proof.Gen.Kernel.Skeleton
public import proofs.«01_k».proof.Proof.Gen.Kernel.Loops
public import proofs.«01_k».proof.Proof.P.Words
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)

/-- The kernel body at point `t`, on what the pipeline calls it with. -/
abbrev bodyAt0 (a : (pcfg0 (F := F)).Adm) (t : Fin (cfg0 a).N) : Prog (TpuEff nD τ sig (Elt F) Λ₀ .tc) PUnit :=
  cc0__attend (grid0.coords t) (Memref.whole main_v6) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _)

/-! ## @main around the region -/

abbrev V0 (c : Dev nD) : Valuation τ sig (Elt F) := StableHlo.after (List.flatten [hostOps0, hostOps0_1, hostOps0_2, hostOps0_3, hostOps0_4, hostOps0_5]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0, hostOps0_1, hostOps0_2, hostOps0_3, hostOps0_4, hostOps0_5] [hostOps1] ⟨hostOps0_sub, hostOps0_1_sub, hostOps0_2_sub, hostOps0_3_sub, hostOps0_4_sub, hostOps0_5_sub⟩
    ⟨hostOps0_fresh, hostOps0_1_fresh, hostOps0_2_fresh, hostOps0_3_fresh, hostOps0_4_fresh, hostOps0_5_fresh⟩ main_chain

/-- The lines after the region touch the pipeline's arrays and the bypassing buffers only: each operation's buffers
    are unscoped TensorCore references, none of them a prefetched table (`Pipeline.sub_tailRefs`). -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v18, main_v19, main_v20}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.TRef.nary, StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.TRef.nary, StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.TRef.nary, StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.TRef.nary, StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.TRef.nary, StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.TRef.nary, StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.TRef.nary, StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S4x4096 .i32 := Memref.whole main_v6
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

theorem W_main_arg1 (hO : Ok m) (dats : (p : Fin _) → (c : Dev nD) → Dat τ (Elt F) Unit ℕ (UR sig nD τ) ℕ ((Pipeline.pin pcfgs fun _ => adm m hO) p) c) (c : Dev nD)
    (hk : (∀ w, Pipeline.arrRef spec0 w ≠ main_arg1)) :
    Pipeline.afterTail pcfgs (fun _ => adm m hO) dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.reshape_writes, Finset.mem_singleton]
      repeat' apply And.intro
      all_goals exact StableHlo.devRef_ne_of_ne (by decide))),
    Pipeline.withArrays_of_ne _ c (V0 m c) _ main_arg1 hk]
  exact V_main_arg1 m c
theorem W_main_arg2 (hO : Ok m) (dats : (p : Fin _) → (c : Dev nD) → Dat τ (Elt F) Unit ℕ (UR sig nD τ) ℕ ((Pipeline.pin pcfgs fun _ => adm m hO) p) c) (c : Dev nD)
    (hk : (∀ w, Pipeline.arrRef spec0 w ≠ main_arg2)) :
    Pipeline.afterTail pcfgs (fun _ => adm m hO) dats 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.reshape_writes, Finset.mem_singleton]
      repeat' apply And.intro
      all_goals exact StableHlo.devRef_ne_of_ne (by decide))),
    Pipeline.withArrays_of_ne _ c (V0 m c) _ main_arg2 hk]
  exact V_main_arg2 m c
theorem W_main_arg3 (hO : Ok m) (dats : (p : Fin _) → (c : Dev nD) → Dat τ (Elt F) Unit ℕ (UR sig nD τ) ℕ ((Pipeline.pin pcfgs fun _ => adm m hO) p) c) (c : Dev nD)
    (hk : (∀ w, Pipeline.arrRef spec0 w ≠ main_arg3)) :
    Pipeline.afterTail pcfgs (fun _ => adm m hO) dats 0 (V0 m) [hostOps1] c main_arg3 = m ((c : Thread nD τ).loc main_arg3) := by
  unfold Pipeline.afterTail
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.reshape_writes, Finset.mem_singleton]
      repeat' apply And.intro
      all_goals exact StableHlo.devRef_ne_of_ne (by decide))),
    Pipeline.withArrays_of_ne _ c (V0 m c) _ main_arg3 hk]
  exact V_main_arg3 m c
theorem W_main_arg4 (hO : Ok m) (dats : (p : Fin _) → (c : Dev nD) → Dat τ (Elt F) Unit ℕ (UR sig nD τ) ℕ ((Pipeline.pin pcfgs fun _ => adm m hO) p) c) (c : Dev nD)
    (hk : (∀ w, Pipeline.arrRef spec0 w ≠ main_arg4)) :
    Pipeline.afterTail pcfgs (fun _ => adm m hO) dats 0 (V0 m) [hostOps1] c main_arg4 = m ((c : Thread nD τ).loc main_arg4) := by
  unfold Pipeline.afterTail
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.reshape_writes, Finset.mem_singleton]
      repeat' apply And.intro
      all_goals exact StableHlo.devRef_ne_of_ne (by decide))),
    Pipeline.withArrays_of_ne _ c (V0 m c) _ main_arg4 hk]
  exact V_main_arg4 m c
theorem W_main_arg6 (hO : Ok m) (dats : (p : Fin _) → (c : Dev nD) → Dat τ (Elt F) Unit ℕ (UR sig nD τ) ℕ ((Pipeline.pin pcfgs fun _ => adm m hO) p) c) (c : Dev nD)
    (hk : (∀ w, Pipeline.arrRef spec0 w ≠ main_arg6)) :
    Pipeline.afterTail pcfgs (fun _ => adm m hO) dats 0 (V0 m) [hostOps1] c main_arg6 = m ((c : Thread nD τ).loc main_arg6) := by
  unfold Pipeline.afterTail
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.reshape_writes, Finset.mem_singleton]
      repeat' apply And.intro
      all_goals exact StableHlo.devRef_ne_of_ne (by decide))),
    Pipeline.withArrays_of_ne _ c (V0 m c) _ main_arg6 hk]
  exact V_main_arg6 m c
/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The frame of a run. -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePostR ((Pipeline.pin pcfgs fun _ => adm m hO) 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePostR.arr_in h c 0 rfl).trans ((hA c 0).trans (V_main_arg0 m c)),
    ((h c).2 main_arg1 (by decide : main_arg1 ∈ Pipeline.restRefs sig spec0 \ T0)).trans (V_main_arg1 m c),
    ((h c).2 main_arg2 (by decide : main_arg2 ∈ Pipeline.restRefs sig spec0 \ T0)).trans (V_main_arg2 m c),
    ((h c).2 main_arg3 (by decide : main_arg3 ∈ Pipeline.restRefs sig spec0 \ T0)).trans (V_main_arg3 m c),
    ((h c).2 main_arg4 (by decide : main_arg4 ∈ Pipeline.restRefs sig spec0 \ T0)).trans (V_main_arg4 m c),
    (Pipeline.RDat.FramePostR.arr_in h c 6 rfl).trans ((hA c 6).trans (V_main_arg5 m c)),
    ((h c).2 main_arg6 (by decide : main_arg6 ∈ Pipeline.restRefs sig spec0 \ T0)).trans (V_main_arg6 m c)⟩) h

/-! ## The staging and scratch memrefs -/

abbrev ms0_0 (hO : Ok m) (t : Fin (cfgM m hO).N) : Memref sig .tc .vmem S1x128x8x128 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x1x1x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1x1024 .i32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x4096x128 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x4096x1 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x4096x128 .fp8e4m3 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .smem S4x2 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x128x8x128 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x1x1x1x1024 .f32 := spec0_8.stage ((cfgM m hO).slots t 8)
abbrev hs0_8 (hO : Ok m) (t : Fin (cfgM m hO).N) : (ms0_8 m hO t).IsWhole := hstage0_8 (((cfgM m hO).slots t 8).cast nbuf0_8)
abbrev scM0_0 : Memref sig .tc .vmem S17x256x1024 .f32 := Memref.whole cc0_scratch0
abbrev scM0_1 : Memref sig .tc .vmem S1x1024 .f32 := Memref.whole cc0_scratch1
abbrev scM0_2 : Memref sig .tc .vmem S1x1024 .f32 := Memref.whole cc0_scratch2
abbrev scM0_3 : Memref sig .tc .vmem S128x1024 .f32 := Memref.whole cc0_scratch3

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Gen

end
-- ==== Proof.P.Host.lean ====
/- What the host code before the launch puts in the table of document starts. -/
module
public import proofs.«01_k».proof.Proof.P.Runs
@[expose] public section
set_option maxRecDepth 16384
noncomputable section
namespace Cert.Kernel.Gen
open Idealize.ShloMosaic Idealize.ShloMosaic.TcCoe Idealize.ShloMosaic.Tactic Idealize.SL Idealize.SL.Sem
open Idealize.ShloMosaic.StableHlo
variable {F : FTy → Type} [FloatOps F] (m : (ℓ : Loc nD τ sig) → Buf (Elt F) ℓ)

/-- The padding of an array by no rows, as the host computes it. -/
def hPad0 (x : IVec S4x4096 32) : IVec S4x4096 32 :=
  concatenate S4x4096 0 [⟨S0x4096, shapeCast S0x4096 (broadcastInDim S1x0x4096 ![0, 2] bcast_S1x4096_S1x0x4096_0_2 (extractStridedSlice S1x4096 ![0, 0] x slices_S4x4096_S1x4096_0_0)) shapeCasts_S1x0x4096_S0x4096⟩,
    ⟨S4x4096, x⟩, ⟨S0x4096, shapeCast S0x4096 (broadcastInDim S1x0x4096 ![0, 2] bcast_S1x4096_S1x0x4096_0_2 (extractStridedSlice S1x4096 ![3, 0] x slices_S4x4096_S1x4096_3_0)) shapeCasts_S1x0x4096_S0x4096⟩] concatenates_S0x4096_S4x4096_S0x4096_S4x4096_d0
/-- The padding of an array by its first column, as the host computes it. -/
def hPad1 (y : IVec S4x4096 32) : IVec S4x4097 32 :=
  concatenate S4x4097 1 [⟨S4x1, shapeCast S4x1 (broadcastInDim S4x1x1 ![0, 1] bcast_S4x1_S4x1x1_0_1 (extractStridedSlice S4x1 ![0, 0] y slices_S4x4096_S4x1_0_0)) shapeCasts_S4x1x1_S4x1⟩,
    ⟨S4x4096, y⟩, ⟨S4x0, shapeCast S4x0 (broadcastInDim S4x1x0 ![0, 1] bcast_S4x1_S4x1x0_0_1 (extractStridedSlice S4x1 ![0, 4095] y slices_S4x4096_S4x1_0_4095)) shapeCasts_S4x1x0_S4x0⟩] concatenates_S4x1_S4x4096_S4x0_S4x4097_d1

/-- The two concatenations of the host's padding. -/
abbrev opA : HloOp τ sig (Elt F) :=
  StableHlo.TRef.nary (Ts := ![⟨S0x4096, .i32⟩, ⟨S4x4096, .i32⟩, ⟨S0x4096, .i32⟩]) (Fin.cons (.of main_call0_v2 : StableHlo.TRef sig ⟨S0x4096, .i32⟩) (Fin.cons (.of main_arg6 : StableHlo.TRef sig ⟨S4x4096, .i32⟩) (Fin.cons (.of main_call0_v5 : StableHlo.TRef sig ⟨S0x4096, .i32⟩) (fun k => k.elim0)))) (.of main_call0_v6 : StableHlo.TRef sig ⟨S4x4096, .i32⟩) (fun u => (concatenate S4x4096 0 [⟨S0x4096, (u 0 : (⟨S0x4096, .i32⟩ : BufTy).Contents (Elt F))⟩, ⟨S4x4096, (u 1 : (⟨S4x4096, .i32⟩ : BufTy).Contents (Elt F))⟩, ⟨S0x4096, (u 2 : (⟨S0x4096, .i32⟩ : BufTy).Contents (Elt F))⟩] concatenates_S0x4096_S4x4096_S0x4096_S4x4096_d0 : (⟨S4x4096, .i32⟩ : BufTy).Contents (Elt F)))
abbrev opB : HloOp τ sig (Elt F) :=
  StableHlo.TRef.nary (Ts := ![⟨S4x1, .i32⟩, ⟨S4x4096, .i32⟩, ⟨S4x0, .i32⟩]) (Fin.cons (.of main_call0_v9 : StableHlo.TRef sig ⟨S4x1, .i32⟩) (Fin.cons (.of main_call0_v6 : StableHlo.TRef sig ⟨S4x4096, .i32⟩) (Fin.cons (.of main_call0_v12 : StableHlo.TRef sig ⟨S4x0, .i32⟩) (fun k => k.elim0)))) (.of main_v1 : StableHlo.TRef sig ⟨S4x4097, .i32⟩) (fun u => (concatenate S4x4097 1 [⟨S4x1, (u 0 : (⟨S4x1, .i32⟩ : BufTy).Contents (Elt F))⟩, ⟨S4x4096, (u 1 : (⟨S4x4096, .i32⟩ : BufTy).Contents (Elt F))⟩, ⟨S4x0, (u 2 : (⟨S4x0, .i32⟩ : BufTy).Contents (Elt F))⟩] concatenates_S4x1_S4x4096_S4x0_S4x4097_d1 : (⟨S4x4097, .i32⟩ : BufTy).Contents (Elt F)))

theorem padA (V : Valuation τ sig (Elt F)) :
    StableHlo.after (hostOps0_1.take 7) V (Proc.devRef .tc main_call0_v6) = hPad0 (V (Proc.devRef .tc main_arg6)) := by
  show StableHlo.after (hostOps0_1.take 6 ++ [opA]) V (Proc.devRef .tc main_call0_v6) = _
  rw [StableHlo.after_append, StableHlo.after_cons, StableHlo.after_nil]
  have e1 : StableHlo.after (hostOps0_1.take 6) V (Proc.devRef .tc main_call0_v2) = shapeCast S0x4096 (broadcastInDim S1x0x4096 ![0, 2] bcast_S1x4096_S1x0x4096_0_2 (extractStridedSlice S1x4096 ![0, 0] (V (Proc.devRef .tc main_arg6)) slices_S4x4096_S1x4096_0_0)) shapeCasts_S1x0x4096_S0x4096 := by
    simp only [List.take, StableHlo.TRef.nary, StableHlo.TRef.nullary, StableHlo.TRef.unary, StableHlo.TRef.binary, StableHlo.TRef.ternary, StableHlo.TRef.reshape]
    after_results_simp
    rfl
  have e2 : StableHlo.after (hostOps0_1.take 6) V (Proc.devRef .tc main_arg6) = V (Proc.devRef .tc main_arg6) := by
    simp only [List.take, StableHlo.TRef.nary, StableHlo.TRef.nullary, StableHlo.TRef.unary, StableHlo.TRef.binary, StableHlo.TRef.ternary, StableHlo.TRef.reshape]
    after_results_simp
  have e3 : StableHlo.after (hostOps0_1.take 6) V (Proc.devRef .tc main_call0_v5) = shapeCast S0x4096 (broadcastInDim S1x0x4096 ![0, 2] bcast_S1x4096_S1x0x4096_0_2 (extractStridedSlice S1x4096 ![3, 0] (V (Proc.devRef .tc main_arg6)) slices_S4x4096_S1x4096_3_0)) shapeCasts_S1x0x4096_S0x4096 := by
    simp only [List.take, StableHlo.TRef.nary, StableHlo.TRef.nullary, StableHlo.TRef.unary, StableHlo.TRef.binary, StableHlo.TRef.ternary, StableHlo.TRef.reshape]
    after_results_simp
    rfl
  unfold hPad0
  rw [← e1, ← e3, ← e2]
  generalize StableHlo.after (hostOps0_1.take 6) V = G
  unfold opA StableHlo.TRef.nary
  rw [StableHlo.nary_result]
  rfl

theorem padB (V : Valuation τ sig (Elt F)) :
    StableHlo.after hostOps0_1 V (Proc.devRef .tc main_v1) = hPad1 (hPad0 (V (Proc.devRef .tc main_arg6))) := by
  show StableHlo.after (hostOps0_1.take 7 ++ ((hostOps0_1.drop 7).take 6 ++ [opB])) V (Proc.devRef .tc main_v1) = _
  rw [StableHlo.after_append, ← padA V]
  generalize StableHlo.after (hostOps0_1.take 7) V = W
  rw [StableHlo.after_append, StableHlo.after_cons, StableHlo.after_nil]
  have e1 : StableHlo.after ((hostOps0_1.drop 7).take 6) W (Proc.devRef .tc main_call0_v9) = shapeCast S4x1 (broadcastInDim S4x1x1 ![0, 1] bcast_S4x1_S4x1x1_0_1 (extractStridedSlice S4x1 ![0, 0] (W (Proc.devRef .tc main_call0_v6)) slices_S4x4096_S4x1_0_0)) shapeCasts_S4x1x1_S4x1 := by
    simp only [List.take, List.drop, StableHlo.TRef.nary, StableHlo.TRef.nullary, StableHlo.TRef.unary, StableHlo.TRef.binary, StableHlo.TRef.ternary, StableHlo.TRef.reshape]
    after_results_simp
    rfl
  have e2 : StableHlo.after ((hostOps0_1.drop 7).take 6) W (Proc.devRef .tc main_call0_v6) = W (Proc.devRef .tc main_call0_v6) := by
    simp only [List.take, List.drop, StableHlo.TRef.nary, StableHlo.TRef.nullary, StableHlo.TRef.unary, StableHlo.TRef.binary, StableHlo.TRef.ternary, StableHlo.TRef.reshape]
    after_results_simp
  have e3 : StableHlo.after ((hostOps0_1.drop 7).take 6) W (Proc.devRef .tc main_call0_v12) = shapeCast S4x0 (broadcastInDim S4x1x0 ![0, 1] bcast_S4x1_S4x1x0_0_1 (extractStridedSlice S4x1 ![0, 4095] (W (Proc.devRef .tc main_call0_v6)) slices_S4x4096_S4x1_0_4095)) shapeCasts_S4x1x0_S4x0 := by
    simp only [List.take, List.drop, StableHlo.TRef.nary, StableHlo.TRef.nullary, StableHlo.TRef.unary, StableHlo.TRef.binary, StableHlo.TRef.ternary, StableHlo.TRef.reshape]
    after_results_simp
    rfl
  unfold hPad1
  rw [← e1, ← e3, ← e2]
  generalize StableHlo.after ((hostOps0_1.drop 7).take 6) W = G
  unfold opB StableHlo.TRef.nary
  rw [StableHlo.nary_result]
  rfl

/-- The document starts the host marks: the position of a row whose segment differs from the row's before, else zero. -/
def hMark (x : IVec S4x4096 32) : IVec S4x4096 32 :=
  select (cmpi .ne x (extractStridedSlice S4x4096 ![0, 0] (hPad1 (hPad0 x)) slices_S4x4097_S4x4096_0_0))
    (broadcastInDim S4x4096 ![0, 1] bcast_S1x4096_S4x4096_0_1 (broadcastInDim S1x4096 ![1] bcast_S4096_S1x4096_1 (iotaInDim S4096 32 0)))
    (broadcastInDim S4x4096 ![] bcast_S_S4x4096 (constantI S_ 32 0#32))
/-- The table of document starts, as the host computes it. -/
def hStart (x : IVec S4x4096 32) : IVec S4x4096 32 :=
  Host.reduceWindow IntOp.maxsi ![1, 4096] ![1, 1] ![0, 4095] ![0, 0] (hMark x) (broadcastInDim S_ ![] bcast_S_S_ (constantI S_ 32 2147483648#32)) reduceWindows_S4x4096_S4x4096_w1s1p0_0_w4096s1p4095_0 h_S_

theorem keep (ops : List (HloOp τ sig (Elt F))) (V : Valuation τ sig (Elt F)) (r : Ref sig .tc) (h : ops.Forall fun op => Proc.devRef .tc r ∉ op.writes) :
    StableHlo.after ops V (Proc.devRef .tc r) = V (Proc.devRef .tc r) :=
  StableHlo.after_of_forall_not_mem (b := Proc.devRef .tc r) _ _ (List.forall_iff_forall_mem.mp h)

theorem st2_v3 (V : Valuation τ sig (Elt F)) : StableHlo.after hostOps0_2 V (Proc.devRef .tc main_v3)
    = cmpi .ne (V (Proc.devRef .tc main_arg6) : IVec S4x4096 32) (extractStridedSlice S4x4096 ![0, 0] (V (Proc.devRef .tc main_v1) : IVec S4x4097 32) slices_S4x4097_S4x4096_0_0) := by
  after_results_simp
theorem st2_v4 (V : Valuation τ sig (Elt F)) : StableHlo.after hostOps0_2 V (Proc.devRef .tc main_v4)
    = broadcastInDim S1x4096 ![1] bcast_S4096_S1x4096_1 (V (Proc.devRef .tc main_v0) : IVec S4096 32) := by
  after_results_simp
theorem st2_c (V : Valuation τ sig (Elt F)) : StableHlo.after hostOps0_2 V (Proc.devRef .tc main_c_0) = (constantI S_ 32 0#32) := by
  after_results_simp
theorem st3 (V : Valuation τ sig (Elt F)) : StableHlo.after hostOps0_3 V (Proc.devRef .tc main_v5)
    = select (V (Proc.devRef .tc main_v3) : IVec S4x4096 1) (broadcastInDim S4x4096 ![0, 1] bcast_S1x4096_S4x4096_0_1 (V (Proc.devRef .tc main_v4) : IVec S1x4096 32))
      (broadcastInDim S4x4096 ![] bcast_S_S4x4096 (V (Proc.devRef .tc main_c_0) : IVec S_ 32)) := by
  simp only [StableHlo.TRef.nullary, StableHlo.TRef.unary, StableHlo.TRef.binary, StableHlo.TRef.ternary, StableHlo.TRef.reshape]
  after_results_simp
  rfl
attribute [local irreducible] Host.reduceWindow in
theorem st4 (V : Valuation τ sig (Elt F)) : StableHlo.after hostOps0_4 V (Proc.devRef .tc main_v6)
    = Host.reduceWindow IntOp.maxsi ![1, 4096] ![1, 1] ![0, 4095] ![0, 0] (V (Proc.devRef .tc main_v5) : IVec S4x4096 32) (broadcastInDim S_ ![] bcast_S_S_ (constantI S_ 32 2147483648#32)) reduceWindows_S4x4096_S4x4096_w1s1p0_0_w4096s1p4095_0 h_S_ := by
  simp only [StableHlo.TRef.nullary, StableHlo.TRef.unary, StableHlo.TRef.binary, StableHlo.TRef.ternary, StableHlo.TRef.reshape]
  after_results_simp
  rfl

/-- The valuation before the last host lines. -/
abbrev V5 (c : Dev nD) : Valuation τ sig (Elt F) := StableHlo.after (hostOps0 ++ (hostOps0_1 ++ (hostOps0_2 ++ (hostOps0_3 ++ hostOps0_4)))) (fun b => m (c, b))
theorem V0_eq (c : Dev nD) : V0 m c = StableHlo.after hostOps0_5 (V5 m c) := by
  unfold V0 V5; simp only [List.flatten_cons, List.flatten_nil, List.append_nil, StableHlo.after_append]

theorem V5_v6 (c : Dev nD) : V5 m c (Proc.devRef .tc main_v6) = hStart (m ((c : Thread nD τ).loc main_arg6)) := by
  unfold V5
  simp only [StableHlo.after_append]
  rw [st4, st3, st2_v3, st2_v4, st2_c, padB,
    keep hostOps0_1 _ main_arg6, keep hostOps0_1 _ main_v0]
  · have e0 : StableHlo.after hostOps0 (fun b => m (c, b)) (Proc.devRef .tc main_v0) = iotaInDim S4096 32 0 := by
      after_results_simp
    have e1 : StableHlo.after hostOps0 (fun b => m (c, b)) (Proc.devRef .tc main_arg6) = (m ((c : Thread nD τ).loc main_arg6)) := by
      after_results_simp
    rw [e0, e1]; rfl
  all_goals
    simp only [hostOps0_1, List.Forall, StableHlo.TRef.nary, StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)

theorem V_v6 (c : Dev nD) : V m c main_v6 = hStart (m ((c : Thread nD τ).loc main_arg6)) := by
  unfold V; rw [V0_eq, keep, V5_v6]
  simp only [hostOps0_5, List.Forall, StableHlo.nullary_writes, StableHlo.unary_writes, StableHlo.binary_writes, StableHlo.ternary_writes, StableHlo.reshape_writes, StableHlo.nary_writes, Finset.mem_singleton]
  repeat' apply And.intro
  all_goals exact StableHlo.devRef_ne_of_ne (by decide)
end Cert.Kernel.Gen
-- ==== Proof.P.Run.lean ====
/- The body's run: on whole staging memrefs it reads its inputs, leaves them as they were, and hands back the outputs and
   scratch at some contents, given that the word it reads off the table passes the body's range check. -/
module

public import proofs.«01_k».proof.Proof.P.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The word the body reads off the table: the document start of the block's first row. -/
abbrev word0 (c : Dev nD) (i : grid0.Coords) (xt0 : TbBuf0 (F := F) c tbM0_0) : Elt F .i32 :=
  View.readAt (Elt F) tbM0_0.view (Rect.unit (s := S4x4096) (k0_off1 i) S1x1.size (k0_off1_inb i)).toLoadRect xt0 (Shape.Idx.first (by show 0 < S1x1.numel; decide))

set_option maxHeartbeats 4000000 in
theorem kernelRun0 (c : Dev nD) (i : grid0.Coords) (arg4 : Memref sig .tc .vmem S1x128x8x128 .fp8e4m3) (harg4 : arg4.IsWhole) (arg5 : Memref sig .tc .vmem S1x1x1x1x1024 .f32) (harg5 : arg5.IsWhole) (arg6 : Memref sig .tc .vmem S1x1x1x1024 .i32) (harg6 : arg6.IsWhole) (arg7 : Memref sig .tc .vmem S1x1x4096x128 .fp8e4m3) (harg7 : arg7.IsWhole) (arg8 : Memref sig .tc .vmem S1x1x4096x1 .f32) (harg8 : arg8.IsWhole) (arg9 : Memref sig .tc .vmem S1x1x4096x128 .fp8e4m3) (harg9 : arg9.IsWhole) (arg10 : Memref sig .tc .smem S4x2 .f32) (harg10 : arg10.IsWhole) (arg11 : Memref sig .tc .vmem S1x128x8x128 .bf16) (harg11 : arg11.IsWhole) (arg12 : Memref sig .tc .vmem S1x1x1x1x1024 .f32) (harg12 : arg12.IsWhole) (arg13 : Memref sig .tc .vmem S17x256x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S128x1024 .f32) (harg16 : arg16.IsWhole)
    (x0 : Vec F S1x128x8x128 .fp8e4m3) (x1 : Vec F S1x1x1x1x1024 .f32) (x2 : Vec F S1x1x1x1024 .i32) (x3 : Vec F S1x1x4096x128 .fp8e4m3) (x4 : Vec F S1x1x4096x1 .f32) (x5 : Vec F S1x1x4096x128 .fp8e4m3) (x6 : Vec F S4x2 .f32) (xt0 : TbBuf0 (F := F) c tbM0_0) (hw : k0_chk1 i (word0 c i xt0)) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0) -∗ K ⟨⟩))
          ⊢ wp frame (wpE (defs₀ (F := F)) Variants.none c none) E (cc0__attend i tbM0_0 htbM0_0 arg4 harg4 arg5 harg5 arg6 harg6 arg7 harg7 arg8 harg8 arg9 harg9 arg10 harg10 arg11 harg11 arg12 harg12 arg13 harg13 arg14 harg14 arg15 harg15 arg16 harg16) K := by
    intro E K
    simp only [cc0__attend_eq_skeleton]; unfold cc0__attend_skel
    unfold owns
    iintro ⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, HT0, Hk⟩
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    sl_exec (disch := exact hw)
    sl_step
    iapply Hk
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    iexact HT0

end Cert.Kernel.Gen

end
-- ==== Proof.P.Frame.lean ====
/- The frame of the kernel: the proof data of its pipeline (outputs not named), the body's obligation at every point, the run
   of @main and what it leaves in the argument arrays — given that every word the body reads off the table passes the body's
   range check (`Hyps`). -/
module

public import proofs.«01_k».proof.Proof.P.Run
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Every word the body reads off the table passes its range check. -/
def Hyps : Prop := ∀ (c : Dev nD) (i : grid0.Coords), k0_chk1 i (word0 (F := F) c i (tbl m 0))

def forgets0 : Fin 9 → Bool := fun w => w.val == 7 || w.val == 8

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, h⟩ => Pipeline.Dat.unnamed (cfg := (cfgM m hO)) ⟨7, h⟩ t
    | ⟨8, h⟩ => Pipeline.Dat.unnamed (cfg := (cfgM m hO)) ⟨8, h⟩ t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem after0_1 (hO : Ok m) (c : Dev nD) (t : Fin (cfgM m hO).N) : (dats m hO 0 c).after 1 t = iblk m hO c 1 t := by dsimp only [dats]; try rfl
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem after0_2 (hO : Ok m) (c : Dev nD) (t : Fin (cfgM m hO).N) : (dats m hO 0 c).after 2 t = iblk m hO c 2 t := by dsimp only [dats]; try rfl
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem after0_3 (hO : Ok m) (c : Dev nD) (t : Fin (cfgM m hO).N) : (dats m hO 0 c).after 3 t = iblk m hO c 3 t := by dsimp only [dats]; try rfl
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem after0_4 (hO : Ok m) (c : Dev nD) (t : Fin (cfgM m hO).N) : (dats m hO 0 c).after 4 t = iblk m hO c 4 t := by dsimp only [dats]; try rfl
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem after0_5 (hO : Ok m) (c : Dev nD) (t : Fin (cfgM m hO).N) : (dats m hO 0 c).after 5 t = iblk m hO c 5 t := by dsimp only [dats]; try rfl
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem after0_6 (hO : Ok m) (c : Dev nD) (t : Fin (cfgM m hO).N) : (dats m hO 0 c).after 6 t = iblk m hO c 6 t := by dsimp only [dats]; try rfl
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare d)
    ∗ (∃ d, owns (c : Thread nD τ) (ms0_8 m hO t) fullShare d))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ (∃ d, owns (c : Thread nD τ) (ms0_7 m hO t) fullShare d)
    ∗ (∃ d, owns (c : Thread nD τ) (ms0_8 m hO t) fullShare d))

set_option maxHeartbeats 1000000 in
theorem sound_body (hO : Ok m) (hH : Hyps m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6]
  rw [show (dats m hO 0 c).Φ t.castSucc = iprop(Pipeline.ΦA spec0 c ∗ Pipeline.ΦT pre0 (tbl m) c) from rfl, PhiT0_eq, PhiA0_eq]
  iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0 c (grid0.coords t) _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (hH c _)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  isplitl [HT0]; · iexact HT0
  iintro ⟨H0, H1, H2, H3, H4, H5, H6, H7, H8, HS0, HS1, HS2, HS3, HT0⟩
  isplitl [HS0 HS1 HS2 HS3 Hg HT0]
  · isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (hH : Hyps m) (c : Dev nD) : BodyObligation (dats (F := F) m hO 0 c) (defs₀ (F := F)) Variants.none () Set.univ forgets0 := fun t => by
  rw [bigSep_W0, bigSep_W0, defs₀_row m hO]
  exact triple_restated (sound_body m hO hH c t) rfl .rfl fun _ => .rfl

/-! ## The run and the frame -/

-- `θ_run_frameP_around_T_forget`'s implicit arguments are found by unifying its conclusion with this one, which takes unfolding plain
-- definitions in a metavariable's type
set_option backward.isDefEq.respectTransparency.types false in
set_option maxHeartbeats 800000 in
theorem run_main_quiescent (hO : Ok m) (hH : Hyps m) : θ_run defs (onTc (τ := τ) (main (F := F))) (s₀ m ρ) (fun r => (Pipeline.RDat.FramePostR ((Pipeline.pin pcfgs fun _ => adm m hO) 0) (fun c => (dats m hO 0 c).toRForget forgets0) T0 (V m)) r ∧ r.2.sem = fun _ => 0) :=
  Pipeline.θ_run_frameP_around_T_forget (Q' := _) pcfgs (fun _ => adm m hO) (dats m hO) (0 : Fin 1) launch0 defs₀ Variants.none forgets0 T0 m ρ main
    (hbody := fun c => (body_obligation m hO hH c).loose) (hshare := fun c => (dats m hO 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m hO) (hpf := V_pre m) (hΦ := fun _ _ => rfl)

theorem run_main (hO : Ok m) (hH : Hyps m) : θ_run defs (onTc (τ := τ) (main (F := F))) (s₀ m ρ) (Pipeline.RDat.FramePostR ((Pipeline.pin pcfgs fun _ => adm m hO) 0) (fun c => (dats m hO 0 c).toRForget forgets0) T0 (V m)) :=
  (θ_run defs _ _).mono (fun _ h => h.1) (run_main_quiescent m ρ hO hH)

theorem unchanged (hO : Ok m) (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (fun c => (dats m hO 0 c).toRForget forgets0) (A_eq m hO) (run_main m ρ hO hH)

theorem frame (hO : Ok m) (hH : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO hH) ((θ_run defs _ _).mono (fun _ h => h.2) (run_main_quiescent m ρ hO hH))

end Cert.Kernel.Gen

end
-- ==== Proof.P.Table.lean ====
/- The table of document starts the host computes: at each row it is one of the marks at or before the row, and at least
   every one of them; so it is at most the row, and every word the body reads off it passes the body's range check. -/
module
public import proofs.«01_k».proof.Proof.P.Host
public import proofs.«01_k».proof.Proof.P.Frame
public import Idealize.ShloMosaic.Lib.Pointwise
@[expose] public section
set_option maxRecDepth 16384
noncomputable section
namespace Cert.Kernel.Gen
open Idealize.ShloMosaic Idealize.ShloMosaic.TcCoe Idealize.ShloMosaic.Tactic Idealize.SL Idealize.SL.Sem
open Idealize.ShloMosaic.StableHlo

theorem hPad0_at (x : IVec S4x4096 32) (j : S4x4096.Idx) : hPad0 x j = x j := by
  unfold hPad0
  pointwise
  rw [dif_neg (by omega)]

/-- The row before `t`, itself at the first row. -/
def prevRow (t : Fin 4096) : Fin 4096 := ⟨t.val - 1, by omega⟩

theorem hPad1_at (x : IVec S4x4096 32) (b : Fin 4) (t : Fin 4096) : hPad1 x (ix2 b ⟨t.val, by omega⟩) = x (ix2 b (prevRow t)) := by
  unfold hPad1
  pointwise
  by_cases h : t.val < 1
  · rw [dif_pos h]; congr 2; exact Fin.ext (by simp [prevRow]; omega)
  · rw [dif_neg h, dif_pos (by omega)]; congr 2

theorem hMark_at (x : IVec S4x4096 32) (b : Fin 4) (t : Fin 4096) :
    hMark x (ix2 b t) = if x (ix2 b t) = x (ix2 b (prevRow t)) then 0#32 else BitVec.ofNat 32 t.val := by
  unfold hMark
  pointwise
  rw [hPad1_at, hPad0_at]
  by_cases h : x (ix2 b t) = x (ix2 b (prevRow t))
  · rw [if_pos h, h]; simp [Scalar.select, IntOp.cmpi]
  · rw [if_neg h]; have hb : (x (ix2 b t) != x (ix2 b (prevRow t))) = true := by rw [bne_iff_ne]; exact h
    simp only [Scalar.select, IntOp.cmpi, hb]; rfl

theorem toInt_small (n : Nat) (h : n < 4096) : (BitVec.ofNat 32 n).toInt = n := by
  rw [BitVec.toInt_eq_toNat_of_lt] <;> rw [BitVec.toNat_ofNat] <;> omega

theorem hMark_toInt (x : IVec S4x4096 32) (b : Fin 4) (t : Fin 4096) : 0 ≤ (hMark x (ix2 b t)).toInt ∧ (hMark x (ix2 b t)).toInt ≤ t.val := by
  rw [hMark_at]
  split
  · simp
  · rw [toInt_small _ t.isLt]; omega

theorem foldl_maxsi {ι : Type} (l : List ι) (g : ι → BitVec 32) (v : BitVec 32) :
    (l.foldl (fun r n => IntOp.maxsi r (g n)) v = v ∨ ∃ n ∈ l, l.foldl (fun r n => IntOp.maxsi r (g n)) v = g n)
    ∧ v.toInt ≤ (l.foldl (fun r n => IntOp.maxsi r (g n)) v).toInt
    ∧ ∀ n ∈ l, (g n).toInt ≤ (l.foldl (fun r n => IntOp.maxsi r (g n)) v).toInt := by
  have hm : ∀ a b : BitVec 32, (IntOp.maxsi a b = a ∨ IntOp.maxsi a b = b) ∧ a.toInt ≤ (IntOp.maxsi a b).toInt ∧ b.toInt ≤ (IntOp.maxsi a b).toInt := fun a b => by
    unfold IntOp.maxsi
    by_cases h : b.slt a = true
    · rw [if_pos h]; rw [BitVec.slt_iff_toInt_lt] at h; exact ⟨.inl rfl, le_rfl, by omega⟩
    · rw [if_neg h]; rw [BitVec.slt_iff_toInt_lt] at h; exact ⟨.inr rfl, by omega, le_rfl⟩
  induction l generalizing v with
  | nil => exact ⟨.inl rfl, le_rfl, fun _ h => by cases h⟩
  | cons a l ih =>
    obtain ⟨h1, h2, h3⟩ := ih (IntOp.maxsi v (g a))
    obtain ⟨m1, m2, m3⟩ := hm v (g a)
    simp only [List.foldl_cons]
    refine ⟨?_, m2.trans h2, fun n hn => ?_⟩
    · rcases h1 with h | ⟨n, hn, h⟩
      · rw [h]
        rcases m1 with e | e
        · exact .inl e
        · exact .inr ⟨a, List.mem_cons_self, e⟩
      · exact .inr ⟨n, List.mem_cons_of_mem _ hn, h⟩
    · rcases List.mem_cons.mp hn with rfl | hn
      · exact m3.trans h2
      · exact h3 n hn

/-- The running maximum over a window ending at row `p`, the window's positions before the first row holding `v`. -/
theorem window_max {N : Nat} (M : Fin 4096 → BitVec 32) (hM : ∀ t, 0 ≤ (M t).toInt) (p : Fin 4096) (e : Fin N → Nat) (he : ∀ n, e n < 4096)
    (hs : ∀ w, w < 4096 → ∃ n, e n = w) (v : BitVec 32) (hv : v.toInt < 0) (g : Fin N → BitVec 32)
    (hin : ∀ n (h : 4095 ≤ p.val + e n), g n = M ⟨p.val + e n - 4095, by have := he n; omega⟩) (hout : ∀ n, ¬ 4095 ≤ p.val + e n → g n = v) :
    (∃ t : Fin 4096, t.val ≤ p.val ∧ (List.finRange N).foldl (fun r n => IntOp.maxsi r (g n)) v = M t)
    ∧ ∀ t : Fin 4096, t.val ≤ p.val → (M t).toInt ≤ ((List.finRange N).foldl (fun r n => IntOp.maxsi r (g n)) v).toInt := by
  obtain ⟨h1, h2, h3⟩ := foldl_maxsi (List.finRange N) g v
  generalize (List.finRange N).foldl (fun r n => IntOp.maxsi r (g n)) v = z at h1 h2 h3 ⊢
  have hall : ∀ t : Fin 4096, t.val ≤ p.val → (M t).toInt ≤ z.toInt := fun t ht => by
    obtain ⟨n, hn⟩ := hs (4095 - p.val + t.val) (by omega)
    have := h3 n (List.mem_finRange _)
    rw [hin n (by omega)] at this
    have et : (⟨p.val + e n - 4095, by have := he n; omega⟩ : Fin 4096) = t := Fin.ext (by show p.val + e n - 4095 = t.val; omega)
    rw [et] at this
    exact this
  refine ⟨?_, hall⟩
  have hnv : z ≠ v := fun ez => by
    have a := hall p le_rfl
    have b' := hM p
    rw [ez] at a
    omega
  rcases h1 with h | ⟨n, -, h⟩
  · exact absurd h hnv
  · by_cases hc : 4095 ≤ p.val + e n
    · exact ⟨_, by have := he n; show p.val + e n - 4095 ≤ p.val; omega, h.trans (hin n hc)⟩
    · exact absurd (h.trans (hout n hc)) hnv

/-- The table at a row: one of the marks at or before it, and the greatest. -/
theorem hStart_spec (x : IVec S4x4096 32) (b : Fin 4) (p : Fin 4096) :
    (∃ t : Fin 4096, t.val ≤ p.val ∧ hStart x (ix2 b p) = hMark x (ix2 b t))
    ∧ ∀ t : Fin 4096, t.val ≤ p.val → (hMark x (ix2 b t)).toInt ≤ (hStart x (ix2 b p)).toInt := by
  unfold hStart Host.reduceWindow
  refine window_max (fun t => hMark x (ix2 b t)) (fun t => (hMark_toInt x b t).1) p (fun n => ((⟨2, ![1, 4096]⟩ : Shape).rowMajor.symm n 1).val)
    (fun n => ((⟨2, ![1, 4096]⟩ : Shape).rowMajor.symm n 1).isLt)
    (fun w hw => ⟨(⟨2, ![1, 4096]⟩ : Shape).rowMajor (ix2 0 ⟨w, hw⟩), by simp only [Equiv.symm_apply_apply]; rfl⟩)
    _ (show (2147483648#32 : BitVec 32).toInt < 0 by decide) _ (fun n h => ?_) (fun n h => ?_)
  · have w0 : ((⟨2, ![1, 4096]⟩ : Shape).rowMajor.symm n 0).val = 0 := Nat.lt_one_iff.mp ((⟨2, ![1, 4096]⟩ : Shape).rowMajor.symm n 0).isLt
    have w1 : ((⟨2, ![1, 4096]⟩ : Shape).rowMajor.symm n 1).val < 4096 := ((⟨2, ![1, 4096]⟩ : Shape).rowMajor.symm n 1).isLt
    refine (dif_pos ?_).trans (congrArg (hMark x) ?_)
    · intro a
      match a with
      | ⟨0, _⟩ => exact ⟨Nat.zero_le _, show b.val * 1 + ((⟨2, ![1, 4096]⟩ : Shape).rowMajor.symm n 0).val - 0 < 4 by omega⟩
      | ⟨1, _⟩ => exact ⟨show 4095 ≤ p.val * 1 + ((⟨2, ![1, 4096]⟩ : Shape).rowMajor.symm n 1).val by omega, show p.val * 1 + ((⟨2, ![1, 4096]⟩ : Shape).rowMajor.symm n 1).val - 4095 < 4096 by omega⟩
    · funext a
      refine Fin.ext ?_
      match a with
      | ⟨0, _⟩ => show b.val * 1 + ((⟨2, ![1, 4096]⟩ : Shape).rowMajor.symm n 0).val - 0 = b.val; omega
      | ⟨1, _⟩ => show p.val * 1 + ((⟨2, ![1, 4096]⟩ : Shape).rowMajor.symm n 1).val - 4095 = p.val + ((⟨2, ![1, 4096]⟩ : Shape).rowMajor.symm n 1).val - 4095; omega
  · refine dif_neg fun hc => h ?_
    have q : 4095 ≤ p.val * 1 + ((⟨2, ![1, 4096]⟩ : Shape).rowMajor.symm n 1).val := (hc 1).1
    omega

/-- The table is a row at or before its own. -/
theorem hStart_le (x : IVec S4x4096 32) (b : Fin 4) (p : Fin 4096) :
    hStart x (ix2 b p) = BitVec.ofNat 32 (hStart x (ix2 b p)).toNat ∧ (hStart x (ix2 b p)).toNat ≤ p.val := by
  obtain ⟨⟨t, ht, e⟩, -⟩ := hStart_spec x b p
  rw [e, hMark_at]
  split
  · exact ⟨rfl, Nat.zero_le _⟩
  · rw [BitVec.toNat_ofNat, Nat.mod_eq_of_lt (by omega)]; exact ⟨rfl, ht⟩

variable {F : FTy → Type} [FloatOps F] (m : (ℓ : Loc nD τ sig) → Buf (Elt F) ℓ)

theorem off1_eq (i : grid0.Coords) : k0_off1 i = ![(i 0).val, (i 2).val * 128] := by
  have h0 : (i 0).val < 4 := (i 0).isLt
  have h2 : (i 2).val < 32 := (i 2).isLt
  unfold k0_off1
  simp only [Scalar.indexCast, Scalar.muli, IntOp.muli]
  rw [BitVec.toNat_ofNat, Nat.mod_eq_of_lt (by omega), BitVec.toNat_mul, BitVec.toNat_ofNat, BitVec.toNat_ofNat, Nat.mod_eq_of_lt (a := (i 2).val) (by omega)]
  rw [Nat.mod_eq_of_lt (a := 128) (by omega), Nat.mod_eq_of_lt (by omega)]

/-- The first row of the query block of a point. -/
def qrow0 (i : grid0.Coords) : Fin 4096 := ⟨(i 2).val * 128, by have h2 : (i 2).val < 32 := (i 2).isLt; omega⟩

theorem word0_eq (c : Dev nD) (i : grid0.Coords) (xt : IVec S4x4096 32) : word0 (F := F) c i xt = xt (ix2 (i 0) (qrow0 i)) := by
  unfold word0
  show xt _ = xt _
  congr 1
  funext a
  refine Fin.ext ?_
  have e := off1_eq i
  match a with
  | ⟨0, _⟩ => show k0_off1 i 0 + 1 * 0 = _; rw [e]; rfl
  | ⟨1, _⟩ => show k0_off1 i 1 + 1 * 0 = _; rw [e]; rfl

theorem tbl_eq : (tbl m 0 : IVec S4x4096 32) = hStart (m (((0 : Dev nD) : Thread nD τ).loc main_arg6)) := V_v6 m 0

theorem chk_of (i : grid0.Coords) (z : BitVec 32) (w : Nat) (e : z = BitVec.ofNat 32 w) (h : w ≤ (i 2).val * 128) : k0_chk1 i z := by
  subst e; exact chk_ok i w h

theorem word0_tbl (c : Dev nD) (i : grid0.Coords) :
    (word0 (F := F) c i (tbl m 0) : BitVec 32) = hStart (m (((0 : Dev nD) : Thread nD τ).loc main_arg6)) (ix2 (i 0) (qrow0 i)) :=
  (word0_eq (F := F) c i (tbl m 0)).trans (congrFun (tbl_eq m) _)

theorem hyps : Hyps m := fun c i =>
  chk_of i _ _ ((word0_tbl m c i).trans (hStart_le _ (i 0) (qrow0 i)).1) (hStart_le _ (i 0) (qrow0 i)).2

end Cert.Kernel.Gen
end
-- ==== Proof.I.Words.lean ====
/- The loop bounds and offsets of the kernel, computed from the first visible row of the query block (the word the
   body reads off the table of document starts): the trip count, the rows each trip visits, and that every access is
   in range when the word is not after the block. -/
module

public import proofs.«01_k».proof.Proof.Gen.KernelIdeal
public import Idealize.ShloMosaic.Lib.Scf

@[expose] public section

set_option maxRecDepth 16384

namespace Cert.KernelIdeal.Gen

open Idealize.ShloMosaic Idealize.SL.Sem

/-- The number of key windows of 256 rows query block `j` visits when its first visible row is `w`. -/
def nTrips (j w : Nat) : Nat := ((j + 1) * 128 - w / 128 * 128 + 255) / 256

/-- The first key row of window `k` of query block `j`. -/
def row0 (j k : Nat) : Nat := (j + 1) * 128 - (k + 1) * 256

theorem nTrips_pos {j w : Nat} (h : w ≤ j * 128) : 1 ≤ nTrips j w := by unfold nTrips; omega
theorem nTrips_le {j w : Nat} (h : j < 32) : nTrips j w ≤ 16 := by unfold nTrips; omega

/-- The quotient by 128 the body computes of the word. -/
def q128 (v5 : BitVec 32) : BitVec 32 :=
  Scalar.select (Scalar.andi (Scalar.cmpi .ne (Scalar.subi (Scalar.extui (Scalar.cmpi .sgt v5 0#32) : BitVec 32) (Scalar.extui (Scalar.cmpi .slt v5 0#32)))
    (Scalar.subi (Scalar.extui (Scalar.cmpi .sgt 128#32 0#32) : BitVec 32) (Scalar.extui (Scalar.cmpi .slt 128#32 0#32))))
    (Scalar.cmpi .ne (Scalar.remsi v5 128#32) 0#32)) (Scalar.subi (Scalar.divsi v5 128#32) 1#32) (Scalar.divsi v5 128#32)

/-- The trip count the body computes of the block number and that quotient. -/
def n256 (a2 v22 : BitVec 32) : BitVec 32 :=
  let v26 := Scalar.subi (Scalar.addi (Scalar.subi (Scalar.muli (Scalar.addi a2 1#32) 128#32) (Scalar.muli v22 128#32)) 256#32) 1#32
  Scalar.subi (Scalar.select (Scalar.andi (Scalar.cmpi .ne (Scalar.subi (Scalar.extui (Scalar.cmpi .sgt v26 0#32) : BitVec 32) (Scalar.extui (Scalar.cmpi .slt v26 0#32)))
    (Scalar.subi (Scalar.extui (Scalar.cmpi .sgt 256#32 0#32) : BitVec 32) (Scalar.extui (Scalar.cmpi .slt 256#32 0#32))))
    (Scalar.cmpi .ne (Scalar.remsi v26 256#32) 0#32)) (Scalar.subi (Scalar.divsi v26 256#32) 1#32) (Scalar.divsi v26 256#32)) 0#32

theorem q128_eq : ∀ w : Fin 4096, q128 (BitVec.ofNat 32 w.val) = BitVec.ofNat 32 (w.val / 128) := by decide +kernel

theorem n256_eq : ∀ j : Fin 32, ∀ q : Fin 32, q.val ≤ j.val →
    n256 (BitVec.ofNat 32 j.val) (BitVec.ofNat 32 q.val) = BitVec.ofNat 32 (((j.val + 1) * 128 - q.val * 128 + 255) / 256)
    ∧ Scalar.muli (Scalar.divsi (n256 (BitVec.ofNat 32 j.val) (BitVec.ofNat 32 q.val)) 1#32) 1#32 = BitVec.ofNat 32 (((j.val + 1) * 128 - q.val * 128 + 255) / 256) := by
  decide +kernel

theorem i2_lt (i : grid0.Coords) : (i 2).val < 32 := (i 2).isLt

theorem n256_word (j w : Nat) (hj : j < 32) (h : w ≤ j * 128) :
    n256 (BitVec.ofNat 32 j) (q128 (BitVec.ofNat 32 w)) = BitVec.ofNat 32 (nTrips j w)
    ∧ Scalar.muli (Scalar.divsi (n256 (BitVec.ofNat 32 j) (q128 (BitVec.ofNat 32 w))) 1#32) 1#32 = BitVec.ofNat 32 (nTrips j w) := by
  rw [q128_eq ⟨w, by omega⟩]
  exact n256_eq ⟨j, hj⟩ ⟨w / 128, by omega⟩ (by show w / 128 ≤ j; omega)

/-- The score loop runs `nTrips` trips from zero by one. -/
theorem t1_loop_eq (i : grid0.Coords) (w : Nat) (h : w ≤ (i 2).val * 128) :
    k0_t1_loop i (BitVec.ofNat 32 w) = ⟨0#32, BitVec.ofNat 32 (nTrips (i 2).val w), 1#32⟩ := by
  have e := (n256_word (i 2).val w (i2_lt i) h).2
  show (⟨0#32, Scalar.addi 0#32 (Scalar.muli (Scalar.divsi (n256 (BitVec.ofNat 32 (i 2).val) (q128 (BitVec.ofNat 32 w))) 1#32) 1#32), 1#32⟩ : Scf.Loop 32) = _
  rw [e]; simp [Scalar.addi, IntOp.addi]

theorem t3_loop_eq (i : grid0.Coords) (w : Nat) (h : w ≤ (i 2).val * 128) :
    k0_t3_loop i (BitVec.ofNat 32 w) = ⟨0#32, BitVec.ofNat 32 (nTrips (i 2).val w), 1#32⟩ := by
  have e := (n256_word (i 2).val w (i2_lt i) h).2
  show (⟨0#32, Scalar.addi 0#32 (Scalar.muli (Scalar.divsi (n256 (BitVec.ofNat 32 (i 2).val) (q128 (BitVec.ofNat 32 w))) 1#32) 1#32), 1#32⟩ : Scf.Loop 32) = _
  rw [e]; simp [Scalar.addi, IntOp.addi]

/-- The loop after each is empty. -/
theorem t2_loop_eq (i : grid0.Coords) (w : Nat) (h : w ≤ (i 2).val * 128) :
    k0_t2_loop i (BitVec.ofNat 32 w) = ⟨BitVec.ofNat 32 (nTrips (i 2).val w), BitVec.ofNat 32 (nTrips (i 2).val w), 1#32⟩ := by
  have e := n256_word (i 2).val w (i2_lt i) h
  show (⟨Scalar.addi 0#32 (Scalar.muli (Scalar.divsi (n256 (BitVec.ofNat 32 (i 2).val) (q128 (BitVec.ofNat 32 w))) 1#32) 1#32), Scalar.addi 0#32 (n256 (BitVec.ofNat 32 (i 2).val) (q128 (BitVec.ofNat 32 w))), 1#32⟩ : Scf.Loop 32) = _
  rw [e.2, e.1]; simp [Scalar.addi, IntOp.addi]

theorem t4_loop_eq (i : grid0.Coords) (w : Nat) (h : w ≤ (i 2).val * 128) :
    k0_t4_loop i (BitVec.ofNat 32 w) = ⟨BitVec.ofNat 32 (nTrips (i 2).val w), BitVec.ofNat 32 (nTrips (i 2).val w), 1#32⟩ := by
  have e := n256_word (i 2).val w (i2_lt i) h
  show (⟨Scalar.addi 0#32 (Scalar.muli (Scalar.divsi (n256 (BitVec.ofNat 32 (i 2).val) (q128 (BitVec.ofNat 32 w))) 1#32) 1#32), Scalar.addi 0#32 (n256 (BitVec.ofNat 32 (i 2).val) (q128 (BitVec.ofNat 32 w))), 1#32⟩ : Scf.Loop 32) = _
  rw [e.2, e.1]; simp [Scalar.addi, IntOp.addi]

theorem trips_up : ∀ n : Fin 17, Scf.trips 0#32 (BitVec.ofNat 32 n.val) 1#32 = n.val ∧ Scf.OK 0#32 (BitVec.ofNat 32 n.val) 1#32
    ∧ Scf.trips (BitVec.ofNat 32 n.val) (BitVec.ofNat 32 n.val) 1#32 = 0 ∧ Scf.OK (BitVec.ofNat 32 n.val) (BitVec.ofNat 32 n.val) 1#32 := by decide +kernel

theorem t1_trips (i : grid0.Coords) (w : Nat) (h : w ≤ (i 2).val * 128) : (k0_t1_loop i (BitVec.ofNat 32 w)).trips = nTrips (i 2).val w := by
  have := trips_up ⟨nTrips (i 2).val w, Nat.lt_succ_of_le (nTrips_le (i2_lt i))⟩
  rw [t1_loop_eq i w h]; exact this.1
theorem t3_trips (i : grid0.Coords) (w : Nat) (h : w ≤ (i 2).val * 128) : (k0_t3_loop i (BitVec.ofNat 32 w)).trips = nTrips (i 2).val w := by
  have := trips_up ⟨nTrips (i 2).val w, Nat.lt_succ_of_le (nTrips_le (i2_lt i))⟩
  rw [t3_loop_eq i w h]; exact this.1
theorem t2_trips (i : grid0.Coords) (w : Nat) (h : w ≤ (i 2).val * 128) : (k0_t2_loop i (BitVec.ofNat 32 w)).trips = 0 := by
  have := trips_up ⟨nTrips (i 2).val w, Nat.lt_succ_of_le (nTrips_le (i2_lt i))⟩
  rw [t2_loop_eq i w h]; exact this.2.2.1
theorem t4_trips (i : grid0.Coords) (w : Nat) (h : w ≤ (i 2).val * 128) : (k0_t4_loop i (BitVec.ofNat 32 w)).trips = 0 := by
  have := trips_up ⟨nTrips (i 2).val w, Nat.lt_succ_of_le (nTrips_le (i2_lt i))⟩
  rw [t4_loop_eq i w h]; exact this.2.2.1

/-- The row a trip starts at, as the body computes it. -/
def rowW (a2 : BitVec 32) (k : Nat) : BitVec 32 :=
  Scalar.maxsi (Scalar.subi (Scalar.muli (Scalar.addi a2 1#32) 128#32) (Scalar.muli (Scalar.addi (Scf.iv 0#32 1#32 k) 1#32) 256#32)) 0#32

theorem rowW_eq : ∀ j : Fin 32, ∀ k : Fin 17, rowW (BitVec.ofNat 32 j.val) k.val = BitVec.ofNat 32 (row0 j.val k.val)
    ∧ (BitVec.ofNat 32 (row0 j.val k.val)).toNat = row0 j.val k.val := by decide +kernel

theorem iv_eq : ∀ k : Fin 17, Scf.iv 0#32 1#32 k.val = BitVec.ofNat 32 k.val ∧ (BitVec.ofNat 32 k.val).toNat = k.val := by decide +kernel

theorem row0_lt (j k : Nat) (hj : j < 32) : row0 j k + 256 ≤ 4096 := by unfold row0; omega
theorem row0_dvd (j k : Nat) : 128 ∣ row0 j k := by unfold row0; omega

theorem chk_ok (i : grid0.Coords) (w : Nat) (h : w ≤ (i 2).val * 128) : k0_chk1 i (BitVec.ofNat 32 w) := by
  have hn := nTrips_le (w := w) (i2_lt i)
  have hok := trips_up ⟨nTrips (i 2).val w, Nat.lt_succ_of_le hn⟩
  have hr : ∀ k : Nat, k < nTrips (i 2).val w → rowW (BitVec.ofNat 32 (i 2).val) k = BitVec.ofNat 32 (row0 (i 2).val k) ∧ (BitVec.ofNat 32 (row0 (i 2).val k)).toNat = row0 (i 2).val k :=
    fun k hk => rowW_eq ⟨_, i2_lt i⟩ ⟨k, by omega⟩
  have hiv : ∀ k : Nat, k < nTrips (i 2).val w → Scf.iv 0#32 1#32 k = BitVec.ofNat 32 k ∧ (BitVec.ofNat 32 k).toNat = k := fun k hk => iv_eq ⟨k, by omega⟩
  have lt1 : ∀ k : Fin (k0_t1_loop i (BitVec.ofNat 32 w)).trips, k.val < nTrips (i 2).val w := fun k => by rw [← t1_trips i w h]; exact k.isLt
  have lt3 : ∀ k : Fin (k0_t3_loop i (BitVec.ofNat 32 w)).trips, k.val < nTrips (i 2).val w := fun k => by rw [← t3_trips i w h]; exact k.isLt
  have el2 : ∀ {P : Fin (k0_t2_loop i (BitVec.ofNat 32 w)).trips → Prop}, ∀ k, P k := fun k => absurd (lt_of_lt_of_eq k.isLt (t2_trips i w h)) (Nat.not_lt_zero _)
  have el4 : ∀ {P : Fin (k0_t4_loop i (BitVec.ofNat 32 w)).trips → Prop}, ∀ k, P k := fun k => absurd (lt_of_lt_of_eq k.isLt (t4_trips i w h)) (Nat.not_lt_zero _)
  have dv : ∀ k : Nat, k < nTrips (i 2).val w → 128 ∣ (rowW (BitVec.ofNat 32 (i 2).val) k).toNat := fun k hk => by
    rw [(hr k hk).1, (hr k hk).2]; exact row0_dvd _ _
  have rw4 : ∀ (e : Nat), e ≤ 128 → ∀ k : Nat, k < nTrips (i 2).val w → ∀ a : Fin 4, (![0, 0, (Scalar.indexCast (rowW (BitVec.ofNat 32 (i 2).val) k)).toNat, 0] : Fin 4 → Nat) a + (![1, 1, 256, e] : Fin 4 → Nat) a ≤ (![1, 1, 4096, e] : Fin 4 → Nat) a := fun e he k hk a => by
    have := row0_lt (i 2).val k (i2_lt i)
    fin_cases a
    · simp
    · simp
    · simp only [Scalar.indexCast, (hr k hk).1, (hr k hk).2]; simpa using this
    · simp
  have rw3 : ∀ (c : Nat), c + 256 ≤ 1024 → ∀ k : Nat, k < nTrips (i 2).val w → ∀ a : Fin 3, (![(Scalar.indexCast (Scf.iv 0#32 1#32 k)).toNat, 0, c] : Fin 3 → Nat) a + (![1, 256, 256] : Fin 3 → Nat) a ≤ (![17, 256, 1024] : Fin 3 → Nat) a := fun c hc k hk a => by
    fin_cases a
    · simp only [Scalar.indexCast, (hiv k hk).1, (hiv k hk).2]; show k + 1 ≤ 17; omega
    · simp
    · simpa using hc
  refine ⟨by rw [t1_loop_eq i w h]; exact hok.2.1, fun k => dv k (lt1 k), fun k => rw4 128 (by omega) k (lt1 k), fun k => rw4 1 (by omega) k (lt1 k),
    fun k => rw3 0 (by omega) k (lt1 k), fun k => rw3 256 (by omega) k (lt1 k), fun k => rw3 512 (by omega) k (lt1 k), fun k => rw3 768 (by omega) k (lt1 k),
    by rw [t2_loop_eq i w h]; exact hok.2.2.2, el2, el2, el2, el2, el2, el2, el2,
    by rw [t3_loop_eq i w h]; exact hok.2.1, fun k => dv k (lt3 k), fun k => rw4 128 (by omega) k (lt3 k),
    fun k => rw3 0 (by omega) k (lt3 k), fun k => rw3 256 (by omega) k (lt3 k), fun k => rw3 512 (by omega) k (lt3 k), fun k => rw3 768 (by omega) k (lt3 k),
    by rw [t4_loop_eq i w h]; exact hok.2.2.2, el4, el4, el4, el4, el4, el4⟩

end Cert.KernelIdeal.Gen
-- ==== Proof.I.Runs.lean ====
/- What the runs of the kernel share: @main around the pipelined call, the staging and scratch memrefs, the prefetched
   table, the windows' blocks, and the frame of a run. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.I.Words
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)

/-- The kernel body at point `t`, on what the pipeline calls it with. -/
abbrev bodyAt0 (a : (pcfg0 (F := F)).Adm) (t : Fin (cfg0 a).N) : Prog (TpuEff nD τ sig (Elt F) Λ₀ .tc) PUnit :=
  cc0__attend (grid0.coords t) (Memref.whole main_v6) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _)

/-! ## @main around the region -/

abbrev V0 (c : Dev nD) : Valuation τ sig (Elt F) := StableHlo.after (List.flatten [hostOps0, hostOps0_1, hostOps0_2, hostOps0_3, hostOps0_4, hostOps0_5]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0, hostOps0_1, hostOps0_2, hostOps0_3, hostOps0_4, hostOps0_5] [hostOps1] ⟨hostOps0_sub, hostOps0_1_sub, hostOps0_2_sub, hostOps0_3_sub, hostOps0_4_sub, hostOps0_5_sub⟩
    ⟨hostOps0_fresh, hostOps0_1_fresh, hostOps0_2_fresh, hostOps0_3_fresh, hostOps0_4_fresh, hostOps0_5_fresh⟩ main_chain

/-- The lines after the region touch the pipeline's arrays and the bypassing buffers only: each operation's buffers
    are unscoped TensorCore references, none of them a prefetched table (`Pipeline.sub_tailRefs`). -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v18, main_v19, main_v20}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.TRef.nary, StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.TRef.nary, StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.TRef.nary, StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.TRef.nary, StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.TRef.nary, StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.TRef.nary, StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.TRef.nary, StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S4x4096 .i32 := Memref.whole main_v6
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

theorem W_main_arg1 (hO : Ok m) (dats : (p : Fin _) → (c : Dev nD) → Dat τ (Elt F) Unit ℕ (UR sig nD τ) ℕ ((Pipeline.pin pcfgs fun _ => adm m hO) p) c) (c : Dev nD)
    (hk : (∀ w, Pipeline.arrRef spec0 w ≠ main_arg1)) :
    Pipeline.afterTail pcfgs (fun _ => adm m hO) dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.reshape_writes, Finset.mem_singleton]
      repeat' apply And.intro
      all_goals exact StableHlo.devRef_ne_of_ne (by decide))),
    Pipeline.withArrays_of_ne _ c (V0 m c) _ main_arg1 hk]
  exact V_main_arg1 m c
theorem W_main_arg2 (hO : Ok m) (dats : (p : Fin _) → (c : Dev nD) → Dat τ (Elt F) Unit ℕ (UR sig nD τ) ℕ ((Pipeline.pin pcfgs fun _ => adm m hO) p) c) (c : Dev nD)
    (hk : (∀ w, Pipeline.arrRef spec0 w ≠ main_arg2)) :
    Pipeline.afterTail pcfgs (fun _ => adm m hO) dats 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.reshape_writes, Finset.mem_singleton]
      repeat' apply And.intro
      all_goals exact StableHlo.devRef_ne_of_ne (by decide))),
    Pipeline.withArrays_of_ne _ c (V0 m c) _ main_arg2 hk]
  exact V_main_arg2 m c
theorem W_main_arg3 (hO : Ok m) (dats : (p : Fin _) → (c : Dev nD) → Dat τ (Elt F) Unit ℕ (UR sig nD τ) ℕ ((Pipeline.pin pcfgs fun _ => adm m hO) p) c) (c : Dev nD)
    (hk : (∀ w, Pipeline.arrRef spec0 w ≠ main_arg3)) :
    Pipeline.afterTail pcfgs (fun _ => adm m hO) dats 0 (V0 m) [hostOps1] c main_arg3 = m ((c : Thread nD τ).loc main_arg3) := by
  unfold Pipeline.afterTail
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.reshape_writes, Finset.mem_singleton]
      repeat' apply And.intro
      all_goals exact StableHlo.devRef_ne_of_ne (by decide))),
    Pipeline.withArrays_of_ne _ c (V0 m c) _ main_arg3 hk]
  exact V_main_arg3 m c
theorem W_main_arg4 (hO : Ok m) (dats : (p : Fin _) → (c : Dev nD) → Dat τ (Elt F) Unit ℕ (UR sig nD τ) ℕ ((Pipeline.pin pcfgs fun _ => adm m hO) p) c) (c : Dev nD)
    (hk : (∀ w, Pipeline.arrRef spec0 w ≠ main_arg4)) :
    Pipeline.afterTail pcfgs (fun _ => adm m hO) dats 0 (V0 m) [hostOps1] c main_arg4 = m ((c : Thread nD τ).loc main_arg4) := by
  unfold Pipeline.afterTail
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.reshape_writes, Finset.mem_singleton]
      repeat' apply And.intro
      all_goals exact StableHlo.devRef_ne_of_ne (by decide))),
    Pipeline.withArrays_of_ne _ c (V0 m c) _ main_arg4 hk]
  exact V_main_arg4 m c
theorem W_main_arg6 (hO : Ok m) (dats : (p : Fin _) → (c : Dev nD) → Dat τ (Elt F) Unit ℕ (UR sig nD τ) ℕ ((Pipeline.pin pcfgs fun _ => adm m hO) p) c) (c : Dev nD)
    (hk : (∀ w, Pipeline.arrRef spec0 w ≠ main_arg6)) :
    Pipeline.afterTail pcfgs (fun _ => adm m hO) dats 0 (V0 m) [hostOps1] c main_arg6 = m ((c : Thread nD τ).loc main_arg6) := by
  unfold Pipeline.afterTail
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.reshape_writes, Finset.mem_singleton]
      repeat' apply And.intro
      all_goals exact StableHlo.devRef_ne_of_ne (by decide))),
    Pipeline.withArrays_of_ne _ c (V0 m c) _ main_arg6 hk]
  exact V_main_arg6 m c
/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The frame of a run. -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePostR ((Pipeline.pin pcfgs fun _ => adm m hO) 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePostR.arr_in h c 0 rfl).trans ((hA c 0).trans (V_main_arg0 m c)),
    ((h c).2 main_arg1 (by decide : main_arg1 ∈ Pipeline.restRefs sig spec0 \ T0)).trans (V_main_arg1 m c),
    ((h c).2 main_arg2 (by decide : main_arg2 ∈ Pipeline.restRefs sig spec0 \ T0)).trans (V_main_arg2 m c),
    ((h c).2 main_arg3 (by decide : main_arg3 ∈ Pipeline.restRefs sig spec0 \ T0)).trans (V_main_arg3 m c),
    ((h c).2 main_arg4 (by decide : main_arg4 ∈ Pipeline.restRefs sig spec0 \ T0)).trans (V_main_arg4 m c),
    (Pipeline.RDat.FramePostR.arr_in h c 6 rfl).trans ((hA c 6).trans (V_main_arg5 m c)),
    ((h c).2 main_arg6 (by decide : main_arg6 ∈ Pipeline.restRefs sig spec0 \ T0)).trans (V_main_arg6 m c)⟩) h

/-! ## The staging and scratch memrefs -/

abbrev ms0_0 (hO : Ok m) (t : Fin (cfgM m hO).N) : Memref sig .tc .vmem S1x128x8x128 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x1x1x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1x1024 .i32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x4096x128 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x4096x1 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x4096x128 .fp8e4m3 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .smem S4x2 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x128x8x128 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x1x1x1x1024 .f32 := spec0_8.stage ((cfgM m hO).slots t 8)
abbrev hs0_8 (hO : Ok m) (t : Fin (cfgM m hO).N) : (ms0_8 m hO t).IsWhole := hstage0_8 (((cfgM m hO).slots t 8).cast nbuf0_8)
abbrev scM0_0 : Memref sig .tc .vmem S17x256x1024 .f32 := Memref.whole cc0_scratch0
abbrev scM0_1 : Memref sig .tc .vmem S1x1024 .f32 := Memref.whole cc0_scratch1
abbrev scM0_2 : Memref sig .tc .vmem S1x1024 .f32 := Memref.whole cc0_scratch2
abbrev scM0_3 : Memref sig .tc .vmem S128x1024 .f32 := Memref.whole cc0_scratch3

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Gen

end
-- ==== Proof.I.Host.lean ====
/- What the host code before the launch puts in the table of document starts. -/
module
public import proofs.«01_k».proof.Proof.I.Runs
@[expose] public section
set_option maxRecDepth 16384
noncomputable section
namespace Cert.KernelIdeal.Gen
open Idealize.ShloMosaic Idealize.ShloMosaic.TcCoe Idealize.ShloMosaic.Tactic Idealize.SL Idealize.SL.Sem
open Idealize.ShloMosaic.StableHlo
variable {F : FTy → Type} [FloatOps F] (m : (ℓ : Loc nD τ sig) → Buf (Elt F) ℓ)

/-- The padding of an array by no rows, as the host computes it. -/
def hPad0 (x : IVec S4x4096 32) : IVec S4x4096 32 :=
  concatenate S4x4096 0 [⟨S0x4096, shapeCast S0x4096 (broadcastInDim S1x0x4096 ![0, 2] bcast_S1x4096_S1x0x4096_0_2 (extractStridedSlice S1x4096 ![0, 0] x slices_S4x4096_S1x4096_0_0)) shapeCasts_S1x0x4096_S0x4096⟩,
    ⟨S4x4096, x⟩, ⟨S0x4096, shapeCast S0x4096 (broadcastInDim S1x0x4096 ![0, 2] bcast_S1x4096_S1x0x4096_0_2 (extractStridedSlice S1x4096 ![3, 0] x slices_S4x4096_S1x4096_3_0)) shapeCasts_S1x0x4096_S0x4096⟩] concatenates_S0x4096_S4x4096_S0x4096_S4x4096_d0
/-- The padding of an array by its first column, as the host computes it. -/
def hPad1 (y : IVec S4x4096 32) : IVec S4x4097 32 :=
  concatenate S4x4097 1 [⟨S4x1, shapeCast S4x1 (broadcastInDim S4x1x1 ![0, 1] bcast_S4x1_S4x1x1_0_1 (extractStridedSlice S4x1 ![0, 0] y slices_S4x4096_S4x1_0_0)) shapeCasts_S4x1x1_S4x1⟩,
    ⟨S4x4096, y⟩, ⟨S4x0, shapeCast S4x0 (broadcastInDim S4x1x0 ![0, 1] bcast_S4x1_S4x1x0_0_1 (extractStridedSlice S4x1 ![0, 4095] y slices_S4x4096_S4x1_0_4095)) shapeCasts_S4x1x0_S4x0⟩] concatenates_S4x1_S4x4096_S4x0_S4x4097_d1

/-- The two concatenations of the host's padding. -/
abbrev opA : HloOp τ sig (Elt F) :=
  StableHlo.TRef.nary (Ts := ![⟨S0x4096, .i32⟩, ⟨S4x4096, .i32⟩, ⟨S0x4096, .i32⟩]) (Fin.cons (.of main_call0_v2 : StableHlo.TRef sig ⟨S0x4096, .i32⟩) (Fin.cons (.of main_arg6 : StableHlo.TRef sig ⟨S4x4096, .i32⟩) (Fin.cons (.of main_call0_v5 : StableHlo.TRef sig ⟨S0x4096, .i32⟩) (fun k => k.elim0)))) (.of main_call0_v6 : StableHlo.TRef sig ⟨S4x4096, .i32⟩) (fun u => (concatenate S4x4096 0 [⟨S0x4096, (u 0 : (⟨S0x4096, .i32⟩ : BufTy).Contents (Elt F))⟩, ⟨S4x4096, (u 1 : (⟨S4x4096, .i32⟩ : BufTy).Contents (Elt F))⟩, ⟨S0x4096, (u 2 : (⟨S0x4096, .i32⟩ : BufTy).Contents (Elt F))⟩] concatenates_S0x4096_S4x4096_S0x4096_S4x4096_d0 : (⟨S4x4096, .i32⟩ : BufTy).Contents (Elt F)))
abbrev opB : HloOp τ sig (Elt F) :=
  StableHlo.TRef.nary (Ts := ![⟨S4x1, .i32⟩, ⟨S4x4096, .i32⟩, ⟨S4x0, .i32⟩]) (Fin.cons (.of main_call0_v9 : StableHlo.TRef sig ⟨S4x1, .i32⟩) (Fin.cons (.of main_call0_v6 : StableHlo.TRef sig ⟨S4x4096, .i32⟩) (Fin.cons (.of main_call0_v12 : StableHlo.TRef sig ⟨S4x0, .i32⟩) (fun k => k.elim0)))) (.of main_v1 : StableHlo.TRef sig ⟨S4x4097, .i32⟩) (fun u => (concatenate S4x4097 1 [⟨S4x1, (u 0 : (⟨S4x1, .i32⟩ : BufTy).Contents (Elt F))⟩, ⟨S4x4096, (u 1 : (⟨S4x4096, .i32⟩ : BufTy).Contents (Elt F))⟩, ⟨S4x0, (u 2 : (⟨S4x0, .i32⟩ : BufTy).Contents (Elt F))⟩] concatenates_S4x1_S4x4096_S4x0_S4x4097_d1 : (⟨S4x4097, .i32⟩ : BufTy).Contents (Elt F)))

theorem padA (V : Valuation τ sig (Elt F)) :
    StableHlo.after (hostOps0_1.take 7) V (Proc.devRef .tc main_call0_v6) = hPad0 (V (Proc.devRef .tc main_arg6)) := by
  show StableHlo.after (hostOps0_1.take 6 ++ [opA]) V (Proc.devRef .tc main_call0_v6) = _
  rw [StableHlo.after_append, StableHlo.after_cons, StableHlo.after_nil]
  have e1 : StableHlo.after (hostOps0_1.take 6) V (Proc.devRef .tc main_call0_v2) = shapeCast S0x4096 (broadcastInDim S1x0x4096 ![0, 2] bcast_S1x4096_S1x0x4096_0_2 (extractStridedSlice S1x4096 ![0, 0] (V (Proc.devRef .tc main_arg6)) slices_S4x4096_S1x4096_0_0)) shapeCasts_S1x0x4096_S0x4096 := by
    simp only [List.take, StableHlo.TRef.nary, StableHlo.TRef.nullary, StableHlo.TRef.unary, StableHlo.TRef.binary, StableHlo.TRef.ternary, StableHlo.TRef.reshape]
    after_results_simp
    rfl
  have e2 : StableHlo.after (hostOps0_1.take 6) V (Proc.devRef .tc main_arg6) = V (Proc.devRef .tc main_arg6) := by
    simp only [List.take, StableHlo.TRef.nary, StableHlo.TRef.nullary, StableHlo.TRef.unary, StableHlo.TRef.binary, StableHlo.TRef.ternary, StableHlo.TRef.reshape]
    after_results_simp
  have e3 : StableHlo.after (hostOps0_1.take 6) V (Proc.devRef .tc main_call0_v5) = shapeCast S0x4096 (broadcastInDim S1x0x4096 ![0, 2] bcast_S1x4096_S1x0x4096_0_2 (extractStridedSlice S1x4096 ![3, 0] (V (Proc.devRef .tc main_arg6)) slices_S4x4096_S1x4096_3_0)) shapeCasts_S1x0x4096_S0x4096 := by
    simp only [List.take, StableHlo.TRef.nary, StableHlo.TRef.nullary, StableHlo.TRef.unary, StableHlo.TRef.binary, StableHlo.TRef.ternary, StableHlo.TRef.reshape]
    after_results_simp
    rfl
  unfold hPad0
  rw [← e1, ← e3, ← e2]
  generalize StableHlo.after (hostOps0_1.take 6) V = G
  unfold opA StableHlo.TRef.nary
  rw [StableHlo.nary_result]
  rfl

theorem padB (V : Valuation τ sig (Elt F)) :
    StableHlo.after hostOps0_1 V (Proc.devRef .tc main_v1) = hPad1 (hPad0 (V (Proc.devRef .tc main_arg6))) := by
  show StableHlo.after (hostOps0_1.take 7 ++ ((hostOps0_1.drop 7).take 6 ++ [opB])) V (Proc.devRef .tc main_v1) = _
  rw [StableHlo.after_append, ← padA V]
  generalize StableHlo.after (hostOps0_1.take 7) V = W
  rw [StableHlo.after_append, StableHlo.after_cons, StableHlo.after_nil]
  have e1 : StableHlo.after ((hostOps0_1.drop 7).take 6) W (Proc.devRef .tc main_call0_v9) = shapeCast S4x1 (broadcastInDim S4x1x1 ![0, 1] bcast_S4x1_S4x1x1_0_1 (extractStridedSlice S4x1 ![0, 0] (W (Proc.devRef .tc main_call0_v6)) slices_S4x4096_S4x1_0_0)) shapeCasts_S4x1x1_S4x1 := by
    simp only [List.take, List.drop, StableHlo.TRef.nary, StableHlo.TRef.nullary, StableHlo.TRef.unary, StableHlo.TRef.binary, StableHlo.TRef.ternary, StableHlo.TRef.reshape]
    after_results_simp
    rfl
  have e2 : StableHlo.after ((hostOps0_1.drop 7).take 6) W (Proc.devRef .tc main_call0_v6) = W (Proc.devRef .tc main_call0_v6) := by
    simp only [List.take, List.drop, StableHlo.TRef.nary, StableHlo.TRef.nullary, StableHlo.TRef.unary, StableHlo.TRef.binary, StableHlo.TRef.ternary, StableHlo.TRef.reshape]
    after_results_simp
  have e3 : StableHlo.after ((hostOps0_1.drop 7).take 6) W (Proc.devRef .tc main_call0_v12) = shapeCast S4x0 (broadcastInDim S4x1x0 ![0, 1] bcast_S4x1_S4x1x0_0_1 (extractStridedSlice S4x1 ![0, 4095] (W (Proc.devRef .tc main_call0_v6)) slices_S4x4096_S4x1_0_4095)) shapeCasts_S4x1x0_S4x0 := by
    simp only [List.take, List.drop, StableHlo.TRef.nary, StableHlo.TRef.nullary, StableHlo.TRef.unary, StableHlo.TRef.binary, StableHlo.TRef.ternary, StableHlo.TRef.reshape]
    after_results_simp
    rfl
  unfold hPad1
  rw [← e1, ← e3, ← e2]
  generalize StableHlo.after ((hostOps0_1.drop 7).take 6) W = G
  unfold opB StableHlo.TRef.nary
  rw [StableHlo.nary_result]
  rfl

/-- The document starts the host marks: the position of a row whose segment differs from the row's before, else zero. -/
def hMark (x : IVec S4x4096 32) : IVec S4x4096 32 :=
  select (cmpi .ne x (extractStridedSlice S4x4096 ![0, 0] (hPad1 (hPad0 x)) slices_S4x4097_S4x4096_0_0))
    (broadcastInDim S4x4096 ![0, 1] bcast_S1x4096_S4x4096_0_1 (broadcastInDim S1x4096 ![1] bcast_S4096_S1x4096_1 (iotaInDim S4096 32 0)))
    (broadcastInDim S4x4096 ![] bcast_S_S4x4096 (constantI S_ 32 0#32))
/-- The table of document starts, as the host computes it. -/
def hStart (x : IVec S4x4096 32) : IVec S4x4096 32 :=
  Host.reduceWindow IntOp.maxsi ![1, 4096] ![1, 1] ![0, 4095] ![0, 0] (hMark x) (broadcastInDim S_ ![] bcast_S_S_ (constantI S_ 32 2147483648#32)) reduceWindows_S4x4096_S4x4096_w1s1p0_0_w4096s1p4095_0 h_S_

theorem keep (ops : List (HloOp τ sig (Elt F))) (V : Valuation τ sig (Elt F)) (r : Ref sig .tc) (h : ops.Forall fun op => Proc.devRef .tc r ∉ op.writes) :
    StableHlo.after ops V (Proc.devRef .tc r) = V (Proc.devRef .tc r) :=
  StableHlo.after_of_forall_not_mem (b := Proc.devRef .tc r) _ _ (List.forall_iff_forall_mem.mp h)

theorem st2_v3 (V : Valuation τ sig (Elt F)) : StableHlo.after hostOps0_2 V (Proc.devRef .tc main_v3)
    = cmpi .ne (V (Proc.devRef .tc main_arg6) : IVec S4x4096 32) (extractStridedSlice S4x4096 ![0, 0] (V (Proc.devRef .tc main_v1) : IVec S4x4097 32) slices_S4x4097_S4x4096_0_0) := by
  after_results_simp
theorem st2_v4 (V : Valuation τ sig (Elt F)) : StableHlo.after hostOps0_2 V (Proc.devRef .tc main_v4)
    = broadcastInDim S1x4096 ![1] bcast_S4096_S1x4096_1 (V (Proc.devRef .tc main_v0) : IVec S4096 32) := by
  after_results_simp
theorem st2_c (V : Valuation τ sig (Elt F)) : StableHlo.after hostOps0_2 V (Proc.devRef .tc main_c_0) = (constantI S_ 32 0#32) := by
  after_results_simp
theorem st3 (V : Valuation τ sig (Elt F)) : StableHlo.after hostOps0_3 V (Proc.devRef .tc main_v5)
    = select (V (Proc.devRef .tc main_v3) : IVec S4x4096 1) (broadcastInDim S4x4096 ![0, 1] bcast_S1x4096_S4x4096_0_1 (V (Proc.devRef .tc main_v4) : IVec S1x4096 32))
      (broadcastInDim S4x4096 ![] bcast_S_S4x4096 (V (Proc.devRef .tc main_c_0) : IVec S_ 32)) := by
  simp only [StableHlo.TRef.nullary, StableHlo.TRef.unary, StableHlo.TRef.binary, StableHlo.TRef.ternary, StableHlo.TRef.reshape]
  after_results_simp
  rfl
attribute [local irreducible] Host.reduceWindow in
theorem st4 (V : Valuation τ sig (Elt F)) : StableHlo.after hostOps0_4 V (Proc.devRef .tc main_v6)
    = Host.reduceWindow IntOp.maxsi ![1, 4096] ![1, 1] ![0, 4095] ![0, 0] (V (Proc.devRef .tc main_v5) : IVec S4x4096 32) (broadcastInDim S_ ![] bcast_S_S_ (constantI S_ 32 2147483648#32)) reduceWindows_S4x4096_S4x4096_w1s1p0_0_w4096s1p4095_0 h_S_ := by
  simp only [StableHlo.TRef.nullary, StableHlo.TRef.unary, StableHlo.TRef.binary, StableHlo.TRef.ternary, StableHlo.TRef.reshape]
  after_results_simp
  rfl

/-- The valuation before the last host lines. -/
abbrev V5 (c : Dev nD) : Valuation τ sig (Elt F) := StableHlo.after (hostOps0 ++ (hostOps0_1 ++ (hostOps0_2 ++ (hostOps0_3 ++ hostOps0_4)))) (fun b => m (c, b))
theorem V0_eq (c : Dev nD) : V0 m c = StableHlo.after hostOps0_5 (V5 m c) := by
  unfold V0 V5; simp only [List.flatten_cons, List.flatten_nil, List.append_nil, StableHlo.after_append]

theorem V5_v6 (c : Dev nD) : V5 m c (Proc.devRef .tc main_v6) = hStart (m ((c : Thread nD τ).loc main_arg6)) := by
  unfold V5
  simp only [StableHlo.after_append]
  rw [st4, st3, st2_v3, st2_v4, st2_c, padB,
    keep hostOps0_1 _ main_arg6, keep hostOps0_1 _ main_v0]
  · have e0 : StableHlo.after hostOps0 (fun b => m (c, b)) (Proc.devRef .tc main_v0) = iotaInDim S4096 32 0 := by
      after_results_simp
    have e1 : StableHlo.after hostOps0 (fun b => m (c, b)) (Proc.devRef .tc main_arg6) = (m ((c : Thread nD τ).loc main_arg6)) := by
      after_results_simp
    rw [e0, e1]; rfl
  all_goals
    simp only [hostOps0_1, List.Forall, StableHlo.TRef.nary, StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)

theorem V_v6 (c : Dev nD) : V m c main_v6 = hStart (m ((c : Thread nD τ).loc main_arg6)) := by
  unfold V; rw [V0_eq, keep, V5_v6]
  simp only [hostOps0_5, List.Forall, StableHlo.nullary_writes, StableHlo.unary_writes, StableHlo.binary_writes, StableHlo.ternary_writes, StableHlo.reshape_writes, StableHlo.nary_writes, Finset.mem_singleton]
  repeat' apply And.intro
  all_goals exact StableHlo.devRef_ne_of_ne (by decide)
end Cert.KernelIdeal.Gen
-- ==== Proof.I.Run.lean ====
/- The body's run: on whole staging memrefs it reads its inputs, leaves them as they were, and hands back the outputs and
   scratch at some contents, given that the word it reads off the table passes the body's range check. -/
module

public import proofs.«01_k».proof.Proof.I.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The word the body reads off the table: the document start of the block's first row. -/
abbrev word0 (c : Dev nD) (i : grid0.Coords) (xt0 : TbBuf0 (F := F) c tbM0_0) : Elt F .i32 :=
  View.readAt (Elt F) tbM0_0.view (Rect.unit (s := S4x4096) (k0_off1 i) S1x1.size (k0_off1_inb i)).toLoadRect xt0 (Shape.Idx.first (by show 0 < S1x1.numel; decide))

set_option maxHeartbeats 4000000 in
theorem kernelRun0 (c : Dev nD) (i : grid0.Coords) (arg4 : Memref sig .tc .vmem S1x128x8x128 .fp8e4m3) (harg4 : arg4.IsWhole) (arg5 : Memref sig .tc .vmem S1x1x1x1x1024 .f32) (harg5 : arg5.IsWhole) (arg6 : Memref sig .tc .vmem S1x1x1x1024 .i32) (harg6 : arg6.IsWhole) (arg7 : Memref sig .tc .vmem S1x1x4096x128 .fp8e4m3) (harg7 : arg7.IsWhole) (arg8 : Memref sig .tc .vmem S1x1x4096x1 .f32) (harg8 : arg8.IsWhole) (arg9 : Memref sig .tc .vmem S1x1x4096x128 .fp8e4m3) (harg9 : arg9.IsWhole) (arg10 : Memref sig .tc .smem S4x2 .f32) (harg10 : arg10.IsWhole) (arg11 : Memref sig .tc .vmem S1x128x8x128 .bf16) (harg11 : arg11.IsWhole) (arg12 : Memref sig .tc .vmem S1x1x1x1x1024 .f32) (harg12 : arg12.IsWhole) (arg13 : Memref sig .tc .vmem S17x256x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S128x1024 .f32) (harg16 : arg16.IsWhole)
    (x0 : Vec F S1x128x8x128 .fp8e4m3) (x1 : Vec F S1x1x1x1x1024 .f32) (x2 : Vec F S1x1x1x1024 .i32) (x3 : Vec F S1x1x4096x128 .fp8e4m3) (x4 : Vec F S1x1x4096x1 .f32) (x5 : Vec F S1x1x4096x128 .fp8e4m3) (x6 : Vec F S4x2 .f32) (xt0 : TbBuf0 (F := F) c tbM0_0) (hw : k0_chk1 i (word0 c i xt0)) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0) -∗ K ⟨⟩))
          ⊢ wp frame (wpE (defs₀ (F := F)) Variants.none c none) E (cc0__attend i tbM0_0 htbM0_0 arg4 harg4 arg5 harg5 arg6 harg6 arg7 harg7 arg8 harg8 arg9 harg9 arg10 harg10 arg11 harg11 arg12 harg12 arg13 harg13 arg14 harg14 arg15 harg15 arg16 harg16) K := by
    intro E K
    simp only [cc0__attend_eq_skeleton]; unfold cc0__attend_skel
    unfold owns
    iintro ⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, HT0, Hk⟩
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    sl_exec (disch := exact hw)
    sl_step
    iapply Hk
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    iexact HT0

end Cert.KernelIdeal.Gen

end
-- ==== Proof.I.Frame.lean ====
/- The frame of the kernel: the proof data of its pipeline (outputs not named), the body's obligation at every point, the run
   of @main and what it leaves in the argument arrays — given that every word the body reads off the table passes the body's
   range check (`Hyps`). -/
module

public import proofs.«01_k».proof.Proof.I.Run
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Every word the body reads off the table passes its range check. -/
def Hyps : Prop := ∀ (c : Dev nD) (i : grid0.Coords), k0_chk1 i (word0 (F := F) c i (tbl m 0))

def forgets0 : Fin 9 → Bool := fun w => w.val == 7 || w.val == 8

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, h⟩ => Pipeline.Dat.unnamed (cfg := (cfgM m hO)) ⟨7, h⟩ t
    | ⟨8, h⟩ => Pipeline.Dat.unnamed (cfg := (cfgM m hO)) ⟨8, h⟩ t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem after0_1 (hO : Ok m) (c : Dev nD) (t : Fin (cfgM m hO).N) : (dats m hO 0 c).after 1 t = iblk m hO c 1 t := by dsimp only [dats]; try rfl
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem after0_2 (hO : Ok m) (c : Dev nD) (t : Fin (cfgM m hO).N) : (dats m hO 0 c).after 2 t = iblk m hO c 2 t := by dsimp only [dats]; try rfl
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem after0_3 (hO : Ok m) (c : Dev nD) (t : Fin (cfgM m hO).N) : (dats m hO 0 c).after 3 t = iblk m hO c 3 t := by dsimp only [dats]; try rfl
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem after0_4 (hO : Ok m) (c : Dev nD) (t : Fin (cfgM m hO).N) : (dats m hO 0 c).after 4 t = iblk m hO c 4 t := by dsimp only [dats]; try rfl
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem after0_5 (hO : Ok m) (c : Dev nD) (t : Fin (cfgM m hO).N) : (dats m hO 0 c).after 5 t = iblk m hO c 5 t := by dsimp only [dats]; try rfl
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem after0_6 (hO : Ok m) (c : Dev nD) (t : Fin (cfgM m hO).N) : (dats m hO 0 c).after 6 t = iblk m hO c 6 t := by dsimp only [dats]; try rfl
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare d)
    ∗ (∃ d, owns (c : Thread nD τ) (ms0_8 m hO t) fullShare d))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ (∃ d, owns (c : Thread nD τ) (ms0_7 m hO t) fullShare d)
    ∗ (∃ d, owns (c : Thread nD τ) (ms0_8 m hO t) fullShare d))

set_option maxHeartbeats 1000000 in
theorem sound_body (hO : Ok m) (hH : Hyps m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6]
  rw [show (dats m hO 0 c).Φ t.castSucc = iprop(Pipeline.ΦA spec0 c ∗ Pipeline.ΦT pre0 (tbl m) c) from rfl, PhiT0_eq, PhiA0_eq]
  iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0 c (grid0.coords t) _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (hH c _)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  isplitl [HT0]; · iexact HT0
  iintro ⟨H0, H1, H2, H3, H4, H5, H6, H7, H8, HS0, HS1, HS2, HS3, HT0⟩
  isplitl [HS0 HS1 HS2 HS3 Hg HT0]
  · isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (hH : Hyps m) (c : Dev nD) : BodyObligation (dats (F := F) m hO 0 c) (defs₀ (F := F)) Variants.none () Set.univ forgets0 := fun t => by
  rw [bigSep_W0, bigSep_W0, defs₀_row m hO]
  exact triple_restated (sound_body m hO hH c t) rfl .rfl fun _ => .rfl

/-! ## The run and the frame -/

-- `θ_run_frameP_around_T_forget`'s implicit arguments are found by unifying its conclusion with this one, which takes unfolding plain
-- definitions in a metavariable's type
set_option backward.isDefEq.respectTransparency.types false in
set_option maxHeartbeats 800000 in
theorem run_main_quiescent (hO : Ok m) (hH : Hyps m) : θ_run defs (onTc (τ := τ) (main (F := F))) (s₀ m ρ) (fun r => (Pipeline.RDat.FramePostR ((Pipeline.pin pcfgs fun _ => adm m hO) 0) (fun c => (dats m hO 0 c).toRForget forgets0) T0 (V m)) r ∧ r.2.sem = fun _ => 0) :=
  Pipeline.θ_run_frameP_around_T_forget (Q' := _) pcfgs (fun _ => adm m hO) (dats m hO) (0 : Fin 1) launch0 defs₀ Variants.none forgets0 T0 m ρ main
    (hbody := fun c => (body_obligation m hO hH c).loose) (hshare := fun c => (dats m hO 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m hO) (hpf := V_pre m) (hΦ := fun _ _ => rfl)

theorem run_main (hO : Ok m) (hH : Hyps m) : θ_run defs (onTc (τ := τ) (main (F := F))) (s₀ m ρ) (Pipeline.RDat.FramePostR ((Pipeline.pin pcfgs fun _ => adm m hO) 0) (fun c => (dats m hO 0 c).toRForget forgets0) T0 (V m)) :=
  (θ_run defs _ _).mono (fun _ h => h.1) (run_main_quiescent m ρ hO hH)

theorem unchanged (hO : Ok m) (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (fun c => (dats m hO 0 c).toRForget forgets0) (A_eq m hO) (run_main m ρ hO hH)

theorem frame (hO : Ok m) (hH : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO hH) ((θ_run defs _ _).mono (fun _ h => h.2) (run_main_quiescent m ρ hO hH))

end Cert.KernelIdeal.Gen

end
-- ==== Proof.I.Table.lean ====
/- The table of document starts the host computes: at each row it is one of the marks at or before the row, and at least
   every one of them; so it is at most the row, and every word the body reads off it passes the body's range check. -/
module
public import proofs.«01_k».proof.Proof.I.Host
public import proofs.«01_k».proof.Proof.I.Frame
public import Idealize.ShloMosaic.Lib.Pointwise
@[expose] public section
set_option maxRecDepth 16384
noncomputable section
namespace Cert.KernelIdeal.Gen
open Idealize.ShloMosaic Idealize.ShloMosaic.TcCoe Idealize.ShloMosaic.Tactic Idealize.SL Idealize.SL.Sem
open Idealize.ShloMosaic.StableHlo

theorem hPad0_at (x : IVec S4x4096 32) (j : S4x4096.Idx) : hPad0 x j = x j := by
  unfold hPad0
  pointwise
  rw [dif_neg (by omega)]

/-- The row before `t`, itself at the first row. -/
def prevRow (t : Fin 4096) : Fin 4096 := ⟨t.val - 1, by omega⟩

theorem hPad1_at (x : IVec S4x4096 32) (b : Fin 4) (t : Fin 4096) : hPad1 x (ix2 b ⟨t.val, by omega⟩) = x (ix2 b (prevRow t)) := by
  unfold hPad1
  pointwise
  by_cases h : t.val < 1
  · rw [dif_pos h]; congr 2; exact Fin.ext (by simp [prevRow]; omega)
  · rw [dif_neg h, dif_pos (by omega)]; congr 2

theorem hMark_at (x : IVec S4x4096 32) (b : Fin 4) (t : Fin 4096) :
    hMark x (ix2 b t) = if x (ix2 b t) = x (ix2 b (prevRow t)) then 0#32 else BitVec.ofNat 32 t.val := by
  unfold hMark
  pointwise
  rw [hPad1_at, hPad0_at]
  by_cases h : x (ix2 b t) = x (ix2 b (prevRow t))
  · rw [if_pos h, h]; simp [Scalar.select, IntOp.cmpi]
  · rw [if_neg h]; have hb : (x (ix2 b t) != x (ix2 b (prevRow t))) = true := by rw [bne_iff_ne]; exact h
    simp only [Scalar.select, IntOp.cmpi, hb]; rfl

theorem toInt_small (n : Nat) (h : n < 4096) : (BitVec.ofNat 32 n).toInt = n := by
  rw [BitVec.toInt_eq_toNat_of_lt] <;> rw [BitVec.toNat_ofNat] <;> omega

theorem hMark_toInt (x : IVec S4x4096 32) (b : Fin 4) (t : Fin 4096) : 0 ≤ (hMark x (ix2 b t)).toInt ∧ (hMark x (ix2 b t)).toInt ≤ t.val := by
  rw [hMark_at]
  split
  · simp
  · rw [toInt_small _ t.isLt]; omega

theorem foldl_maxsi {ι : Type} (l : List ι) (g : ι → BitVec 32) (v : BitVec 32) :
    (l.foldl (fun r n => IntOp.maxsi r (g n)) v = v ∨ ∃ n ∈ l, l.foldl (fun r n => IntOp.maxsi r (g n)) v = g n)
    ∧ v.toInt ≤ (l.foldl (fun r n => IntOp.maxsi r (g n)) v).toInt
    ∧ ∀ n ∈ l, (g n).toInt ≤ (l.foldl (fun r n => IntOp.maxsi r (g n)) v).toInt := by
  have hm : ∀ a b : BitVec 32, (IntOp.maxsi a b = a ∨ IntOp.maxsi a b = b) ∧ a.toInt ≤ (IntOp.maxsi a b).toInt ∧ b.toInt ≤ (IntOp.maxsi a b).toInt := fun a b => by
    unfold IntOp.maxsi
    by_cases h : b.slt a = true
    · rw [if_pos h]; rw [BitVec.slt_iff_toInt_lt] at h; exact ⟨.inl rfl, le_rfl, by omega⟩
    · rw [if_neg h]; rw [BitVec.slt_iff_toInt_lt] at h; exact ⟨.inr rfl, by omega, le_rfl⟩
  induction l generalizing v with
  | nil => exact ⟨.inl rfl, le_rfl, fun _ h => by cases h⟩
  | cons a l ih =>
    obtain ⟨h1, h2, h3⟩ := ih (IntOp.maxsi v (g a))
    obtain ⟨m1, m2, m3⟩ := hm v (g a)
    simp only [List.foldl_cons]
    refine ⟨?_, m2.trans h2, fun n hn => ?_⟩
    · rcases h1 with h | ⟨n, hn, h⟩
      · rw [h]
        rcases m1 with e | e
        · exact .inl e
        · exact .inr ⟨a, List.mem_cons_self, e⟩
      · exact .inr ⟨n, List.mem_cons_of_mem _ hn, h⟩
    · rcases List.mem_cons.mp hn with rfl | hn
      · exact m3.trans h2
      · exact h3 n hn

/-- The running maximum over a window ending at row `p`, the window's positions before the first row holding `v`. -/
theorem window_max {N : Nat} (M : Fin 4096 → BitVec 32) (hM : ∀ t, 0 ≤ (M t).toInt) (p : Fin 4096) (e : Fin N → Nat) (he : ∀ n, e n < 4096)
    (hs : ∀ w, w < 4096 → ∃ n, e n = w) (v : BitVec 32) (hv : v.toInt < 0) (g : Fin N → BitVec 32)
    (hin : ∀ n (h : 4095 ≤ p.val + e n), g n = M ⟨p.val + e n - 4095, by have := he n; omega⟩) (hout : ∀ n, ¬ 4095 ≤ p.val + e n → g n = v) :
    (∃ t : Fin 4096, t.val ≤ p.val ∧ (List.finRange N).foldl (fun r n => IntOp.maxsi r (g n)) v = M t)
    ∧ ∀ t : Fin 4096, t.val ≤ p.val → (M t).toInt ≤ ((List.finRange N).foldl (fun r n => IntOp.maxsi r (g n)) v).toInt := by
  obtain ⟨h1, h2, h3⟩ := foldl_maxsi (List.finRange N) g v
  generalize (List.finRange N).foldl (fun r n => IntOp.maxsi r (g n)) v = z at h1 h2 h3 ⊢
  have hall : ∀ t : Fin 4096, t.val ≤ p.val → (M t).toInt ≤ z.toInt := fun t ht => by
    obtain ⟨n, hn⟩ := hs (4095 - p.val + t.val) (by omega)
    have := h3 n (List.mem_finRange _)
    rw [hin n (by omega)] at this
    have et : (⟨p.val + e n - 4095, by have := he n; omega⟩ : Fin 4096) = t := Fin.ext (by show p.val + e n - 4095 = t.val; omega)
    rw [et] at this
    exact this
  refine ⟨?_, hall⟩
  have hnv : z ≠ v := fun ez => by
    have a := hall p le_rfl
    have b' := hM p
    rw [ez] at a
    omega
  rcases h1 with h | ⟨n, -, h⟩
  · exact absurd h hnv
  · by_cases hc : 4095 ≤ p.val + e n
    · exact ⟨_, by have := he n; show p.val + e n - 4095 ≤ p.val; omega, h.trans (hin n hc)⟩
    · exact absurd (h.trans (hout n hc)) hnv

/-- The table at a row: one of the marks at or before it, and the greatest. -/
theorem hStart_spec (x : IVec S4x4096 32) (b : Fin 4) (p : Fin 4096) :
    (∃ t : Fin 4096, t.val ≤ p.val ∧ hStart x (ix2 b p) = hMark x (ix2 b t))
    ∧ ∀ t : Fin 4096, t.val ≤ p.val → (hMark x (ix2 b t)).toInt ≤ (hStart x (ix2 b p)).toInt := by
  unfold hStart Host.reduceWindow
  refine window_max (fun t => hMark x (ix2 b t)) (fun t => (hMark_toInt x b t).1) p (fun n => ((⟨2, ![1, 4096]⟩ : Shape).rowMajor.symm n 1).val)
    (fun n => ((⟨2, ![1, 4096]⟩ : Shape).rowMajor.symm n 1).isLt)
    (fun w hw => ⟨(⟨2, ![1, 4096]⟩ : Shape).rowMajor (ix2 0 ⟨w, hw⟩), by simp only [Equiv.symm_apply_apply]; rfl⟩)
    _ (show (2147483648#32 : BitVec 32).toInt < 0 by decide) _ (fun n h => ?_) (fun n h => ?_)
  · have w0 : ((⟨2, ![1, 4096]⟩ : Shape).rowMajor.symm n 0).val = 0 := Nat.lt_one_iff.mp ((⟨2, ![1, 4096]⟩ : Shape).rowMajor.symm n 0).isLt
    have w1 : ((⟨2, ![1, 4096]⟩ : Shape).rowMajor.symm n 1).val < 4096 := ((⟨2, ![1, 4096]⟩ : Shape).rowMajor.symm n 1).isLt
    refine (dif_pos ?_).trans (congrArg (hMark x) ?_)
    · intro a
      match a with
      | ⟨0, _⟩ => exact ⟨Nat.zero_le _, show b.val * 1 + ((⟨2, ![1, 4096]⟩ : Shape).rowMajor.symm n 0).val - 0 < 4 by omega⟩
      | ⟨1, _⟩ => exact ⟨show 4095 ≤ p.val * 1 + ((⟨2, ![1, 4096]⟩ : Shape).rowMajor.symm n 1).val by omega, show p.val * 1 + ((⟨2, ![1, 4096]⟩ : Shape).rowMajor.symm n 1).val - 4095 < 4096 by omega⟩
    · funext a
      refine Fin.ext ?_
      match a with
      | ⟨0, _⟩ => show b.val * 1 + ((⟨2, ![1, 4096]⟩ : Shape).rowMajor.symm n 0).val - 0 = b.val; omega
      | ⟨1, _⟩ => show p.val * 1 + ((⟨2, ![1, 4096]⟩ : Shape).rowMajor.symm n 1).val - 4095 = p.val + ((⟨2, ![1, 4096]⟩ : Shape).rowMajor.symm n 1).val - 4095; omega
  · refine dif_neg fun hc => h ?_
    have q : 4095 ≤ p.val * 1 + ((⟨2, ![1, 4096]⟩ : Shape).rowMajor.symm n 1).val := (hc 1).1
    omega

/-- The table is a row at or before its own. -/
theorem hStart_le (x : IVec S4x4096 32) (b : Fin 4) (p : Fin 4096) :
    hStart x (ix2 b p) = BitVec.ofNat 32 (hStart x (ix2 b p)).toNat ∧ (hStart x (ix2 b p)).toNat ≤ p.val := by
  obtain ⟨⟨t, ht, e⟩, -⟩ := hStart_spec x b p
  rw [e, hMark_at]
  split
  · exact ⟨rfl, Nat.zero_le _⟩
  · rw [BitVec.toNat_ofNat, Nat.mod_eq_of_lt (by omega)]; exact ⟨rfl, ht⟩

variable {F : FTy → Type} [FloatOps F] (m : (ℓ : Loc nD τ sig) → Buf (Elt F) ℓ)

theorem off1_eq (i : grid0.Coords) : k0_off1 i = ![(i 0).val, (i 2).val * 128] := by
  have h0 : (i 0).val < 4 := (i 0).isLt
  have h2 : (i 2).val < 32 := (i 2).isLt
  unfold k0_off1
  simp only [Scalar.indexCast, Scalar.muli, IntOp.muli]
  rw [BitVec.toNat_ofNat, Nat.mod_eq_of_lt (by omega), BitVec.toNat_mul, BitVec.toNat_ofNat, BitVec.toNat_ofNat, Nat.mod_eq_of_lt (a := (i 2).val) (by omega)]
  rw [Nat.mod_eq_of_lt (a := 128) (by omega), Nat.mod_eq_of_lt (by omega)]

/-- The first row of the query block of a point. -/
def qrow0 (i : grid0.Coords) : Fin 4096 := ⟨(i 2).val * 128, by have h2 : (i 2).val < 32 := (i 2).isLt; omega⟩

theorem word0_eq (c : Dev nD) (i : grid0.Coords) (xt : IVec S4x4096 32) : word0 (F := F) c i xt = xt (ix2 (i 0) (qrow0 i)) := by
  unfold word0
  show xt _ = xt _
  congr 1
  funext a
  refine Fin.ext ?_
  have e := off1_eq i
  match a with
  | ⟨0, _⟩ => show k0_off1 i 0 + 1 * 0 = _; rw [e]; rfl
  | ⟨1, _⟩ => show k0_off1 i 1 + 1 * 0 = _; rw [e]; rfl

theorem tbl_eq : (tbl m 0 : IVec S4x4096 32) = hStart (m (((0 : Dev nD) : Thread nD τ).loc main_arg6)) := V_v6 m 0

theorem chk_of (i : grid0.Coords) (z : BitVec 32) (w : Nat) (e : z = BitVec.ofNat 32 w) (h : w ≤ (i 2).val * 128) : k0_chk1 i z := by
  subst e; exact chk_ok i w h

theorem word0_tbl (c : Dev nD) (i : grid0.Coords) :
    (word0 (F := F) c i (tbl m 0) : BitVec 32) = hStart (m (((0 : Dev nD) : Thread nD τ).loc main_arg6)) (ix2 (i 0) (qrow0 i)) :=
  (word0_eq (F := F) c i (tbl m 0)).trans (congrFun (tbl_eq m) _)

theorem hyps : Hyps m := fun c i =>
  chk_of i _ _ ((word0_tbl m c i).trans (hStart_le _ (i 0) (qrow0 i)).1) (hStart_le _ (i 0) (qrow0 i)).2

end Cert.KernelIdeal.Gen
end
-- ==== Proof.I.Scores.lean ====
module
public import proofs.«01_k».proof.Proof.I.Words
public import proofs.«01_k».proof.Proof.Gen.KernelIdeal.Loops
public import Idealize.ShloMosaic.Lib.Pointwise
public import Idealize.ShloMosaic.Lib.WritesUnit

/-!
The score loop read off: what each trip leaves in the score slabs and in the running maximum, as the sums and comparisons
the body states, and the same after any number of trips.
-/

@[expose] public section

set_option maxRecDepth 16384

noncomputable section

namespace Cert.KernelIdeal.Gen

open Idealize.ShloMosaic Idealize.ShloMosaic.TcCoe Idealize.ShloMosaic.Tactic Idealize.SL Idealize.SL.Sem

/-- The query block a grid point works on. -/
abbrev blk (i : grid0.Coords) : Fin 32 := ⟨(i 2).val, i2_lt i⟩

/-- Key row `r` of window `k` of query block `j2`. -/
def rowF (j2 : Fin 32) (k : ℕ) (r : Fin 256) : Fin 4096 :=
  ⟨row0 j2.val k + r.val, by have := row0_lt j2.val k j2.isLt; have := r.isLt; omega⟩

/-- Whether key row `r` of window `k` is seen by column `j` of query block `j2`. -/
def visF (j2 : Fin 32) (ds : Fin 1024 → ℕ) (k : ℕ) (r : Fin 256) (j : Fin 1024) : Prop :=
  ((rowF j2 k r).val ≤ j2.val * 128 + j.val / 8 ∧ ds j ≤ (rowF j2 k r).val) ∧ (rowF j2 k r).val < (j2.val + 1) * 128 - k * 256

instance (j2 : Fin 32) (ds : Fin 1024 → ℕ) (k : ℕ) (r : Fin 256) (j : Fin 1024) : Decidable (visF j2 ds k r j) := by
  unfold visF; infer_instance

/-- The product of one key row with one column's query, times the row's scale. -/
def rawF (Q : Vec Ideal S1x128x8x128 .fp8e4m3) (K : Vec Ideal S1x1x4096x128 .fp8e4m3) (KS : Vec Ideal S1x1x4096x1 .f32)
    (row : Fin 4096) (j : Fin 1024) : EReal :=
  (∑ d : Fin 128, (K (ix4 0 0 row d) : EReal) * Q (ix4 0 ⟨j.val / 8, by omega⟩ ⟨j.val % 8, by omega⟩ d)) * KS (ix4 0 0 row 0)

/-- One entry of a score slab: the raw score where the row is seen, `−∞` elsewhere. -/
def uF (Q : Vec Ideal S1x128x8x128 .fp8e4m3) (K : Vec Ideal S1x1x4096x128 .fp8e4m3) (KS : Vec Ideal S1x1x4096x1 .f32)
    (j2 : Fin 32) (ds : Fin 1024 → ℕ) (k : ℕ) (r : Fin 256) (j : Fin 1024) : EReal :=
  if visF j2 ds k r j then rawF Q K KS (rowF j2 k r) j else ⊥

theorem toInt_ofNat_small (a : ℕ) (h : a < 2147483648) : (BitVec.ofNat 32 a).toInt = a := by
  rw [BitVec.toInt_eq_toNat_of_lt (by rw [BitVec.toNat_ofNat, Nat.mod_eq_of_lt (by omega)]; omega), BitVec.toNat_ofNat, Nat.mod_eq_of_lt (by omega)]

theorem sle_small (a b : ℕ) (ha : a < 2147483648) (hb : b < 2147483648) :
    IntOp.cmpi .sle (BitVec.ofNat 32 a) (BitVec.ofNat 32 b) = if a ≤ b then 1#1 else 0#1 := by
  simp only [IntOp.cmpi, BitVec.sle, toInt_ofNat_small a ha, toInt_ofNat_small b hb, Nat.cast_le]
  split_ifs with h <;> simp [h] <;> omega

theorem sge_small (a b : ℕ) (ha : a < 2147483648) (hb : b < 2147483648) :
    IntOp.cmpi .sge (BitVec.ofNat 32 a) (BitVec.ofNat 32 b) = if b ≤ a then 1#1 else 0#1 := by
  simp only [IntOp.cmpi, BitVec.sle, toInt_ofNat_small a ha, toInt_ofNat_small b hb, Nat.cast_le]
  split_ifs with h <;> simp [h] <;> omega

theorem slt_small (a b : ℕ) (ha : a < 2147483648) (hb : b < 2147483648) :
    IntOp.cmpi .slt (BitVec.ofNat 32 a) (BitVec.ofNat 32 b) = if a < b then 1#1 else 0#1 := by
  simp only [IntOp.cmpi, BitVec.slt, toInt_ofNat_small a ha, toInt_ofNat_small b hb, Nat.cast_lt]
  split_ifs with h <;> simp [h] <;> omega

theorem neg_inf_word : Ideal.ofBits FTy.f32 4286578688#32 = ⊥ := by simp [Ideal.ofBits, Ideal.ieee]

/-- The mask of the body as a proposition. -/
theorem mask_small {kpw qpw dw hiw : BitVec 32} {kp qp d hi : ℕ} (e1 : kpw = BitVec.ofNat 32 kp) (e2 : qpw = BitVec.ofNat 32 qp) (e3 : dw = BitVec.ofNat 32 d) (e4 : hiw = BitVec.ofNat 32 hi)
    (a b : EReal) (h1 : kp < 2147483648) (h2 : qp < 2147483648) (h3 : d < 2147483648) (h4 : hi < 2147483648) :
    Scalar.select (IntOp.andi (IntOp.andi (IntOp.cmpi .sle kpw qpw) (IntOp.cmpi .sge kpw dw)) (IntOp.cmpi .slt kpw hiw)) a b
      = if (kp ≤ qp ∧ d ≤ kp) ∧ kp < hi then a else b := by
  subst e1 e2 e3 e4
  rw [sle_small _ _ h1 h2, sge_small _ _ h1 h3, slt_small _ _ h1 h4]
  by_cases c1 : kp ≤ qp <;> by_cases c2 : d ≤ kp <;> by_cases c3 : kp < hi <;> simp [c1, c2, c3, Scalar.select, IntOp.andi]

/-- The end of window `k` as the body computes it. -/
theorem hiW_eq : ∀ j : Fin 32, ∀ k : Fin 17, k.val * 256 ≤ (j.val + 1) * 128 → Scalar.subi (Scalar.muli (Scalar.addi (BitVec.ofNat 32 j.val) 1#32) 128#32) (Scalar.muli (Scf.iv 0#32 1#32 k.val) 256#32)
    = BitVec.ofNat 32 ((j.val + 1) * 128 - k.val * 256) := by decide +kernel

theorem nTrips_hi {j w k : ℕ} (hk : k < nTrips j w) : k * 256 ≤ (j + 1) * 128 := by unfold nTrips at hk; omega

section Offsets
variable (i : grid0.Coords) (w : ℕ) (hw : w ≤ (i 2).val * 128)
include hw

theorem lt1 (k : Fin (k0_t1_loop i (BitVec.ofNat 32 w)).trips) : k.val < nTrips (i 2).val w := by rw [← t1_trips i w hw]; exact k.isLt
theorem lt3 (k : Fin (k0_t3_loop i (BitVec.ofNat 32 w)).trips) : k.val < nTrips (i 2).val w := by rw [← t3_trips i w hw]; exact k.isLt

theorem iv_toNat {k : ℕ} (hk : k < nTrips (i 2).val w) : (Scalar.indexCast (Scf.iv 0#32 1#32 k)).toNat = k := by
  have := iv_eq ⟨k, by have := nTrips_le (w := w) (i2_lt i); omega⟩
  simp only [Scalar.indexCast, this.1]; exact this.2

theorem rowW_toNat {k : ℕ} (hk : k < nTrips (i 2).val w) : (Scalar.indexCast (rowW (BitVec.ofNat 32 (i 2).val) k)).toNat = row0 (i 2).val k := by
  have := rowW_eq ⟨_, i2_lt i⟩ ⟨k, by have := nTrips_le (w := w) (i2_lt i); omega⟩
  simp only [Scalar.indexCast, this.1]; exact this.2

theorem off4_eq (k : Fin (k0_t1_loop i (BitVec.ofNat 32 w)).trips) : k0_off4 i (BitVec.ofNat 32 w) k = ![k.val, 0, 0] := by
  show ![(Scalar.indexCast (Scf.iv 0#32 1#32 k.val)).toNat, 0, 0] = _
  rw [iv_toNat i w hw (lt1 i w hw k)]
theorem off5_eq (k : Fin (k0_t1_loop i (BitVec.ofNat 32 w)).trips) : k0_off5 i (BitVec.ofNat 32 w) k = ![k.val, 0, 256] := by
  show ![(Scalar.indexCast (Scf.iv 0#32 1#32 k.val)).toNat, 0, 256] = _
  rw [iv_toNat i w hw (lt1 i w hw k)]
theorem off6_eq (k : Fin (k0_t1_loop i (BitVec.ofNat 32 w)).trips) : k0_off6 i (BitVec.ofNat 32 w) k = ![k.val, 0, 512] := by
  show ![(Scalar.indexCast (Scf.iv 0#32 1#32 k.val)).toNat, 0, 512] = _
  rw [iv_toNat i w hw (lt1 i w hw k)]
theorem off7_eq (k : Fin (k0_t1_loop i (BitVec.ofNat 32 w)).trips) : k0_off7 i (BitVec.ofNat 32 w) k = ![k.val, 0, 768] := by
  show ![(Scalar.indexCast (Scf.iv 0#32 1#32 k.val)).toNat, 0, 768] = _
  rw [iv_toNat i w hw (lt1 i w hw k)]
theorem off2_eq (k : Fin (k0_t1_loop i (BitVec.ofNat 32 w)).trips) : k0_off2 i (BitVec.ofNat 32 w) k = ![0, 0, row0 (i 2).val k.val, 0] := by
  show ![0, 0, (Scalar.indexCast (rowW (BitVec.ofNat 32 (i 2).val) k.val)).toNat, 0] = _
  rw [rowW_toNat i w hw (lt1 i w hw k)]
theorem off3_eq (k : Fin (k0_t1_loop i (BitVec.ofNat 32 w)).trips) : k0_off3 i (BitVec.ofNat 32 w) k = ![0, 0, row0 (i 2).val k.val, 0] := by
  show ![0, 0, (Scalar.indexCast (rowW (BitVec.ofNat 32 (i 2).val) k.val)).toNat, 0] = _
  rw [rowW_toNat i w hw (lt1 i w hw k)]
theorem off14_eq (k : Fin (k0_t3_loop i (BitVec.ofNat 32 w)).trips) : k0_off14 i (BitVec.ofNat 32 w) k = ![0, 0, row0 (i 2).val k.val, 0] := by
  show ![0, 0, (Scalar.indexCast (rowW (BitVec.ofNat 32 (i 2).val) k.val)).toNat, 0] = _
  rw [rowW_toNat i w hw (lt3 i w hw k)]
theorem off15_eq (k : Fin (k0_t3_loop i (BitVec.ofNat 32 w)).trips) : k0_off15 i (BitVec.ofNat 32 w) k = ![k.val, 0, 0] := by
  show ![(Scalar.indexCast (Scf.iv 0#32 1#32 k.val)).toNat, 0, 0] = _
  rw [iv_toNat i w hw (lt3 i w hw k)]
theorem off16_eq (k : Fin (k0_t3_loop i (BitVec.ofNat 32 w)).trips) : k0_off16 i (BitVec.ofNat 32 w) k = ![k.val, 0, 256] := by
  show ![(Scalar.indexCast (Scf.iv 0#32 1#32 k.val)).toNat, 0, 256] = _
  rw [iv_toNat i w hw (lt3 i w hw k)]
theorem off17_eq (k : Fin (k0_t3_loop i (BitVec.ofNat 32 w)).trips) : k0_off17 i (BitVec.ofNat 32 w) k = ![k.val, 0, 512] := by
  show ![(Scalar.indexCast (Scf.iv 0#32 1#32 k.val)).toNat, 0, 512] = _
  rw [iv_toNat i w hw (lt3 i w hw k)]
theorem off18_eq (k : Fin (k0_t3_loop i (BitVec.ofNat 32 w)).trips) : k0_off18 i (BitVec.ofNat 32 w) k = ![k.val, 0, 768] := by
  show ![(Scalar.indexCast (Scf.iv 0#32 1#32 k.val)).toNat, 0, 768] = _
  rw [iv_toNat i w hw (lt3 i w hw k)]

/-- A load of 256 key rows, read off. -/
theorem readAt_K {sig' : RefSig} {κ : Kind} {sp : Space} (v : View sig' κ sp S1x1x4096x128 .fp8e4m3) (X : v.ty.Contents (Elt Ideal)) (off : Fin 4 → ℕ) (inb) (k : ℕ)
    (h : off = ![0, 0, row0 (i 2).val k, 0]) (r : Fin 256) (d : Fin 128) :
    View.readAt (Elt Ideal) v (Rect.unit (s := S1x1x4096x128) off S1x1x256x128.size inb).toLoadRect X (ix4 0 0 r d) = v.read (Elt Ideal) X (ix4 0 0 (rowF (blk i) k r) d) := by
  subst h
  rw [View.readAt_apply]
  refine congrArg _ (funext fun a => Fin.ext ?_)
  show (![0, 0, row0 (i 2).val k, 0] : Fin 4 → ℕ) a + 1 * ((ix4 (0 : Fin 1) (0 : Fin 1) r d) a).val = _
  fin_cases a <;> simp [ix4, rowF]

theorem readAt_KS {sig' : RefSig} {κ : Kind} {sp : Space} (v : View sig' κ sp S1x1x4096x1 .f32) (X : v.ty.Contents (Elt Ideal)) (off : Fin 4 → ℕ) (inb) (k : ℕ)
    (h : off = ![0, 0, row0 (i 2).val k, 0]) (r : Fin 256) :
    View.readAt (Elt Ideal) v (Rect.unit (s := S1x1x4096x1) off S1x1x256x1.size inb).toLoadRect X (ix4 0 0 r 0) = v.read (Elt Ideal) X (ix4 0 0 (rowF (blk i) k r) 0) := by
  subst h
  rw [View.readAt_apply]
  refine congrArg _ (funext fun a => Fin.ext ?_)
  show (![0, 0, row0 (i 2).val k, 0] : Fin 4 → ℕ) a + 1 * ((ix4 (0 : Fin 1) (0 : Fin 1) r (0 : Fin 1)) a).val = _
  fin_cases a <;> simp [ix4, rowF]

omit hw in
theorem readAt_Q {sig' : RefSig} {κ : Kind} {sp : Space} (v : View sig' κ sp S1x128x8x128 .fp8e4m3) (X : v.ty.Contents (Elt Ideal)) (o : ℕ) (inb) (t : Fin 32) (g : Fin 8) (d : Fin 128) (t' : Fin 128) (ht : t'.val = o + t.val) :
    View.readAt (Elt Ideal) v (Rect.unit (s := S1x128x8x128) ![0, o, 0, 0] S1x32x8x128.size inb).toLoadRect X (ix4 0 t g d) = v.read (Elt Ideal) X (ix4 0 t' g d) := by
  rw [View.readAt_apply]
  refine congrArg _ (funext fun a => Fin.ext ?_)
  show (![0, o, 0, 0] : Fin 4 → ℕ) a + 1 * ((ix4 (0 : Fin 1) t g d) a).val = _
  fin_cases a <;> simp [ix4, ht]

omit hw in
theorem readAt_row {sig' : RefSig} {κ : Kind} {sp : Space} (v : View sig' κ sp S1x1024 .f32) (X : v.ty.Contents (Elt Ideal)) (o : ℕ) (inb) (c : Fin 256) (j : Fin 1024) (hj : j.val = o + c.val) :
    View.readAt (Elt Ideal) v (Rect.unit (s := S1x1024) ![0, o] S1x256.size inb).toLoadRect X (ix2 0 c) = v.read (Elt Ideal) X (ix2 0 j) := by
  rw [View.readAt_apply]
  refine congrArg _ (funext fun a => Fin.ext ?_)
  show (![0, o] : Fin 2 → ℕ) a + 1 * ((ix2 (0 : Fin 1) c) a).val = _
  fin_cases a <;> simp [ix2, hj]

theorem kpos_eq (k : Fin (k0_t1_loop i (BitVec.ofNat 32 w)).trips) (r : Fin 256) :
    k0_pay10 (F := Ideal) i (Scalar.muli (Scalar.addi (BitVec.ofNat 32 (i 2).val) 1#32) 128#32) (BitVec.ofNat 32 w) 0#32 1#32 k (ix2 r 0) = BitVec.ofNat 32 (rowF (blk i) k.val r).val := by
  have := (rowW_eq ⟨_, i2_lt i⟩ ⟨k.val, by have := nTrips_le (w := w) (i2_lt i); have := lt1 i w hw k; omega⟩).1
  pointwise [k0_pay10]
  show IntOp.addi (rowW (BitVec.ofNat 32 (i 2).val) k.val) (BitVec.ofNat 32 r.val) = _
  rw [this]; simp [IntOp.addi, rowF, BitVec.ofNat_add]

end Offsets

/-- What a trip leaves in the slabs: its own slab at the entries, the others as they were. -/
theorem t1_u (𝒱 : Variants) (c : Dev nD) (bd : Option 𝒱.V) (i : grid0.Coords) (arg3 : Memref sig .tc .smem S4x4096 .i32) (harg3 : arg3.IsWhole) (arg4 : Memref sig .tc .vmem S1x128x8x128 .fp8e4m3) (harg4 : arg4.IsWhole) (arg5 : Memref sig .tc .vmem S1x1x1x1x1024 .f32) (harg5 : arg5.IsWhole) (arg6 : Memref sig .tc .vmem S1x1x1x1024 .i32) (harg6 : arg6.IsWhole) (arg7 : Memref sig .tc .vmem S1x1x4096x128 .fp8e4m3) (harg7 : arg7.IsWhole) (arg8 : Memref sig .tc .vmem S1x1x4096x1 .f32) (harg8 : arg8.IsWhole) (arg9 : Memref sig .tc .vmem S1x1x4096x128 .fp8e4m3) (harg9 : arg9.IsWhole) (arg10 : Memref sig .tc .smem S4x2 .f32) (harg10 : arg10.IsWhole) (arg11 : Memref sig .tc .vmem S1x128x8x128 .bf16) (harg11 : arg11.IsWhole) (arg12 : Memref sig .tc .vmem S1x1x1x1x1024 .f32) (harg12 : arg12.IsWhole) (arg13 : Memref sig .tc .vmem S17x256x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S128x1024 .f32) (harg16 : arg16.IsWhole) (v1 : BitVec 32) (w : ℕ) (hw : w ≤ (i 2).val * 128) (k0_hw1 : k0_chk1 i (BitVec.ofNat 32 w)) (v43 : BitVec 32) (v57 : BitVec 32) (v59 : IVec S1x1024 32) (v73 : IVec S1x1024 1) (v75 : IVec S1x1024 32) (v76 : IVec S1x1024 32) (v84 : Vec Ideal S1x1x1x1024 .i32) (X_arg4 : BufTy.Contents (Elt Ideal) arg4.view.ty) (X_arg7 : BufTy.Contents (Elt Ideal) arg7.view.ty) (X_arg8 : BufTy.Contents (Elt Ideal) arg8.view.ty) (hv1 : v1 = Scalar.muli (Scalar.addi (BitVec.ofNat 32 (i 2).val) 1#32) 128#32) (hq : ∀ j : Fin 1024, k0_pay63 v57 v59 v73 v75 v76 (ix2 0 j) = BitVec.ofNat 32 ((i 2).val * 128 + j.val / 8)) (ds : Fin 1024 → ℕ) (hds : ∀ j, ds j < 4096) (hd : ∀ j : Fin 1024, v84 (ix4 0 0 0 j) = BitVec.ofNat 32 (ds j)) (Q : Vec Ideal S1x128x8x128 .fp8e4m3) (hQ : arg4.view.read (Elt Ideal) X_arg4 = Q) (K : Vec Ideal S1x1x4096x128 .fp8e4m3) (hK : arg7.view.read (Elt Ideal) X_arg7 = K) (KS : Vec Ideal S1x1x4096x1 .f32) (hKS : arg8.view.read (Elt Ideal) X_arg8 = KS)
    (k : Fin (k0_t1_loop i (BitVec.ofNat 32 w)).trips) (acc : BitVec 32) (G_arg13 : BufTy.Contents (Elt Ideal) arg13.view.ty) (G_arg14 : BufTy.Contents (Elt Ideal) arg14.view.ty) (s : Fin 17) (r : Fin 256) (j : Fin 1024) :
    arg13.view.read (Elt Ideal) (arg13.view.writes (Elt Ideal) G_arg13 ((trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 v1 (BitVec.ofNat 32 w) k0_hw1 v43 v57 v59 v73 v75 v76 v84 X_arg4 X_arg7 X_arg8 k).2.1 acc G_arg13 G_arg14)) (ix3 s r j)
      = if s.val = k.val then uF Q K KS (blk i) ds k.val r j else arg13.view.read (Elt Ideal) G_arg13 (ix3 s r j) := by
  subst hv1
  have hkp := kpos_eq i w hw k
  have hk17 := lt1 i w hw k
  have hhi := hiW_eq ⟨_, i2_lt i⟩ ⟨k.val, by have := nTrips_le (w := w) (i2_lt i); omega⟩ (nTrips_hi hk17)
  have hj2 := i2_lt i
  unfold trip_k0_t1
  dsimp only
  by_cases hs : s.val = k.val
  · rw [if_pos hs]
    have hx : ∀ (o : ℕ) (c : Fin 256), j.val = o + c.val → ∀ a, ((ix3 s r j) a).val = (![k.val, 0, o] : Fin 3 → ℕ) a + ((ix3 (0 : Fin 1) r c) a).val := fun o c hc a => by
      fin_cases a <;> simp [ix3, hs, hc]
    rcases (show j.val < 256 ∨ (256 ≤ j.val ∧ j.val < 512) ∨ (512 ≤ j.val ∧ j.val < 768) ∨ 768 ≤ j.val by omega) with h | h | h | h
    · obtain ⟨c, hc⟩ : ∃ c : Fin 256, j.val = 0 + c.val := ⟨⟨j.val - 0, by have := j.isLt; omega⟩, by show j.val = 0 + (j.val - 0); omega⟩
      rw [View.read_writes_cons_unit_of_not_mem _ _ _ _ _ _ (off7_eq i w hw k) 2 (Or.inl (by show j.val < _; simp; omega))]; rw [View.read_writes_cons_unit_of_not_mem _ _ _ _ _ _ (off6_eq i w hw k) 2 (Or.inl (by show j.val < _; simp; omega))]; rw [View.read_writes_cons_unit_of_not_mem _ _ _ _ _ _ (off5_eq i w hw k) 2 (Or.inl (by show j.val < _; simp; omega))]; rw [View.read_writes_cons_unit_of_mem _ _ _ _ _ _ (ix3 0 r c) (off4_eq i w hw k) (hx 0 c hc)]
      pointwise [k0_pay12, k0_pay11, k0_pay8, k0_pay9, k0_pay64, trip_k0_t1.sl.r, trip_k0_t1.sl.r_1, trip_k0_t1.sl.r_2, trip_k0_t1.sl.r_3, trip_k0_t1.sl.r_4, trip_k0_t1.sl.r_6, trip_k0_t1.sl.r_7, trip_k0_t1.sl.v153, trip_k0_t1.sl.v152, trip_k0_t1.sl.arg17]
      rw [show ∀ h', (⟨↑c, h'⟩ : Fin 1024) = j from fun _ => Fin.ext (by show c.val = j.val; omega)]
      refine (mask_small (hkp r) (hq j) (hd j) hhi _ _ (by omega) (by omega) (by have := hds j; omega) (by show ((i 2).val + 1) * 128 - k.val * 256 < _; omega)).trans ?_
      rw [neg_inf_word]
      refine if_congr Iff.rfl (congrArg₂ (· * ·) (Finset.sum_congr rfl fun d _ => congrArg₂ (· * ·) ((readAt_K i w hw _ _ _ _ k.val (off2_eq i w hw k) r d).trans (congrFun hK _)) ((readAt_Q _ _ 0 _ _ _ d ⟨j.val / 8, by omega⟩ (by show j.val / 8 = 0 + c.val / 8; omega)).trans ?_)) ((readAt_KS i w hw _ _ _ _ k.val (off3_eq i w hw k) r).trans (congrFun hKS _))) rfl
      rw [hQ]; exact congrArg (fun g => Q (ix4 0 _ g d)) (Fin.ext (by show c.val % 8 = j.val % 8; omega))
    · obtain ⟨c, hc⟩ : ∃ c : Fin 256, j.val = 256 + c.val := ⟨⟨j.val - 256, by have := j.isLt; omega⟩, by show j.val = 256 + (j.val - 256); omega⟩
      rw [View.read_writes_cons_unit_of_not_mem _ _ _ _ _ _ (off7_eq i w hw k) 2 (Or.inl (by show j.val < _; simp; omega))]; rw [View.read_writes_cons_unit_of_not_mem _ _ _ _ _ _ (off6_eq i w hw k) 2 (Or.inl (by show j.val < _; simp; omega))]; rw [View.read_writes_cons_unit_of_mem _ _ _ _ _ _ (ix3 0 r c) (off5_eq i w hw k) (hx 256 c hc)]
      pointwise [k0_pay15, k0_pay14, k0_pay8, k0_pay9, k0_pay64, trip_k0_t1.sl.r, trip_k0_t1.sl.r_1, trip_k0_t1.sl.r_2, trip_k0_t1.sl.r_3, trip_k0_t1.sl.r_4, trip_k0_t1.sl.r_6, trip_k0_t1.sl.r_7, trip_k0_t1.sl.v153, trip_k0_t1.sl.v152, trip_k0_t1.sl.arg17]
      rw [show ∀ h', (⟨256 + ↑c, h'⟩ : Fin 1024) = j from fun _ => Fin.ext (by show 256 + c.val = j.val; omega)]
      refine (mask_small (hkp r) (hq j) (hd j) hhi _ _ (by omega) (by omega) (by have := hds j; omega) (by show ((i 2).val + 1) * 128 - k.val * 256 < _; omega)).trans ?_
      rw [neg_inf_word]
      refine if_congr Iff.rfl (congrArg₂ (· * ·) (Finset.sum_congr rfl fun d _ => congrArg₂ (· * ·) ((readAt_K i w hw _ _ _ _ k.val (off2_eq i w hw k) r d).trans (congrFun hK _)) ((readAt_Q _ _ 32 _ _ _ d ⟨j.val / 8, by omega⟩ (by show j.val / 8 = 32 + c.val / 8; omega)).trans ?_)) ((readAt_KS i w hw _ _ _ _ k.val (off3_eq i w hw k) r).trans (congrFun hKS _))) rfl
      rw [hQ]; exact congrArg (fun g => Q (ix4 0 _ g d)) (Fin.ext (by show c.val % 8 = j.val % 8; omega))
    · obtain ⟨c, hc⟩ : ∃ c : Fin 256, j.val = 512 + c.val := ⟨⟨j.val - 512, by have := j.isLt; omega⟩, by show j.val = 512 + (j.val - 512); omega⟩
      rw [View.read_writes_cons_unit_of_not_mem _ _ _ _ _ _ (off7_eq i w hw k) 2 (Or.inl (by show j.val < _; simp; omega))]; rw [View.read_writes_cons_unit_of_mem _ _ _ _ _ _ (ix3 0 r c) (off6_eq i w hw k) (hx 512 c hc)]
      pointwise [k0_pay18, k0_pay17, k0_pay8, k0_pay9, k0_pay64, trip_k0_t1.sl.r, trip_k0_t1.sl.r_1, trip_k0_t1.sl.r_2, trip_k0_t1.sl.r_3, trip_k0_t1.sl.r_4, trip_k0_t1.sl.r_6, trip_k0_t1.sl.r_7, trip_k0_t1.sl.v153, trip_k0_t1.sl.v152, trip_k0_t1.sl.arg17]
      rw [show ∀ h', (⟨512 + ↑c, h'⟩ : Fin 1024) = j from fun _ => Fin.ext (by show 512 + c.val = j.val; omega)]
      refine (mask_small (hkp r) (hq j) (hd j) hhi _ _ (by omega) (by omega) (by have := hds j; omega) (by show ((i 2).val + 1) * 128 - k.val * 256 < _; omega)).trans ?_
      rw [neg_inf_word]
      refine if_congr Iff.rfl (congrArg₂ (· * ·) (Finset.sum_congr rfl fun d _ => congrArg₂ (· * ·) ((readAt_K i w hw _ _ _ _ k.val (off2_eq i w hw k) r d).trans (congrFun hK _)) ((readAt_Q _ _ 64 _ _ _ d ⟨j.val / 8, by omega⟩ (by show j.val / 8 = 64 + c.val / 8; omega)).trans ?_)) ((readAt_KS i w hw _ _ _ _ k.val (off3_eq i w hw k) r).trans (congrFun hKS _))) rfl
      rw [hQ]; exact congrArg (fun g => Q (ix4 0 _ g d)) (Fin.ext (by show c.val % 8 = j.val % 8; omega))
    · obtain ⟨c, hc⟩ : ∃ c : Fin 256, j.val = 768 + c.val := ⟨⟨j.val - 768, by have := j.isLt; omega⟩, by show j.val = 768 + (j.val - 768); omega⟩
      rw [View.read_writes_cons_unit_of_mem _ _ _ _ _ _ (ix3 0 r c) (off7_eq i w hw k) (hx 768 c hc)]
      pointwise [k0_pay66, k0_pay65, k0_pay20, k0_pay21, k0_pay8, k0_pay9, k0_pay64, trip_k0_t1.sl.r, trip_k0_t1.sl.r_1, trip_k0_t1.sl.r_2, trip_k0_t1.sl.r_3, trip_k0_t1.sl.r_4, trip_k0_t1.sl.r_6, trip_k0_t1.sl.r_7, trip_k0_t1.sl.v153, trip_k0_t1.sl.v152, trip_k0_t1.sl.arg17]
      rw [show ∀ h', (⟨768 + ↑c, h'⟩ : Fin 1024) = j from fun _ => Fin.ext (by show 768 + c.val = j.val; omega)]
      refine (mask_small (hkp r) (hq j) (hd j) hhi _ _ (by omega) (by omega) (by have := hds j; omega) (by show ((i 2).val + 1) * 128 - k.val * 256 < _; omega)).trans ?_
      rw [neg_inf_word]
      refine if_congr Iff.rfl (congrArg₂ (· * ·) (Finset.sum_congr rfl fun d _ => congrArg₂ (· * ·) ((readAt_K i w hw _ _ _ _ k.val (off2_eq i w hw k) r d).trans (congrFun hK _)) ((readAt_Q _ _ 96 _ _ _ d ⟨j.val / 8, by omega⟩ (by show j.val / 8 = 96 + c.val / 8; omega)).trans ?_)) ((readAt_KS i w hw _ _ _ _ k.val (off3_eq i w hw k) r).trans (congrFun hKS _))) rfl
      rw [hQ]; exact congrArg (fun g => Q (ix4 0 _ g d)) (Fin.ext (by show c.val % 8 = j.val % 8; omega))
  · rw [if_neg hs]
    have hn : ∀ o : ℕ, ¬ ∀ a, (![k.val, 0, o] : Fin 3 → ℕ) a ≤ ((ix3 s r j) a).val ∧ ((ix3 s r j) a).val < (![k.val, 0, o] : Fin 3 → ℕ) a + S1x256x256.size a := fun o hh => by
      have := hh 0
      exact hs (by have h1 : k.val ≤ s.val := this.1; have h2 : s.val < k.val + 1 := this.2; omega)
    rw [View.read_writes_cons_unit _ _ _ _ _ _ (off7_eq i w hw k), View.read_writes_cons_unit _ _ _ _ _ _ (off6_eq i w hw k), View.read_writes_cons_unit _ _ _ _ _ _ (off5_eq i w hw k), View.read_writes_cons_unit _ _ _ _ _ _ (off4_eq i w hw k), dif_neg (hn 768), dif_neg (hn 512), dif_neg (hn 256), dif_neg (hn 0)]
    rfl

/-- What a trip leaves in the running maximum. -/
theorem t1_mx (𝒱 : Variants) (c : Dev nD) (bd : Option 𝒱.V) (i : grid0.Coords) (arg3 : Memref sig .tc .smem S4x4096 .i32) (harg3 : arg3.IsWhole) (arg4 : Memref sig .tc .vmem S1x128x8x128 .fp8e4m3) (harg4 : arg4.IsWhole) (arg5 : Memref sig .tc .vmem S1x1x1x1x1024 .f32) (harg5 : arg5.IsWhole) (arg6 : Memref sig .tc .vmem S1x1x1x1024 .i32) (harg6 : arg6.IsWhole) (arg7 : Memref sig .tc .vmem S1x1x4096x128 .fp8e4m3) (harg7 : arg7.IsWhole) (arg8 : Memref sig .tc .vmem S1x1x4096x1 .f32) (harg8 : arg8.IsWhole) (arg9 : Memref sig .tc .vmem S1x1x4096x128 .fp8e4m3) (harg9 : arg9.IsWhole) (arg10 : Memref sig .tc .smem S4x2 .f32) (harg10 : arg10.IsWhole) (arg11 : Memref sig .tc .vmem S1x128x8x128 .bf16) (harg11 : arg11.IsWhole) (arg12 : Memref sig .tc .vmem S1x1x1x1x1024 .f32) (harg12 : arg12.IsWhole) (arg13 : Memref sig .tc .vmem S17x256x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S128x1024 .f32) (harg16 : arg16.IsWhole) (v1 : BitVec 32) (w : ℕ) (hw : w ≤ (i 2).val * 128) (k0_hw1 : k0_chk1 i (BitVec.ofNat 32 w)) (v43 : BitVec 32) (v57 : BitVec 32) (v59 : IVec S1x1024 32) (v73 : IVec S1x1024 1) (v75 : IVec S1x1024 32) (v76 : IVec S1x1024 32) (v84 : Vec Ideal S1x1x1x1024 .i32) (X_arg4 : BufTy.Contents (Elt Ideal) arg4.view.ty) (X_arg7 : BufTy.Contents (Elt Ideal) arg7.view.ty) (X_arg8 : BufTy.Contents (Elt Ideal) arg8.view.ty) (hv1 : v1 = Scalar.muli (Scalar.addi (BitVec.ofNat 32 (i 2).val) 1#32) 128#32) (hq : ∀ j : Fin 1024, k0_pay63 v57 v59 v73 v75 v76 (ix2 0 j) = BitVec.ofNat 32 ((i 2).val * 128 + j.val / 8)) (ds : Fin 1024 → ℕ) (hds : ∀ j, ds j < 4096) (hd : ∀ j : Fin 1024, v84 (ix4 0 0 0 j) = BitVec.ofNat 32 (ds j)) (Q : Vec Ideal S1x128x8x128 .fp8e4m3) (hQ : arg4.view.read (Elt Ideal) X_arg4 = Q) (K : Vec Ideal S1x1x4096x128 .fp8e4m3) (hK : arg7.view.read (Elt Ideal) X_arg7 = K) (KS : Vec Ideal S1x1x4096x1 .f32) (hKS : arg8.view.read (Elt Ideal) X_arg8 = KS)
    (k : Fin (k0_t1_loop i (BitVec.ofNat 32 w)).trips) (acc : BitVec 32) (G_arg13 : BufTy.Contents (Elt Ideal) arg13.view.ty) (G_arg14 : BufTy.Contents (Elt Ideal) arg14.view.ty) (j : Fin 1024) :
    (arg14.view.read (Elt Ideal) (arg14.view.writes (Elt Ideal) G_arg14 ((trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 v1 (BitVec.ofNat 32 w) k0_hw1 v43 v57 v59 v73 v75 v76 v84 X_arg4 X_arg7 X_arg8 k).2.2.1 acc G_arg13 G_arg14)) (ix2 0 j) : EReal)
      = max (arg14.view.read (Elt Ideal) G_arg14 (ix2 0 j) : EReal) (Finset.univ.sup fun r => uF Q K KS (blk i) ds k.val r j) := by
  subst hv1
  have hkp := kpos_eq i w hw k
  have hk17 := lt1 i w hw k
  have hhi := hiW_eq ⟨_, i2_lt i⟩ ⟨k.val, by have := nTrips_le (w := w) (i2_lt i); omega⟩ (nTrips_hi hk17)
  have hj2 := i2_lt i
  have hx : ∀ (o : ℕ) (c : Fin 256), j.val = o + c.val → ∀ a, ((ix2 (0 : Fin 1) j) a).val = (![0, o] : Fin 2 → ℕ) a + ((ix2 (0 : Fin 1) c) a).val := fun o c hc a => by
    fin_cases a <;> simp [ix2, hc]
  unfold trip_k0_t1
  dsimp only
  rcases (show j.val < 256 ∨ (256 ≤ j.val ∧ j.val < 512) ∨ (512 ≤ j.val ∧ j.val < 768) ∨ 768 ≤ j.val by omega) with h | h | h | h
  · obtain ⟨c, hc⟩ : ∃ c : Fin 256, j.val = 0 + c.val := ⟨⟨j.val - 0, by have := j.isLt; omega⟩, by show j.val = 0 + (j.val - 0); omega⟩
    rw [View.read_writes_cons_unit_of_not_mem _ _ _ _ _ _ rfl 1 (Or.inl (by show j.val < _; simp; omega))]; rw [View.read_writes_cons_unit_of_not_mem _ _ _ _ _ _ rfl 1 (Or.inl (by show j.val < _; simp; omega))]; rw [View.read_writes_cons_unit_of_not_mem _ _ _ _ _ _ rfl 1 (Or.inl (by show j.val < _; simp; omega))]; rw [View.read_writes_cons_unit_of_mem _ _ _ _ _ _ (ix2 0 c) rfl (hx 0 c hc)]
    pointwise [k0_pay13, k0_pay11, k0_pay8, k0_pay9, k0_pay64, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.v153, trip_k0_t1.sl.v152, trip_k0_t1.sl.arg17]
    simp only [show ∀ h', (⟨↑c, h'⟩ : Fin 1024) = j from fun _ => Fin.ext (by show c.val = j.val; omega), neg_inf_word]
    exact congrArg₂ max (readAt_row _ _ 0 _ c j hc) (Finset.fold_congr fun r _ => (mask_small (hkp r) (hq j) (hd j) hhi _ _ (by omega) (by omega) (by have := hds j; omega) (by show ((i 2).val + 1) * 128 - k.val * 256 < _; omega)).trans
        (if_congr Iff.rfl (congrArg₂ (· * ·) (Finset.sum_congr rfl fun d _ => congrArg₂ (· * ·) ((readAt_K i w hw _ _ _ _ k.val (off2_eq i w hw k) r d).trans (congrFun hK _)) ((readAt_Q _ _ 0 _ _ _ d ⟨j.val / 8, by omega⟩ (by show j.val / 8 = 0 + c.val / 8; omega)).trans ((congrFun hQ _).trans (congrArg (fun g => Q (ix4 0 _ g d)) (Fin.ext (by show c.val % 8 = j.val % 8; omega)))))) ((readAt_KS i w hw _ _ _ _ k.val (off3_eq i w hw k) r).trans (congrFun hKS _))) rfl))
  · obtain ⟨c, hc⟩ : ∃ c : Fin 256, j.val = 256 + c.val := ⟨⟨j.val - 256, by have := j.isLt; omega⟩, by show j.val = 256 + (j.val - 256); omega⟩
    rw [View.read_writes_cons_unit_of_not_mem _ _ _ _ _ _ rfl 1 (Or.inl (by show j.val < _; simp; omega))]; rw [View.read_writes_cons_unit_of_not_mem _ _ _ _ _ _ rfl 1 (Or.inl (by show j.val < _; simp; omega))]; rw [View.read_writes_cons_unit_of_mem _ _ _ _ _ _ (ix2 0 c) rfl (hx 256 c hc)]
    pointwise [k0_pay16, k0_pay14, k0_pay8, k0_pay9, k0_pay64, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.v153, trip_k0_t1.sl.v152, trip_k0_t1.sl.arg17]
    simp only [show ∀ h', (⟨256 + ↑c, h'⟩ : Fin 1024) = j from fun _ => Fin.ext (by show 256 + c.val = j.val; omega), neg_inf_word]
    exact congrArg₂ max (readAt_row _ _ 256 _ c j hc) (Finset.fold_congr fun r _ => (mask_small (hkp r) (hq j) (hd j) hhi _ _ (by omega) (by omega) (by have := hds j; omega) (by show ((i 2).val + 1) * 128 - k.val * 256 < _; omega)).trans
        (if_congr Iff.rfl (congrArg₂ (· * ·) (Finset.sum_congr rfl fun d _ => congrArg₂ (· * ·) ((readAt_K i w hw _ _ _ _ k.val (off2_eq i w hw k) r d).trans (congrFun hK _)) ((readAt_Q _ _ 32 _ _ _ d ⟨j.val / 8, by omega⟩ (by show j.val / 8 = 32 + c.val / 8; omega)).trans ((congrFun hQ _).trans (congrArg (fun g => Q (ix4 0 _ g d)) (Fin.ext (by show c.val % 8 = j.val % 8; omega)))))) ((readAt_KS i w hw _ _ _ _ k.val (off3_eq i w hw k) r).trans (congrFun hKS _))) rfl))
  · obtain ⟨c, hc⟩ : ∃ c : Fin 256, j.val = 512 + c.val := ⟨⟨j.val - 512, by have := j.isLt; omega⟩, by show j.val = 512 + (j.val - 512); omega⟩
    rw [View.read_writes_cons_unit_of_not_mem _ _ _ _ _ _ rfl 1 (Or.inl (by show j.val < _; simp; omega))]; rw [View.read_writes_cons_unit_of_mem _ _ _ _ _ _ (ix2 0 c) rfl (hx 512 c hc)]
    pointwise [k0_pay19, k0_pay17, k0_pay8, k0_pay9, k0_pay64, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.v153, trip_k0_t1.sl.v152, trip_k0_t1.sl.arg17]
    simp only [show ∀ h', (⟨512 + ↑c, h'⟩ : Fin 1024) = j from fun _ => Fin.ext (by show 512 + c.val = j.val; omega), neg_inf_word]
    exact congrArg₂ max (readAt_row _ _ 512 _ c j hc) (Finset.fold_congr fun r _ => (mask_small (hkp r) (hq j) (hd j) hhi _ _ (by omega) (by omega) (by have := hds j; omega) (by show ((i 2).val + 1) * 128 - k.val * 256 < _; omega)).trans
        (if_congr Iff.rfl (congrArg₂ (· * ·) (Finset.sum_congr rfl fun d _ => congrArg₂ (· * ·) ((readAt_K i w hw _ _ _ _ k.val (off2_eq i w hw k) r d).trans (congrFun hK _)) ((readAt_Q _ _ 64 _ _ _ d ⟨j.val / 8, by omega⟩ (by show j.val / 8 = 64 + c.val / 8; omega)).trans ((congrFun hQ _).trans (congrArg (fun g => Q (ix4 0 _ g d)) (Fin.ext (by show c.val % 8 = j.val % 8; omega)))))) ((readAt_KS i w hw _ _ _ _ k.val (off3_eq i w hw k) r).trans (congrFun hKS _))) rfl))
  · obtain ⟨c, hc⟩ : ∃ c : Fin 256, j.val = 768 + c.val := ⟨⟨j.val - 768, by have := j.isLt; omega⟩, by show j.val = 768 + (j.val - 768); omega⟩
    rw [View.read_writes_cons_unit_of_mem _ _ _ _ _ _ (ix2 0 c) rfl (hx 768 c hc)]
    pointwise [k0_pay67, k0_pay65, k0_pay20, k0_pay21, k0_pay8, k0_pay9, k0_pay64, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.v153, trip_k0_t1.sl.v152, trip_k0_t1.sl.arg17]
    simp only [show ∀ h', (⟨768 + ↑c, h'⟩ : Fin 1024) = j from fun _ => Fin.ext (by show 768 + c.val = j.val; omega), neg_inf_word]
    exact congrArg₂ max (readAt_row _ _ 768 _ c j hc) (Finset.fold_congr fun r _ => (mask_small (hkp r) (hq j) (hd j) hhi _ _ (by omega) (by omega) (by have := hds j; omega) (by show ((i 2).val + 1) * 128 - k.val * 256 < _; omega)).trans
        (if_congr Iff.rfl (congrArg₂ (· * ·) (Finset.sum_congr rfl fun d _ => congrArg₂ (· * ·) ((readAt_K i w hw _ _ _ _ k.val (off2_eq i w hw k) r d).trans (congrFun hK _)) ((readAt_Q _ _ 96 _ _ _ d ⟨j.val / 8, by omega⟩ (by show j.val / 8 = 96 + c.val / 8; omega)).trans ((congrFun hQ _).trans (congrArg (fun g => Q (ix4 0 _ g d)) (Fin.ext (by show c.val % 8 = j.val % 8; omega)))))) ((readAt_KS i w hw _ _ _ _ k.val (off3_eq i w hw k) r).trans (congrFun hKS _))) rfl))

/-- The running maximum over the first `n` windows. -/
def mF (Q : Vec Ideal S1x128x8x128 .fp8e4m3) (K : Vec Ideal S1x1x4096x128 .fp8e4m3) (KS : Vec Ideal S1x1x4096x1 .f32)
    (j2 : Fin 32) (ds : Fin 1024 → ℕ) (n : ℕ) (j : Fin 1024) : EReal :=
  (Finset.range n).sup fun s => Finset.univ.sup fun r => uF Q K KS j2 ds s r j

theorem mF_succ (Q : Vec Ideal S1x128x8x128 .fp8e4m3) (K : Vec Ideal S1x1x4096x128 .fp8e4m3) (KS : Vec Ideal S1x1x4096x1 .f32)
    (j2 : Fin 32) (ds : Fin 1024 → ℕ) (n : ℕ) (j : Fin 1024) :
    mF Q K KS j2 ds (n + 1) j = max (mF Q K KS j2 ds n j) (Finset.univ.sup fun r => uF Q K KS j2 ds n r j) := by
  unfold mF; rw [Finset.range_add_one, Finset.sup_insert, max_comm]

/-- The slabs and the running maximum after any number of trips. -/
theorem t1_state (𝒱 : Variants) (c : Dev nD) (bd : Option 𝒱.V) (i : grid0.Coords) (arg3 : Memref sig .tc .smem S4x4096 .i32) (harg3 : arg3.IsWhole) (arg4 : Memref sig .tc .vmem S1x128x8x128 .fp8e4m3) (harg4 : arg4.IsWhole) (arg5 : Memref sig .tc .vmem S1x1x1x1x1024 .f32) (harg5 : arg5.IsWhole) (arg6 : Memref sig .tc .vmem S1x1x1x1024 .i32) (harg6 : arg6.IsWhole) (arg7 : Memref sig .tc .vmem S1x1x4096x128 .fp8e4m3) (harg7 : arg7.IsWhole) (arg8 : Memref sig .tc .vmem S1x1x4096x1 .f32) (harg8 : arg8.IsWhole) (arg9 : Memref sig .tc .vmem S1x1x4096x128 .fp8e4m3) (harg9 : arg9.IsWhole) (arg10 : Memref sig .tc .smem S4x2 .f32) (harg10 : arg10.IsWhole) (arg11 : Memref sig .tc .vmem S1x128x8x128 .bf16) (harg11 : arg11.IsWhole) (arg12 : Memref sig .tc .vmem S1x1x1x1x1024 .f32) (harg12 : arg12.IsWhole) (arg13 : Memref sig .tc .vmem S17x256x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S128x1024 .f32) (harg16 : arg16.IsWhole) (v1 : BitVec 32) (w : ℕ) (hw : w ≤ (i 2).val * 128) (k0_hw1 : k0_chk1 i (BitVec.ofNat 32 w)) (v43 : BitVec 32) (v57 : BitVec 32) (v59 : IVec S1x1024 32) (v73 : IVec S1x1024 1) (v75 : IVec S1x1024 32) (v76 : IVec S1x1024 32) (v84 : Vec Ideal S1x1x1x1024 .i32) (X_arg4 : BufTy.Contents (Elt Ideal) arg4.view.ty) (X_arg7 : BufTy.Contents (Elt Ideal) arg7.view.ty) (X_arg8 : BufTy.Contents (Elt Ideal) arg8.view.ty) (hv1 : v1 = Scalar.muli (Scalar.addi (BitVec.ofNat 32 (i 2).val) 1#32) 128#32) (hq : ∀ j : Fin 1024, k0_pay63 v57 v59 v73 v75 v76 (ix2 0 j) = BitVec.ofNat 32 ((i 2).val * 128 + j.val / 8)) (ds : Fin 1024 → ℕ) (hds : ∀ j, ds j < 4096) (hd : ∀ j : Fin 1024, v84 (ix4 0 0 0 j) = BitVec.ofNat 32 (ds j)) (Q : Vec Ideal S1x128x8x128 .fp8e4m3) (hQ : arg4.view.read (Elt Ideal) X_arg4 = Q) (K : Vec Ideal S1x1x4096x128 .fp8e4m3) (hK : arg7.view.read (Elt Ideal) X_arg7 = K) (KS : Vec Ideal S1x1x4096x1 .f32) (hKS : arg8.view.read (Elt Ideal) X_arg8 = KS)
    (G_arg13 : BufTy.Contents (Elt Ideal) arg13.view.ty) (G_arg14 : BufTy.Contents (Elt Ideal) arg14.view.ty) (init : BitVec 32) (n : ℕ) (hn : n ≤ (k0_t1_loop i (BitVec.ofNat 32 w)).trips) :
    (∀ (s : Fin 17) (r : Fin 256) (j : Fin 1024), s.val < n →
      arg13.view.read (Elt Ideal) (arg13.view.writes (Elt Ideal) G_arg13 (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 v1 (BitVec.ofNat 32 w) k0_hw1 v43 v57 v59 v73 v75 v76 v84 X_arg4 X_arg7 X_arg8 G_arg13 G_arg14 init n).2.1) (ix3 s r j) = uF Q K KS (blk i) ds s.val r j)
    ∧ ∀ j : Fin 1024, (arg14.view.read (Elt Ideal) (arg14.view.writes (Elt Ideal) G_arg14 (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 v1 (BitVec.ofNat 32 w) k0_hw1 v43 v57 v59 v73 v75 v76 v84 X_arg4 X_arg7 X_arg8 G_arg13 G_arg14 init n).2.2) (ix2 0 j) : EReal)
      = max (arg14.view.read (Elt Ideal) G_arg14 (ix2 0 j) : EReal) (mF Q K KS (blk i) ds n j) := by
  induction n with
  | zero =>
    refine ⟨fun s r j h => absurd h (Nat.not_lt_zero _), fun j => ?_⟩
    show (arg14.view.read (Elt Ideal) G_arg14 (ix2 0 j) : EReal) = max _ (mF Q K KS (blk i) ds 0 j)
    rw [mF, Finset.range_zero, Finset.sup_empty, max_bot_right]
  | succ n ih =>
    obtain ⟨ih1, ih2⟩ := ih (by omega)
    have e := st_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 v1 (BitVec.ofNat 32 w) k0_hw1 v43 v57 v59 v73 v75 v76 v84 X_arg4 X_arg7 X_arg8 G_arg13 G_arg14 init ⟨n, by omega⟩
    dsimp only at e
    refine ⟨fun s r j h => ?_, fun j => ?_⟩
    · rw [e]; dsimp only; rw [View.writes_append]
      refine (t1_u 𝒱 c bd i arg3 harg3 arg4 harg4 arg5 harg5 arg6 harg6 arg7 harg7 arg8 harg8 arg9 harg9 arg10 harg10 arg11 harg11 arg12 harg12 arg13 harg13 arg14 harg14 arg15 harg15 arg16 harg16 v1 w hw k0_hw1 v43 v57 v59 v73 v75 v76 v84 X_arg4 X_arg7 X_arg8 hv1 hq ds hds hd Q hQ K hK KS hKS ⟨n, by omega⟩ _ _ _ s r j).trans ?_
      by_cases hs : s.val = n
      · rw [if_pos hs, hs]
      · rw [if_neg hs]; exact ih1 s r j (by omega)
    · rw [e]; dsimp only; rw [View.writes_append]
      refine (t1_mx 𝒱 c bd i arg3 harg3 arg4 harg4 arg5 harg5 arg6 harg6 arg7 harg7 arg8 harg8 arg9 harg9 arg10 harg10 arg11 harg11 arg12 harg12 arg13 harg13 arg14 harg14 arg15 harg15 arg16 harg16 v1 w hw k0_hw1 v43 v57 v59 v73 v75 v76 v84 X_arg4 X_arg7 X_arg8 hv1 hq ds hds hd Q hQ K hK KS hKS ⟨n, by omega⟩ _ _ _ j).trans ?_
      rw [ih2 j, mF_succ, max_assoc]

end Cert.KernelIdeal.Gen
-- ==== Proof.I.Probs.lean ====
module
public import proofs.«01_k».proof.Proof.I.Scores

/-!
The probability loop read off: what each trip adds to the sum of weights and to the weighted sum of value rows, and the same
after any number of trips.
-/

@[expose] public section

set_option maxRecDepth 16384

noncomputable section

namespace Cert.KernelIdeal.Gen

open Idealize.ShloMosaic Idealize.ShloMosaic.TcCoe Idealize.ShloMosaic.Tactic Idealize.SL Idealize.SL.Sem

/-- The weight the body makes of a score: the bits of the rounded linear form, read as a number. -/
def pF (v93 : Vec Ideal S1x1x1x1x1024 .f32) (v95 : Vec Ideal S1x1024 .f32) (u : EReal) (j : Fin 1024) : EReal :=
  Ideal.ofBits FTy.f32 (FloatOps.fptosi (F := Ideal) (φ := FTy.f32) 32 (Ideal.liftRound Ideal.roundHalfEven
    (u * (k0_pay74 v93 (ix2 0 j) : EReal) - (k0_pay73 v93 v95 (ix2 0 j) : EReal))))

theorem readAt_slab {sig' : RefSig} {κ : Kind} {sp : Space} (v : View sig' κ sp S17x256x1024 .f32) (X : v.ty.Contents (Elt Ideal)) (off : Fin 3 → ℕ) (inb) (k : Fin 17) (o : ℕ)
    (h : off = ![k.val, 0, o]) (r : Fin 256) (c : Fin 256) (j : Fin 1024) (hj : j.val = o + c.val) :
    View.readAt (Elt Ideal) v (Rect.unit (s := S17x256x1024) off S1x256x256.size inb).toLoadRect X (ix3 0 r c) = v.read (Elt Ideal) X (ix3 k r j) := by
  subst h
  rw [View.readAt_apply]
  refine congrArg _ (funext fun a => Fin.ext ?_)
  show (![k.val, 0, o] : Fin 3 → ℕ) a + 1 * ((ix3 (0 : Fin 1) r c) a).val = _
  fin_cases a <;> simp [ix3, hj]

theorem readAt_acc {sig' : RefSig} {κ : Kind} {sp : Space} (v : View sig' κ sp S128x1024 .f32) (X : v.ty.Contents (Elt Ideal)) (o : ℕ) (inb) (d : Fin 128) (c : Fin 256) (j : Fin 1024) (hj : j.val = o + c.val) :
    View.readAt (Elt Ideal) v (Rect.unit (s := S128x1024) ![0, o] S128x256.size inb).toLoadRect X (ix2 d c) = v.read (Elt Ideal) X (ix2 d j) := by
  rw [View.readAt_apply]
  refine congrArg _ (funext fun a => Fin.ext ?_)
  show (![0, o] : Fin 2 → ℕ) a + 1 * ((ix2 d c) a).val = _
  fin_cases a <;> simp [ix2, hj]

/-- What a trip adds to the sum of weights. -/
theorem t3_l (𝒱 : Variants) (c : Dev nD) (bd : Option 𝒱.V) (i : grid0.Coords) (arg3 : Memref sig .tc .smem S4x4096 .i32) (harg3 : arg3.IsWhole) (arg4 : Memref sig .tc .vmem S1x128x8x128 .fp8e4m3) (harg4 : arg4.IsWhole) (arg5 : Memref sig .tc .vmem S1x1x1x1x1024 .f32) (harg5 : arg5.IsWhole) (arg6 : Memref sig .tc .vmem S1x1x1x1024 .i32) (harg6 : arg6.IsWhole) (arg7 : Memref sig .tc .vmem S1x1x4096x128 .fp8e4m3) (harg7 : arg7.IsWhole) (arg8 : Memref sig .tc .vmem S1x1x4096x1 .f32) (harg8 : arg8.IsWhole) (arg9 : Memref sig .tc .vmem S1x1x4096x128 .fp8e4m3) (harg9 : arg9.IsWhole) (arg10 : Memref sig .tc .smem S4x2 .f32) (harg10 : arg10.IsWhole) (arg11 : Memref sig .tc .vmem S1x128x8x128 .bf16) (harg11 : arg11.IsWhole) (arg12 : Memref sig .tc .vmem S1x1x1x1x1024 .f32) (harg12 : arg12.IsWhole) (arg13 : Memref sig .tc .vmem S17x256x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S128x1024 .f32) (harg16 : arg16.IsWhole) (v1 : BitVec 32) (w : ℕ) (hw : w ≤ (i 2).val * 128) (k0_hw1 : k0_chk1 i (BitVec.ofNat 32 w)) (v43 : BitVec 32) (v57 : BitVec 32) (v59 : IVec S1x1024 32) (v73 : IVec S1x1024 1) (v75 : IVec S1x1024 32) (v76 : IVec S1x1024 32) (v93 : Vec Ideal S1x1x1x1x1024 .f32) (v95 : Vec Ideal S1x1024 .f32) (X_arg9 : BufTy.Contents (Elt Ideal) arg9.view.ty) (X_arg13 : BufTy.Contents (Elt Ideal) arg13.view.ty) (V : Vec Ideal S1x1x4096x128 .fp8e4m3) (hV : arg9.view.read (Elt Ideal) X_arg9 = V) (U : ℕ → Fin 256 → Fin 1024 → EReal)
    (hU : ∀ (s : Fin 17) (r : Fin 256) (j : Fin 1024), s.val < (k0_t3_loop i (BitVec.ofNat 32 w)).trips → arg13.view.read (Elt Ideal) X_arg13 (ix3 s r j) = U s.val r j)
    (k : Fin (k0_t3_loop i (BitVec.ofNat 32 w)).trips) (acc : BitVec 32) (G_arg15 : BufTy.Contents (Elt Ideal) arg15.view.ty) (G_arg16 : BufTy.Contents (Elt Ideal) arg16.view.ty) (j : Fin 1024) :
    (arg15.view.read (Elt Ideal) (arg15.view.writes (Elt Ideal) G_arg15 ((trip_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 v1 (BitVec.ofNat 32 w) k0_hw1 v43 v57 v59 v73 v75 v76 v93 v95 X_arg9 X_arg13 k).2.1 acc G_arg15 G_arg16)) (ix2 (0 : Fin 1) j) : EReal)
      = (arg15.view.read (Elt Ideal) G_arg15 (ix2 (0 : Fin 1) j) : EReal) + ∑ r : Fin 256, pF v93 v95 (U k.val r j) j := by
  have hk17 : k.val < 17 := by have := lt3 i w hw k; have := nTrips_le (w := w) (i2_lt i); omega
  have hx : ∀ (o : ℕ) (c : Fin 256), j.val = o + c.val → ∀ a, (((ix2 (0 : Fin 1) j)) a).val = (![0, o] : Fin 2 → ℕ) a + (((ix2 (0 : Fin 1) c)) a).val := fun o c hc a => by
    fin_cases a <;> simp [ix2, hc]
  unfold trip_k0_t3
  dsimp only
  rcases (show j.val < 256 ∨ (256 ≤ j.val ∧ j.val < 512) ∨ (512 ≤ j.val ∧ j.val < 768) ∨ 768 ≤ j.val by omega) with h | h | h | h
  · obtain ⟨c, hc⟩ : ∃ c : Fin 256, j.val = 0 + c.val := ⟨⟨j.val - 0, by have := j.isLt; omega⟩, by show j.val = 0 + (j.val - 0); omega⟩
    rw [View.read_writes_cons_unit_of_not_mem _ _ _ _ _ _ rfl 1 (Or.inl (by show j.val < _; simp; omega))]; rw [View.read_writes_cons_unit_of_not_mem _ _ _ _ _ _ rfl 1 (Or.inl (by show j.val < _; simp; omega))]; rw [View.read_writes_cons_unit_of_not_mem _ _ _ _ _ _ rfl 1 (Or.inl (by show j.val < _; simp; omega))]; rw [View.read_writes_cons_unit_of_mem _ _ _ _ _ _ ((ix2 (0 : Fin 1) c)) rfl (hx 0 c hc)]
    pointwise [k0_pay38, k0_pay37, trip_k0_t3.sl.r, trip_k0_t3.sl.r_1, trip_k0_t3.sl.r_2, trip_k0_t3.sl.r_3]
    simp only [show ∀ h', (⟨↑c, h'⟩ : Fin 1024) = j from fun _ => Fin.ext (by show c.val = j.val; omega)]
    exact congrArg₂ (· + ·) (readAt_row _ _ 0 _ c j hc) (Finset.sum_congr rfl fun r _ => congrArg (fun x : EReal => Ideal.ofBits FTy.f32 (FloatOps.fptosi (F := Ideal) (φ := FTy.f32) 32 (Ideal.liftRound Ideal.roundHalfEven (x * (k0_pay74 v93 (ix2 0 j) : EReal) - (k0_pay73 v93 v95 (ix2 0 j) : EReal))))) ((readAt_slab _ _ _ _ ⟨k.val, hk17⟩ 0 (off15_eq i w hw k) r c j hc).trans (hU ⟨k.val, hk17⟩ r j k.isLt)))
  · obtain ⟨c, hc⟩ : ∃ c : Fin 256, j.val = 256 + c.val := ⟨⟨j.val - 256, by have := j.isLt; omega⟩, by show j.val = 256 + (j.val - 256); omega⟩
    rw [View.read_writes_cons_unit_of_not_mem _ _ _ _ _ _ rfl 1 (Or.inl (by show j.val < _; simp; omega))]; rw [View.read_writes_cons_unit_of_not_mem _ _ _ _ _ _ rfl 1 (Or.inl (by show j.val < _; simp; omega))]; rw [View.read_writes_cons_unit_of_mem _ _ _ _ _ _ ((ix2 (0 : Fin 1) c)) rfl (hx 256 c hc)]
    pointwise [k0_pay42, k0_pay41, k0_pay40, trip_k0_t3.sl.r, trip_k0_t3.sl.r_1, trip_k0_t3.sl.r_2, trip_k0_t3.sl.r_3]
    simp only [show ∀ h', (⟨256 + ↑c, h'⟩ : Fin 1024) = j from fun _ => Fin.ext (by show 256 + c.val = j.val; omega)]
    exact congrArg₂ (· + ·) (readAt_row _ _ 256 _ c j hc) (Finset.sum_congr rfl fun r _ => congrArg (fun x : EReal => Ideal.ofBits FTy.f32 (FloatOps.fptosi (F := Ideal) (φ := FTy.f32) 32 (Ideal.liftRound Ideal.roundHalfEven (x * (k0_pay74 v93 (ix2 0 j) : EReal) - (k0_pay73 v93 v95 (ix2 0 j) : EReal))))) ((readAt_slab _ _ _ _ ⟨k.val, hk17⟩ 256 (off16_eq i w hw k) r c j hc).trans (hU ⟨k.val, hk17⟩ r j k.isLt)))
  · obtain ⟨c, hc⟩ : ∃ c : Fin 256, j.val = 512 + c.val := ⟨⟨j.val - 512, by have := j.isLt; omega⟩, by show j.val = 512 + (j.val - 512); omega⟩
    rw [View.read_writes_cons_unit_of_not_mem _ _ _ _ _ _ rfl 1 (Or.inl (by show j.val < _; simp; omega))]; rw [View.read_writes_cons_unit_of_mem _ _ _ _ _ _ ((ix2 (0 : Fin 1) c)) rfl (hx 512 c hc)]
    pointwise [k0_pay75, k0_pay45, k0_pay44, trip_k0_t3.sl.r, trip_k0_t3.sl.r_1, trip_k0_t3.sl.r_2, trip_k0_t3.sl.r_3]
    simp only [show ∀ h', (⟨512 + ↑c, h'⟩ : Fin 1024) = j from fun _ => Fin.ext (by show 512 + c.val = j.val; omega)]
    exact congrArg₂ (· + ·) (readAt_row _ _ 512 _ c j hc) (Finset.sum_congr rfl fun r _ => congrArg (fun x : EReal => Ideal.ofBits FTy.f32 (FloatOps.fptosi (F := Ideal) (φ := FTy.f32) 32 (Ideal.liftRound Ideal.roundHalfEven (x * (k0_pay74 v93 (ix2 0 j) : EReal) - (k0_pay73 v93 v95 (ix2 0 j) : EReal))))) ((readAt_slab _ _ _ _ ⟨k.val, hk17⟩ 512 (off17_eq i w hw k) r c j hc).trans (hU ⟨k.val, hk17⟩ r j k.isLt)))
  · obtain ⟨c, hc⟩ : ∃ c : Fin 256, j.val = 768 + c.val := ⟨⟨j.val - 768, by have := j.isLt; omega⟩, by show j.val = 768 + (j.val - 768); omega⟩
    rw [View.read_writes_cons_unit_of_mem _ _ _ _ _ _ ((ix2 (0 : Fin 1) c)) rfl (hx 768 c hc)]
    pointwise [k0_pay78, k0_pay77, trip_k0_t3.sl.r, trip_k0_t3.sl.r_1, trip_k0_t3.sl.r_2, trip_k0_t3.sl.r_3]
    simp only [show ∀ h', (⟨768 + ↑c, h'⟩ : Fin 1024) = j from fun _ => Fin.ext (by show 768 + c.val = j.val; omega)]
    exact congrArg₂ (· + ·) (readAt_row _ _ 768 _ c j hc) (Finset.sum_congr rfl fun r _ => congrArg (fun x : EReal => Ideal.ofBits FTy.f32 (FloatOps.fptosi (F := Ideal) (φ := FTy.f32) 32 (Ideal.liftRound Ideal.roundHalfEven (x * (k0_pay74 v93 (ix2 0 j) : EReal) - (k0_pay73 v93 v95 (ix2 0 j) : EReal))))) ((readAt_slab _ _ _ _ ⟨k.val, hk17⟩ 768 (off18_eq i w hw k) r c j hc).trans (hU ⟨k.val, hk17⟩ r j k.isLt)))

/-- What a trip adds to the weighted sum of value rows. -/
theorem t3_acc (𝒱 : Variants) (c : Dev nD) (bd : Option 𝒱.V) (i : grid0.Coords) (arg3 : Memref sig .tc .smem S4x4096 .i32) (harg3 : arg3.IsWhole) (arg4 : Memref sig .tc .vmem S1x128x8x128 .fp8e4m3) (harg4 : arg4.IsWhole) (arg5 : Memref sig .tc .vmem S1x1x1x1x1024 .f32) (harg5 : arg5.IsWhole) (arg6 : Memref sig .tc .vmem S1x1x1x1024 .i32) (harg6 : arg6.IsWhole) (arg7 : Memref sig .tc .vmem S1x1x4096x128 .fp8e4m3) (harg7 : arg7.IsWhole) (arg8 : Memref sig .tc .vmem S1x1x4096x1 .f32) (harg8 : arg8.IsWhole) (arg9 : Memref sig .tc .vmem S1x1x4096x128 .fp8e4m3) (harg9 : arg9.IsWhole) (arg10 : Memref sig .tc .smem S4x2 .f32) (harg10 : arg10.IsWhole) (arg11 : Memref sig .tc .vmem S1x128x8x128 .bf16) (harg11 : arg11.IsWhole) (arg12 : Memref sig .tc .vmem S1x1x1x1x1024 .f32) (harg12 : arg12.IsWhole) (arg13 : Memref sig .tc .vmem S17x256x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S128x1024 .f32) (harg16 : arg16.IsWhole) (v1 : BitVec 32) (w : ℕ) (hw : w ≤ (i 2).val * 128) (k0_hw1 : k0_chk1 i (BitVec.ofNat 32 w)) (v43 : BitVec 32) (v57 : BitVec 32) (v59 : IVec S1x1024 32) (v73 : IVec S1x1024 1) (v75 : IVec S1x1024 32) (v76 : IVec S1x1024 32) (v93 : Vec Ideal S1x1x1x1x1024 .f32) (v95 : Vec Ideal S1x1024 .f32) (X_arg9 : BufTy.Contents (Elt Ideal) arg9.view.ty) (X_arg13 : BufTy.Contents (Elt Ideal) arg13.view.ty) (V : Vec Ideal S1x1x4096x128 .fp8e4m3) (hV : arg9.view.read (Elt Ideal) X_arg9 = V) (U : ℕ → Fin 256 → Fin 1024 → EReal)
    (hU : ∀ (s : Fin 17) (r : Fin 256) (j : Fin 1024), s.val < (k0_t3_loop i (BitVec.ofNat 32 w)).trips → arg13.view.read (Elt Ideal) X_arg13 (ix3 s r j) = U s.val r j)
    (k : Fin (k0_t3_loop i (BitVec.ofNat 32 w)).trips) (acc : BitVec 32) (G_arg15 : BufTy.Contents (Elt Ideal) arg15.view.ty) (G_arg16 : BufTy.Contents (Elt Ideal) arg16.view.ty) (d : Fin 128) (j : Fin 1024) :
    (arg16.view.read (Elt Ideal) (arg16.view.writes (Elt Ideal) G_arg16 ((trip_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 v1 (BitVec.ofNat 32 w) k0_hw1 v43 v57 v59 v73 v75 v76 v93 v95 X_arg9 X_arg13 k).2.2.1 acc G_arg15 G_arg16)) (ix2 d j) : EReal)
      = (arg16.view.read (Elt Ideal) G_arg16 (ix2 d j) : EReal) + ∑ r : Fin 256, (V (ix4 0 0 (rowF (blk i) k.val r) d) : EReal) * pF v93 v95 (U k.val r j) j := by
  have hk17 : k.val < 17 := by have := lt3 i w hw k; have := nTrips_le (w := w) (i2_lt i); omega
  have hx : ∀ (o : ℕ) (c : Fin 256), j.val = o + c.val → ∀ a, (((ix2 d j)) a).val = (![0, o] : Fin 2 → ℕ) a + (((ix2 d c)) a).val := fun o c hc a => by
    fin_cases a <;> simp [ix2, hc]
  unfold trip_k0_t3
  dsimp only
  rcases (show j.val < 256 ∨ (256 ≤ j.val ∧ j.val < 512) ∨ (512 ≤ j.val ∧ j.val < 768) ∨ 768 ≤ j.val by omega) with h | h | h | h
  · obtain ⟨c, hc⟩ : ∃ c : Fin 256, j.val = 0 + c.val := ⟨⟨j.val - 0, by have := j.isLt; omega⟩, by show j.val = 0 + (j.val - 0); omega⟩
    rw [View.read_writes_cons_unit_of_not_mem _ _ _ _ _ _ rfl 1 (Or.inl (by show j.val < _; simp; omega))]; rw [View.read_writes_cons_unit_of_not_mem _ _ _ _ _ _ rfl 1 (Or.inl (by show j.val < _; simp; omega))]; rw [View.read_writes_cons_unit_of_not_mem _ _ _ _ _ _ rfl 1 (Or.inl (by show j.val < _; simp; omega))]; rw [View.read_writes_cons_unit_of_mem _ _ _ _ _ _ ((ix2 d c)) rfl (hx 0 c hc)]
    pointwise [k0_pay39, k0_pay37, k0_pay36, trip_k0_t3.sl.r, trip_k0_t3.sl.r_1, trip_k0_t3.sl.r_2, trip_k0_t3.sl.r_3]
    simp only [show ∀ h', (⟨↑c, h'⟩ : Fin 1024) = j from fun _ => Fin.ext (by show c.val = j.val; omega)]
    exact congrArg₂ (· + ·) (readAt_acc _ _ 0 _ d c j hc) (Finset.sum_congr rfl fun r _ => congrArg₂ (· * ·) ((readAt_K i w hw _ _ _ _ k.val (off14_eq i w hw k) r d).trans (congrFun hV _)) (congrArg (fun x : EReal => Ideal.ofBits FTy.f32 (FloatOps.fptosi (F := Ideal) (φ := FTy.f32) 32 (Ideal.liftRound Ideal.roundHalfEven (x * (k0_pay74 v93 (ix2 0 j) : EReal) - (k0_pay73 v93 v95 (ix2 0 j) : EReal))))) ((readAt_slab _ _ _ _ ⟨k.val, hk17⟩ 0 (off15_eq i w hw k) r c j hc).trans (hU ⟨k.val, hk17⟩ r j k.isLt))))
  · obtain ⟨c, hc⟩ : ∃ c : Fin 256, j.val = 256 + c.val := ⟨⟨j.val - 256, by have := j.isLt; omega⟩, by show j.val = 256 + (j.val - 256); omega⟩
    rw [View.read_writes_cons_unit_of_not_mem _ _ _ _ _ _ rfl 1 (Or.inl (by show j.val < _; simp; omega))]; rw [View.read_writes_cons_unit_of_not_mem _ _ _ _ _ _ rfl 1 (Or.inl (by show j.val < _; simp; omega))]; rw [View.read_writes_cons_unit_of_mem _ _ _ _ _ _ ((ix2 d c)) rfl (hx 256 c hc)]
    pointwise [k0_pay43, k0_pay41, k0_pay40, k0_pay36, trip_k0_t3.sl.r, trip_k0_t3.sl.r_1, trip_k0_t3.sl.r_2, trip_k0_t3.sl.r_3]
    simp only [show ∀ h', (⟨256 + ↑c, h'⟩ : Fin 1024) = j from fun _ => Fin.ext (by show 256 + c.val = j.val; omega)]
    exact congrArg₂ (· + ·) (readAt_acc _ _ 256 _ d c j hc) (Finset.sum_congr rfl fun r _ => congrArg₂ (· * ·) ((readAt_K i w hw _ _ _ _ k.val (off14_eq i w hw k) r d).trans (congrFun hV _)) (congrArg (fun x : EReal => Ideal.ofBits FTy.f32 (FloatOps.fptosi (F := Ideal) (φ := FTy.f32) 32 (Ideal.liftRound Ideal.roundHalfEven (x * (k0_pay74 v93 (ix2 0 j) : EReal) - (k0_pay73 v93 v95 (ix2 0 j) : EReal))))) ((readAt_slab _ _ _ _ ⟨k.val, hk17⟩ 256 (off16_eq i w hw k) r c j hc).trans (hU ⟨k.val, hk17⟩ r j k.isLt))))
  · obtain ⟨c, hc⟩ : ∃ c : Fin 256, j.val = 512 + c.val := ⟨⟨j.val - 512, by have := j.isLt; omega⟩, by show j.val = 512 + (j.val - 512); omega⟩
    rw [View.read_writes_cons_unit_of_not_mem _ _ _ _ _ _ rfl 1 (Or.inl (by show j.val < _; simp; omega))]; rw [View.read_writes_cons_unit_of_mem _ _ _ _ _ _ ((ix2 d c)) rfl (hx 512 c hc)]
    pointwise [k0_pay76, k0_pay44, k0_pay36, trip_k0_t3.sl.r, trip_k0_t3.sl.r_1, trip_k0_t3.sl.r_2, trip_k0_t3.sl.r_3]
    simp only [show ∀ h', (⟨512 + ↑c, h'⟩ : Fin 1024) = j from fun _ => Fin.ext (by show 512 + c.val = j.val; omega)]
    exact congrArg₂ (· + ·) (readAt_acc _ _ 512 _ d c j hc) (Finset.sum_congr rfl fun r _ => congrArg₂ (· * ·) ((readAt_K i w hw _ _ _ _ k.val (off14_eq i w hw k) r d).trans (congrFun hV _)) (congrArg (fun x : EReal => Ideal.ofBits FTy.f32 (FloatOps.fptosi (F := Ideal) (φ := FTy.f32) 32 (Ideal.liftRound Ideal.roundHalfEven (x * (k0_pay74 v93 (ix2 0 j) : EReal) - (k0_pay73 v93 v95 (ix2 0 j) : EReal))))) ((readAt_slab _ _ _ _ ⟨k.val, hk17⟩ 512 (off17_eq i w hw k) r c j hc).trans (hU ⟨k.val, hk17⟩ r j k.isLt))))
  · obtain ⟨c, hc⟩ : ∃ c : Fin 256, j.val = 768 + c.val := ⟨⟨j.val - 768, by have := j.isLt; omega⟩, by show j.val = 768 + (j.val - 768); omega⟩
    rw [View.read_writes_cons_unit_of_mem _ _ _ _ _ _ ((ix2 d c)) rfl (hx 768 c hc)]
    pointwise [k0_pay79, k0_pay77, k0_pay36, trip_k0_t3.sl.r, trip_k0_t3.sl.r_1, trip_k0_t3.sl.r_2, trip_k0_t3.sl.r_3]
    simp only [show ∀ h', (⟨768 + ↑c, h'⟩ : Fin 1024) = j from fun _ => Fin.ext (by show 768 + c.val = j.val; omega)]
    exact congrArg₂ (· + ·) (readAt_acc _ _ 768 _ d c j hc) (Finset.sum_congr rfl fun r _ => congrArg₂ (· * ·) ((readAt_K i w hw _ _ _ _ k.val (off14_eq i w hw k) r d).trans (congrFun hV _)) (congrArg (fun x : EReal => Ideal.ofBits FTy.f32 (FloatOps.fptosi (F := Ideal) (φ := FTy.f32) 32 (Ideal.liftRound Ideal.roundHalfEven (x * (k0_pay74 v93 (ix2 0 j) : EReal) - (k0_pay73 v93 v95 (ix2 0 j) : EReal))))) ((readAt_slab _ _ _ _ ⟨k.val, hk17⟩ 768 (off18_eq i w hw k) r c j hc).trans (hU ⟨k.val, hk17⟩ r j k.isLt))))

/-- The two sums after any number of trips. -/
theorem t3_state (𝒱 : Variants) (c : Dev nD) (bd : Option 𝒱.V) (i : grid0.Coords) (arg3 : Memref sig .tc .smem S4x4096 .i32) (harg3 : arg3.IsWhole) (arg4 : Memref sig .tc .vmem S1x128x8x128 .fp8e4m3) (harg4 : arg4.IsWhole) (arg5 : Memref sig .tc .vmem S1x1x1x1x1024 .f32) (harg5 : arg5.IsWhole) (arg6 : Memref sig .tc .vmem S1x1x1x1024 .i32) (harg6 : arg6.IsWhole) (arg7 : Memref sig .tc .vmem S1x1x4096x128 .fp8e4m3) (harg7 : arg7.IsWhole) (arg8 : Memref sig .tc .vmem S1x1x4096x1 .f32) (harg8 : arg8.IsWhole) (arg9 : Memref sig .tc .vmem S1x1x4096x128 .fp8e4m3) (harg9 : arg9.IsWhole) (arg10 : Memref sig .tc .smem S4x2 .f32) (harg10 : arg10.IsWhole) (arg11 : Memref sig .tc .vmem S1x128x8x128 .bf16) (harg11 : arg11.IsWhole) (arg12 : Memref sig .tc .vmem S1x1x1x1x1024 .f32) (harg12 : arg12.IsWhole) (arg13 : Memref sig .tc .vmem S17x256x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S128x1024 .f32) (harg16 : arg16.IsWhole) (v1 : BitVec 32) (w : ℕ) (hw : w ≤ (i 2).val * 128) (k0_hw1 : k0_chk1 i (BitVec.ofNat 32 w)) (v43 : BitVec 32) (v57 : BitVec 32) (v59 : IVec S1x1024 32) (v73 : IVec S1x1024 1) (v75 : IVec S1x1024 32) (v76 : IVec S1x1024 32) (v93 : Vec Ideal S1x1x1x1x1024 .f32) (v95 : Vec Ideal S1x1024 .f32) (X_arg9 : BufTy.Contents (Elt Ideal) arg9.view.ty) (X_arg13 : BufTy.Contents (Elt Ideal) arg13.view.ty) (V : Vec Ideal S1x1x4096x128 .fp8e4m3) (hV : arg9.view.read (Elt Ideal) X_arg9 = V) (U : ℕ → Fin 256 → Fin 1024 → EReal)
    (hU : ∀ (s : Fin 17) (r : Fin 256) (j : Fin 1024), s.val < (k0_t3_loop i (BitVec.ofNat 32 w)).trips → arg13.view.read (Elt Ideal) X_arg13 (ix3 s r j) = U s.val r j)
    (G_arg15 : BufTy.Contents (Elt Ideal) arg15.view.ty) (G_arg16 : BufTy.Contents (Elt Ideal) arg16.view.ty) (init : BitVec 32) (n : ℕ) (hn : n ≤ (k0_t3_loop i (BitVec.ofNat 32 w)).trips) :
    (∀ j : Fin 1024, (arg15.view.read (Elt Ideal) (arg15.view.writes (Elt Ideal) G_arg15 (st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 v1 (BitVec.ofNat 32 w) k0_hw1 v43 v57 v59 v73 v75 v76 v93 v95 X_arg9 X_arg13 G_arg15 G_arg16 init n).2.1) (ix2 0 j) : EReal)
      = (arg15.view.read (Elt Ideal) G_arg15 (ix2 0 j) : EReal) + ∑ s ∈ Finset.range n, ∑ r : Fin 256, pF v93 v95 (U s r j) j)
    ∧ ∀ (d : Fin 128) (j : Fin 1024), (arg16.view.read (Elt Ideal) (arg16.view.writes (Elt Ideal) G_arg16 (st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 v1 (BitVec.ofNat 32 w) k0_hw1 v43 v57 v59 v73 v75 v76 v93 v95 X_arg9 X_arg13 G_arg15 G_arg16 init n).2.2) (ix2 d j) : EReal)
      = (arg16.view.read (Elt Ideal) G_arg16 (ix2 d j) : EReal)
        + ∑ s ∈ Finset.range n, ∑ r : Fin 256, (V (ix4 0 0 (rowF (blk i) s r) d) : EReal) * pF v93 v95 (U s r j) j := by
  induction n with
  | zero =>
    refine ⟨fun j => ?_, fun d j => ?_⟩
    · show (arg15.view.read (Elt Ideal) G_arg15 (ix2 0 j) : EReal) = _
      rw [Finset.range_zero, Finset.sum_empty, add_zero]
    · show (arg16.view.read (Elt Ideal) G_arg16 (ix2 d j) : EReal) = _
      rw [Finset.range_zero, Finset.sum_empty, add_zero]
  | succ n ih =>
    obtain ⟨ih1, ih2⟩ := ih (by omega)
    have e := st_k0_t3_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 v1 (BitVec.ofNat 32 w) k0_hw1 v43 v57 v59 v73 v75 v76 v93 v95 X_arg9 X_arg13 G_arg15 G_arg16 init ⟨n, by omega⟩
    dsimp only at e
    refine ⟨fun j => ?_, fun d j => ?_⟩
    · rw [e]; dsimp only; rw [View.writes_append]
      refine (t3_l 𝒱 c bd i arg3 harg3 arg4 harg4 arg5 harg5 arg6 harg6 arg7 harg7 arg8 harg8 arg9 harg9 arg10 harg10 arg11 harg11 arg12 harg12 arg13 harg13 arg14 harg14 arg15 harg15 arg16 harg16 v1 w hw k0_hw1 v43 v57 v59 v73 v75 v76 v93 v95 X_arg9 X_arg13 V hV U hU ⟨n, by omega⟩ _ _ _ j).trans ?_
      rw [ih1 j, Finset.sum_range_succ, add_assoc]
    · rw [e]; dsimp only; rw [View.writes_append]
      refine (t3_acc 𝒱 c bd i arg3 harg3 arg4 harg4 arg5 harg5 arg6 harg6 arg7 harg7 arg8 harg8 arg9 harg9 arg10 harg10 arg11 harg11 arg12 harg12 arg13 harg13 arg14 harg14 arg15 harg15 arg16 harg16 v1 w hw k0_hw1 v43 v57 v59 v73 v75 v76 v93 v95 X_arg9 X_arg13 V hV U hU ⟨n, by omega⟩ _ _ _ d j).trans ?_
      rw [ih2 d j, Finset.sum_range_succ, add_assoc]

end Cert.KernelIdeal.Gen
-- ==== Proof.I.BodyValue.lean ====
module
public import proofs.«01_k».proof.Proof.I.Run
public import proofs.«01_k».proof.Proof.I.Probs
public import Idealize.ShloMosaic.Lib.VecWindow

/-!
What the body's run leaves in the running maximum, in the sum of weights and in the weighted sum of value rows, after its four
loops: the second and the fourth loop make no trip.
-/

@[expose] public section

set_option maxRecDepth 16384

noncomputable section

namespace Cert.KernelIdeal.Gen

open Idealize.ShloMosaic Idealize.ShloMosaic.TcCoe Idealize.ShloMosaic.Tactic Idealize.SL Idealize.SL.Sem

/-- The score loop's state after all its trips, the table's word given as an equation. -/
theorem t1_all (𝒱 : Variants) (c : Dev nD) (bd : Option 𝒱.V) (i : grid0.Coords) (arg3 : Memref sig .tc .smem S4x4096 .i32) (harg3 : arg3.IsWhole) (arg4 : Memref sig .tc .vmem S1x128x8x128 .fp8e4m3) (harg4 : arg4.IsWhole) (arg5 : Memref sig .tc .vmem S1x1x1x1x1024 .f32) (harg5 : arg5.IsWhole) (arg6 : Memref sig .tc .vmem S1x1x1x1024 .i32) (harg6 : arg6.IsWhole) (arg7 : Memref sig .tc .vmem S1x1x4096x128 .fp8e4m3) (harg7 : arg7.IsWhole) (arg8 : Memref sig .tc .vmem S1x1x4096x1 .f32) (harg8 : arg8.IsWhole) (arg9 : Memref sig .tc .vmem S1x1x4096x128 .fp8e4m3) (harg9 : arg9.IsWhole) (arg10 : Memref sig .tc .smem S4x2 .f32) (harg10 : arg10.IsWhole) (arg11 : Memref sig .tc .vmem S1x128x8x128 .bf16) (harg11 : arg11.IsWhole) (arg12 : Memref sig .tc .vmem S1x1x1x1x1024 .f32) (harg12 : arg12.IsWhole) (arg13 : Memref sig .tc .vmem S17x256x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S128x1024 .f32) (harg16 : arg16.IsWhole) (v1 : BitVec 32) (v5 : Elt Ideal .i32) (k0_hw1 : k0_chk1 i v5) (v43 : BitVec 32) (v57 : BitVec 32) (v59 : IVec S1x1024 32) (v73 : IVec S1x1024 1) (v75 : IVec S1x1024 32) (v76 : IVec S1x1024 32) (v84 : Vec Ideal S1x1x1x1024 .i32) (X_arg4 : BufTy.Contents (Elt Ideal) arg4.view.ty) (X_arg7 : BufTy.Contents (Elt Ideal) arg7.view.ty) (X_arg8 : BufTy.Contents (Elt Ideal) arg8.view.ty) (G_arg13 : BufTy.Contents (Elt Ideal) arg13.view.ty) (G_arg14 : BufTy.Contents (Elt Ideal) arg14.view.ty) (init : BitVec 32) (w : ℕ) (hw : w ≤ (i 2).val * 128) (hv5 : v5 = BitVec.ofNat 32 w) (hv1 : v1 = Scalar.muli (Scalar.addi (BitVec.ofNat 32 (i 2).val) 1#32) 128#32) (hq : ∀ j : Fin 1024, k0_pay63 v57 v59 v73 v75 v76 (ix2 0 j) = BitVec.ofNat 32 ((i 2).val * 128 + j.val / 8)) (ds : Fin 1024 → ℕ) (hds : ∀ j, ds j < 4096) (hd : ∀ j : Fin 1024, v84 (ix4 0 0 0 j) = BitVec.ofNat 32 (ds j)) (Q : Vec Ideal S1x128x8x128 .fp8e4m3) (hQ : arg4.view.read (Elt Ideal) X_arg4 = Q) (K : Vec Ideal S1x1x4096x128 .fp8e4m3) (hK : arg7.view.read (Elt Ideal) X_arg7 = K) (KS : Vec Ideal S1x1x4096x1 .f32) (hKS : arg8.view.read (Elt Ideal) X_arg8 = KS) :
    (∀ (s : Fin 17) (r : Fin 256) (j : Fin 1024), s.val < nTrips (i 2).val w →
      arg13.view.read (Elt Ideal) (arg13.view.writes (Elt Ideal) G_arg13 (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 v1 v5 k0_hw1 v43 v57 v59 v73 v75 v76 v84 X_arg4 X_arg7 X_arg8 G_arg13 G_arg14 init (k0_t1_loop i v5).trips).2.1) (ix3 s r j) = uF Q K KS (blk i) ds s.val r j)
    ∧ ∀ j : Fin 1024, (arg14.view.read (Elt Ideal) (arg14.view.writes (Elt Ideal) G_arg14 (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 v1 v5 k0_hw1 v43 v57 v59 v73 v75 v76 v84 X_arg4 X_arg7 X_arg8 G_arg13 G_arg14 init (k0_t1_loop i v5).trips).2.2) (ix2 0 j) : EReal)
      = max (arg14.view.read (Elt Ideal) G_arg14 (ix2 0 j) : EReal) (mF Q K KS (blk i) ds (nTrips (i 2).val w) j) := by
  subst hv5
  have e := t1_trips i w hw
  have h := t1_state 𝒱 c bd i arg3 harg3 arg4 harg4 arg5 harg5 arg6 harg6 arg7 harg7 arg8 harg8 arg9 harg9 arg10 harg10 arg11 harg11 arg12 harg12 arg13 harg13 arg14 harg14 arg15 harg15 arg16 harg16 v1 w hw k0_hw1 v43 v57 v59 v73 v75 v76 v84 X_arg4 X_arg7 X_arg8 hv1 hq ds hds hd Q hQ K hK KS hKS G_arg13 G_arg14 init (k0_t1_loop i (BitVec.ofNat 32 w)).trips le_rfl
  refine ⟨fun s r j hs => h.1 s r j (by rw [e]; exact hs), fun j => (h.2 j).trans ?_⟩
  rw [e]

/-- The probability loop's state after all its trips, the table's word given as an equation. -/
theorem t3_all (𝒱 : Variants) (c : Dev nD) (bd : Option 𝒱.V) (i : grid0.Coords) (arg3 : Memref sig .tc .smem S4x4096 .i32) (harg3 : arg3.IsWhole) (arg4 : Memref sig .tc .vmem S1x128x8x128 .fp8e4m3) (harg4 : arg4.IsWhole) (arg5 : Memref sig .tc .vmem S1x1x1x1x1024 .f32) (harg5 : arg5.IsWhole) (arg6 : Memref sig .tc .vmem S1x1x1x1024 .i32) (harg6 : arg6.IsWhole) (arg7 : Memref sig .tc .vmem S1x1x4096x128 .fp8e4m3) (harg7 : arg7.IsWhole) (arg8 : Memref sig .tc .vmem S1x1x4096x1 .f32) (harg8 : arg8.IsWhole) (arg9 : Memref sig .tc .vmem S1x1x4096x128 .fp8e4m3) (harg9 : arg9.IsWhole) (arg10 : Memref sig .tc .smem S4x2 .f32) (harg10 : arg10.IsWhole) (arg11 : Memref sig .tc .vmem S1x128x8x128 .bf16) (harg11 : arg11.IsWhole) (arg12 : Memref sig .tc .vmem S1x1x1x1x1024 .f32) (harg12 : arg12.IsWhole) (arg13 : Memref sig .tc .vmem S17x256x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S128x1024 .f32) (harg16 : arg16.IsWhole) (v1 : BitVec 32) (v5 : Elt Ideal .i32) (k0_hw1 : k0_chk1 i v5) (v43 : BitVec 32) (v57 : BitVec 32) (v59 : IVec S1x1024 32) (v73 : IVec S1x1024 1) (v75 : IVec S1x1024 32) (v76 : IVec S1x1024 32) (v93 : Vec Ideal S1x1x1x1x1024 .f32) (v95 : Vec Ideal S1x1024 .f32) (X_arg9 : BufTy.Contents (Elt Ideal) arg9.view.ty) (X_arg13 : BufTy.Contents (Elt Ideal) arg13.view.ty) (G_arg15 : BufTy.Contents (Elt Ideal) arg15.view.ty) (G_arg16 : BufTy.Contents (Elt Ideal) arg16.view.ty) (init : BitVec 32) (w : ℕ) (hw : w ≤ (i 2).val * 128) (hv5 : v5 = BitVec.ofNat 32 w) (V : Vec Ideal S1x1x4096x128 .fp8e4m3) (hV : arg9.view.read (Elt Ideal) X_arg9 = V) (U : ℕ → Fin 256 → Fin 1024 → EReal)
    (hU : ∀ (s : Fin 17) (r : Fin 256) (j : Fin 1024), s.val < nTrips (i 2).val w → arg13.view.read (Elt Ideal) X_arg13 (ix3 s r j) = U s.val r j) :
    (∀ j : Fin 1024, (arg15.view.read (Elt Ideal) (arg15.view.writes (Elt Ideal) G_arg15 (st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 v1 v5 k0_hw1 v43 v57 v59 v73 v75 v76 v93 v95 X_arg9 X_arg13 G_arg15 G_arg16 init (k0_t3_loop i v5).trips).2.1) (ix2 0 j) : EReal)
      = (arg15.view.read (Elt Ideal) G_arg15 (ix2 0 j) : EReal) + ∑ s ∈ Finset.range (nTrips (i 2).val w), ∑ r : Fin 256, pF v93 v95 (U s r j) j)
    ∧ ∀ (d : Fin 128) (j : Fin 1024), (arg16.view.read (Elt Ideal) (arg16.view.writes (Elt Ideal) G_arg16 (st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 v1 v5 k0_hw1 v43 v57 v59 v73 v75 v76 v93 v95 X_arg9 X_arg13 G_arg15 G_arg16 init (k0_t3_loop i v5).trips).2.2) (ix2 d j) : EReal)
      = (arg16.view.read (Elt Ideal) G_arg16 (ix2 d j) : EReal)
        + ∑ s ∈ Finset.range (nTrips (i 2).val w), ∑ r : Fin 256, (V (ix4 0 0 (rowF (blk i) s r) d) : EReal) * pF v93 v95 (U s r j) j := by
  subst hv5
  have e := t3_trips i w hw
  have h := t3_state 𝒱 c bd i arg3 harg3 arg4 harg4 arg5 harg5 arg6 harg6 arg7 harg7 arg8 harg8 arg9 harg9 arg10 harg10 arg11 harg11 arg12 harg12 arg13 harg13 arg14 harg14 arg15 harg15 arg16 harg16 v1 w hw k0_hw1 v43 v57 v59 v73 v75 v76 v93 v95 X_arg9 X_arg13 V hV U (fun s r j hs => hU s r j (by rw [← e]; exact hs)) G_arg15 G_arg16 init (k0_t3_loop i (BitVec.ofNat 32 w)).trips le_rfl
  refine ⟨fun j => (h.1 j).trans ?_, fun d j => (h.2 d j).trans ?_⟩
  · rw [e]
  · rw [e]

theorem t2_none (𝒱 : Variants) (c : Dev nD) (bd : Option 𝒱.V) (i : grid0.Coords) (arg3 : Memref sig .tc .smem S4x4096 .i32) (harg3 : arg3.IsWhole) (arg4 : Memref sig .tc .vmem S1x128x8x128 .fp8e4m3) (harg4 : arg4.IsWhole) (arg5 : Memref sig .tc .vmem S1x1x1x1x1024 .f32) (harg5 : arg5.IsWhole) (arg6 : Memref sig .tc .vmem S1x1x1x1024 .i32) (harg6 : arg6.IsWhole) (arg7 : Memref sig .tc .vmem S1x1x4096x128 .fp8e4m3) (harg7 : arg7.IsWhole) (arg8 : Memref sig .tc .vmem S1x1x4096x1 .f32) (harg8 : arg8.IsWhole) (arg9 : Memref sig .tc .vmem S1x1x4096x128 .fp8e4m3) (harg9 : arg9.IsWhole) (arg10 : Memref sig .tc .smem S4x2 .f32) (harg10 : arg10.IsWhole) (arg11 : Memref sig .tc .vmem S1x128x8x128 .bf16) (harg11 : arg11.IsWhole) (arg12 : Memref sig .tc .vmem S1x1x1x1x1024 .f32) (harg12 : arg12.IsWhole) (arg13 : Memref sig .tc .vmem S17x256x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S128x1024 .f32) (harg16 : arg16.IsWhole) (v1 : BitVec 32) (v5 : Elt Ideal .i32) (k0_hw1 : k0_chk1 i v5) (v43 : BitVec 32) (v57 : BitVec 32) (v59 : IVec S1x1024 32) (v73 : IVec S1x1024 1) (v75 : IVec S1x1024 32) (v76 : IVec S1x1024 32) (v84 : Vec Ideal S1x1x1x1024 .i32) (v90 : BitVec 32) (X_arg4 : BufTy.Contents (Elt Ideal) arg4.view.ty) (X_arg7 : BufTy.Contents (Elt Ideal) arg7.view.ty) (X_arg8 : BufTy.Contents (Elt Ideal) arg8.view.ty) (G_arg13 : BufTy.Contents (Elt Ideal) arg13.view.ty) (G_arg14 : BufTy.Contents (Elt Ideal) arg14.view.ty) (init : BitVec 32) (w : ℕ) (hw : w ≤ (i 2).val * 128) (hv5 : v5 = BitVec.ofNat 32 w) :
    st_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 v1 v5 k0_hw1 v43 v57 v59 v73 v75 v76 v84 v90 X_arg4 X_arg7 X_arg8 G_arg13 G_arg14 init (k0_t2_loop i v5).trips = (init, [], []) := by
  subst hv5
  rw [t2_trips i w hw]; rfl

theorem t4_none (𝒱 : Variants) (c : Dev nD) (bd : Option 𝒱.V) (i : grid0.Coords) (arg3 : Memref sig .tc .smem S4x4096 .i32) (harg3 : arg3.IsWhole) (arg4 : Memref sig .tc .vmem S1x128x8x128 .fp8e4m3) (harg4 : arg4.IsWhole) (arg5 : Memref sig .tc .vmem S1x1x1x1x1024 .f32) (harg5 : arg5.IsWhole) (arg6 : Memref sig .tc .vmem S1x1x1x1024 .i32) (harg6 : arg6.IsWhole) (arg7 : Memref sig .tc .vmem S1x1x4096x128 .fp8e4m3) (harg7 : arg7.IsWhole) (arg8 : Memref sig .tc .vmem S1x1x4096x1 .f32) (harg8 : arg8.IsWhole) (arg9 : Memref sig .tc .vmem S1x1x4096x128 .fp8e4m3) (harg9 : arg9.IsWhole) (arg10 : Memref sig .tc .smem S4x2 .f32) (harg10 : arg10.IsWhole) (arg11 : Memref sig .tc .vmem S1x128x8x128 .bf16) (harg11 : arg11.IsWhole) (arg12 : Memref sig .tc .vmem S1x1x1x1x1024 .f32) (harg12 : arg12.IsWhole) (arg13 : Memref sig .tc .vmem S17x256x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S128x1024 .f32) (harg16 : arg16.IsWhole) (v1 : BitVec 32) (v5 : Elt Ideal .i32) (k0_hw1 : k0_chk1 i v5) (v103 : FVec Ideal S1x1024 .f32) (v105 : FVec Ideal S1x1024 .f32) (v110 : BitVec 32) (X_arg9 : BufTy.Contents (Elt Ideal) arg9.view.ty) (X_arg13 : BufTy.Contents (Elt Ideal) arg13.view.ty) (G_arg15 : BufTy.Contents (Elt Ideal) arg15.view.ty) (G_arg16 : BufTy.Contents (Elt Ideal) arg16.view.ty) (init : BitVec 32) (w : ℕ) (hw : w ≤ (i 2).val * 128) (hv5 : v5 = BitVec.ofNat 32 w) :
    st_k0_t4 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 v1 v5 k0_hw1 v103 v105 v110 X_arg9 X_arg13 G_arg15 G_arg16 init (k0_t4_loop i v5).trips = (init, [], []) := by
  subst hv5
  rw [t4_trips i w hw]; rfl

/-- The query rows a grid point's columns stand for. -/
theorem r_1_apply (i : grid0.Coords) (j : Fin 1024) :
    k0_pay63 (kernelRun0.sl.v2 i) k0_pay59 k0_pay60 k0_pay61 k0_pay62 (ix2 0 j) = BitVec.ofNat 32 ((i 2).val * 128 + j.val / 8) := by
  have hp : ∀ v : BitVec 32, k0_pay63 v k0_pay59 k0_pay60 k0_pay61 k0_pay62 (ix2 0 j)
      = v + (Scalar.select
        (IntOp.andi (k0_pay60 (ix2 0 j)) (IntOp.cmpi CmpIPredicate.ne (k0_pay61 (ix2 0 j)) (k0_pay62 (ix2 0 j))))
        (IntOp.subi (k0_pay59 (ix2 0 j)) 1#32) (k0_pay59 (ix2 0 j))) := by
    intro v
    unfold k0_pay63
    pointwise
    rfl
  have hz : ∀ j : Fin 1024, k0_pay63 0#32 k0_pay59 k0_pay60 k0_pay61 k0_pay62 (ix2 0 j) = BitVec.ofNat 32 (j.val / 8) := by
    decide +kernel
  have hz' := (hp 0#32).symm.trans (hz j)
  rw [BitVec.zero_add] at hz'
  rw [hp, hz']
  show IntOp.muli (BitVec.ofNat 32 (i 2).val) 128#32 + _ = _
  have hi := i2_lt i
  have hj := j.isLt
  apply BitVec.eq_of_toNat_eq
  simp only [IntOp.muli, BitVec.toNat_add, BitVec.toNat_mul, BitVec.toNat_ofNat]
  omega

theorem zero_word : Ideal.ofBits FTy.f32 0#32 = 0 := by
  simp [Ideal.ofBits, Ideal.ieee]

theorem readAt_rowF {sig' : RefSig} {κ : Kind} {sp : Space} (v : View sig' κ sp S1x1024 .f32) (X : v.ty.Contents (Elt Ideal)) (inb) (j : Fin 1024) :
    View.readAt (Elt Ideal) v (Rect.unit (s := S1x1024) ![0, 0] S1x1024.size inb).toLoadRect X (ix2 0 j) = v.read (Elt Ideal) X (ix2 0 j) := by
  rw [View.readAt_apply]
  refine congrArg _ (funext fun a => Fin.ext ?_)
  show (![0, 0] : Fin 2 → ℕ) a + 1 * ((ix2 (0 : Fin 1) j) a).val = _
  fin_cases a <;> simp [ix2]

theorem readAt_ds {sig' : RefSig} {κ : Kind} {sp : Space} (v : View sig' κ sp S1x1x1x1024 .i32) (X : v.ty.Contents (Elt Ideal)) (inb) (j : Fin 1024) :
    View.readAt (Elt Ideal) v (Rect.unit (s := S1x1x1x1024) ![0, 0, 0, 0] S1x1x1x1024.size inb).toLoadRect X (ix4 0 0 0 j) = v.read (Elt Ideal) X (ix4 0 0 0 j) := by
  rw [View.readAt_apply]
  refine congrArg _ (funext fun a => Fin.ext ?_)
  show (![0, 0, 0, 0] : Fin 4 → ℕ) a + 1 * ((ix4 (0 : Fin 1) (0 : Fin 1) (0 : Fin 1) j) a).val = _
  fin_cases a <;> simp [ix4]

/-- Reading past a loop that made no trip. -/
theorem read_skip {sig' : RefSig} {κ : Kind} {sp : Space} {s : Shape} {e : EltTy} (v : View sig' κ sp s e) (G : v.ty.Contents (Elt Ideal)) (L2 L1 H : List (View.Piece (Elt Ideal) s e)) (h : L2 = []) :
    v.read (Elt Ideal) (v.writes (Elt Ideal) G (L2 ++ (L1 ++ H))) = v.read (Elt Ideal) (v.writes (Elt Ideal) (v.writes (Elt Ideal) G H) L1) := by
  subst h
  rw [List.nil_append, View.writes_append]

theorem read_skip1 {sig' : RefSig} {κ : Kind} {sp : Space} {s : Shape} {e : EltTy} (v : View sig' κ sp s e) (G : v.ty.Contents (Elt Ideal)) (L2 L1 : List (View.Piece (Elt Ideal) s e)) (h : L2 = []) :
    v.read (Elt Ideal) (v.writes (Elt Ideal) G (L2 ++ L1)) = v.read (Elt Ideal) (v.writes (Elt Ideal) G L1) := by
  subst h
  rw [List.nil_append]

theorem readAt_accF {sig' : RefSig} {κ : Kind} {sp : Space} (v : View sig' κ sp S128x1024 .f32) (X : v.ty.Contents (Elt Ideal)) (inb) (d : Fin 128) (j : Fin 1024) :
    View.readAt (Elt Ideal) v (Rect.unit (s := S128x1024) ![0, 0] S128x1024.size inb).toLoadRect X (ix2 d j) = v.read (Elt Ideal) X (ix2 d j) := by
  rw [View.readAt_apply]
  refine congrArg _ (funext fun a => Fin.ext ?_)
  show (![0, 0] : Fin 2 → ℕ) a + 1 * ((ix2 d j) a).val = _
  fin_cases a <;> simp [ix2]

variable (c : Dev nD) (i : grid0.Coords) (arg4 : Memref sig .tc .vmem S1x128x8x128 .fp8e4m3) (harg4 : arg4.IsWhole) (arg5 : Memref sig .tc .vmem S1x1x1x1x1024 .f32) (harg5 : arg5.IsWhole) (arg6 : Memref sig .tc .vmem S1x1x1x1024 .i32) (harg6 : arg6.IsWhole) (arg7 : Memref sig .tc .vmem S1x1x4096x128 .fp8e4m3) (harg7 : arg7.IsWhole) (arg8 : Memref sig .tc .vmem S1x1x4096x1 .f32) (harg8 : arg8.IsWhole) (arg9 : Memref sig .tc .vmem S1x1x4096x128 .fp8e4m3) (harg9 : arg9.IsWhole) (arg10 : Memref sig .tc .smem S4x2 .f32) (harg10 : arg10.IsWhole) (arg11 : Memref sig .tc .vmem S1x128x8x128 .bf16) (harg11 : arg11.IsWhole) (arg12 : Memref sig .tc .vmem S1x1x1x1x1024 .f32) (harg12 : arg12.IsWhole) (arg13 : Memref sig .tc .vmem S17x256x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S128x1024 .f32) (harg16 : arg16.IsWhole) (x0 : Vec Ideal S1x128x8x128 .fp8e4m3) (x1 : Vec Ideal S1x1x1x1x1024 .f32) (x2 : Vec Ideal S1x1x1x1024 .i32) (x3 : Vec Ideal S1x1x4096x128 .fp8e4m3) (x4 : Vec Ideal S1x1x4096x1 .f32) (x5 : Vec Ideal S1x1x4096x128 .fp8e4m3) (x6 : Vec Ideal S4x2 .f32) (xt0 : TbBuf0 (F := Ideal) c tbM0_0) (hw : k0_chk1 i (word0 c i xt0)) (f13 : BufTy.Contents (Elt Ideal) arg13.view.ty)

/-- The running maximum after the score loops. -/
theorem v95_apply (w : ℕ) (hwl : w ≤ (i 2).val * 128) (hv5 : word0 c i xt0 = BitVec.ofNat 32 w) (ds : Fin 1024 → ℕ) (hds : ∀ j, ds j < 4096)
    (hd : ∀ j : Fin 1024, x2 (ix4 0 0 0 j) = BitVec.ofNat 32 (ds j)) (j : Fin 1024) :
    kernelRun0.sl.v95 (F := Ideal) c i arg4 harg4 arg5 harg5 arg6 harg6 arg7 harg7 arg8 harg8 arg9 harg9 arg10 harg10 arg11 harg11 arg12 harg12 arg13 harg13 arg14 harg14 arg15 harg15 arg16 harg16 x0 x2 x3 x4 xt0 hw f13 (ix2 0 j) = mF x0 x3 x4 (blk i) ds (nTrips (i 2).val w) j := by
  unfold kernelRun0.sl.v95 View.readCov
  refine (readAt_rowF _ _ _ j).trans ?_
  refine (congrFun (read_skip _ _ _ _ _ (congrArg (fun p => p.2.2) (t2_none (w := w) (hw := hwl) (hv5 := hv5) ..))) _).trans ?_
  refine ((t1_all (w := w) (hw := hwl) (hv5 := hv5) (hv1 := rfl) (hq := r_1_apply i) (ds := ds) (hds := hds) (hd := fun j' => (readAt_ds _ _ _ j').trans ?_) (Q := x0) (hQ := harg4.read_unread _) (K := x3) (hK := harg7.read_unread _) (KS := x4) (hKS := harg8.read_unread _) ..).2 j).trans ?_
  · rw [harg6.read_unread]; exact hd j'
  · have e : (arg14.view.read (Elt Ideal) (arg14.view.writes (Elt Ideal) arg14.view.junk (kernelRun0.sl.H14_1 (F := Ideal))) (ix2 0 j) : EReal) = ⊥ := by
      refine (congrFun (View.read_writes_full _ _ _ _ _) _).trans ?_
      show Ideal.ofBits FTy.f32 4286578688#32 = ⊥
      exact neg_inf_word
    rw [e, max_bot_left]

/-- The sum of weights after the probability loops. -/
theorem v113_apply (w : ℕ) (hwl : w ≤ (i 2).val * 128) (hv5 : word0 c i xt0 = BitVec.ofNat 32 w) (ds : Fin 1024 → ℕ) (hds : ∀ j, ds j < 4096)
    (hd : ∀ j : Fin 1024, x2 (ix4 0 0 0 j) = BitVec.ofNat 32 (ds j)) (j : Fin 1024) :
    kernelRun0.sl.v113 (F := Ideal) c i arg4 harg4 arg5 harg5 arg6 harg6 arg7 harg7 arg8 harg8 arg9 harg9 arg10 harg10 arg11 harg11 arg12 harg12 arg13 harg13 arg14 harg14 arg15 harg15 arg16 harg16 x0 x1 x2 x3 x4 x5 xt0 hw f13 (ix2 0 j)
      = ∑ s ∈ Finset.range (nTrips (i 2).val w), ∑ r : Fin 256, pF x1 (kernelRun0.sl.v95 (F := Ideal) c i arg4 harg4 arg5 harg5 arg6 harg6 arg7 harg7 arg8 harg8 arg9 harg9 arg10 harg10 arg11 harg11 arg12 harg12 arg13 harg13 arg14 harg14 arg15 harg15 arg16 harg16 x0 x2 x3 x4 xt0 hw f13) (uF x0 x3 x4 (blk i) ds s r j) j := by
  unfold kernelRun0.sl.v113 View.readCov
  refine (readAt_rowF _ _ _ j).trans ?_
  refine (congrFun (read_skip _ _ _ _ _ (congrArg (fun p => p.2.1) (t4_none (w := w) (hw := hwl) (hv5 := hv5) ..))) _).trans ?_
  refine ((t3_all (w := w) (hw := hwl) (hv5 := hv5) (V := x5) (hV := harg9.read_unread _) (U := uF x0 x3 x4 (blk i) ds) (hU := fun s r j' hs => ?_) ..).1 j).trans ?_
  · refine (congrFun (read_skip1 _ _ _ _ (congrArg (fun p => p.2.1) (t2_none (w := w) (hw := hwl) (hv5 := hv5) ..))) _).trans ?_
    refine (t1_all (w := w) (hw := hwl) (hv5 := hv5) (hv1 := rfl) (hq := r_1_apply i) (ds := ds) (hds := hds) (hd := fun j' => (readAt_ds _ _ _ j').trans ?_) (Q := x0) (hQ := harg4.read_unread _) (K := x3) (hK := harg7.read_unread _) (KS := x4) (hKS := harg8.read_unread _) ..).1 s r j' hs
    rw [harg6.read_unread]; exact hd j'
  · have e : (arg15.view.read (Elt Ideal) (arg15.view.writes (Elt Ideal) arg15.view.junk (kernelRun0.sl.H15_1 (F := Ideal))) (ix2 0 j) : EReal) = 0 := by
      refine (congrFun (View.read_writes_full _ _ _ _ _) _).trans ?_
      show Ideal.ofBits FTy.f32 0#32 = 0
      exact zero_word
    have e' : View.readAt (Elt Ideal) arg5.view (Rect.unit ![0, 0, 0, 0, 0] S1x1x1x1x1024.size inb_S1x1x1x1x1024_S1x1x1x1x1024_0_0_0_0_0).toLoadRect (harg5.unread x1) = x1 := by
      rw [View.readAt_full, harg5.read_unread]
    rw [e, zero_add, e']

/-- The weighted sum of value rows after the probability loops. -/
theorem v119_apply (w : ℕ) (hwl : w ≤ (i 2).val * 128) (hv5 : word0 c i xt0 = BitVec.ofNat 32 w) (ds : Fin 1024 → ℕ) (hds : ∀ j, ds j < 4096)
    (hd : ∀ j : Fin 1024, x2 (ix4 0 0 0 j) = BitVec.ofNat 32 (ds j)) (d : Fin 128) (j : Fin 1024) :
    kernelRun0.sl.v119 (F := Ideal) c i arg4 harg4 arg5 harg5 arg6 harg6 arg7 harg7 arg8 harg8 arg9 harg9 arg10 harg10 arg11 harg11 arg12 harg12 arg13 harg13 arg14 harg14 arg15 harg15 arg16 harg16 x0 x1 x2 x3 x4 x5 xt0 hw f13 (ix2 d j)
      = ∑ s ∈ Finset.range (nTrips (i 2).val w), ∑ r : Fin 256, (x5 (ix4 0 0 (rowF (blk i) s r) d) : EReal) * pF x1 (kernelRun0.sl.v95 (F := Ideal) c i arg4 harg4 arg5 harg5 arg6 harg6 arg7 harg7 arg8 harg8 arg9 harg9 arg10 harg10 arg11 harg11 arg12 harg12 arg13 harg13 arg14 harg14 arg15 harg15 arg16 harg16 x0 x2 x3 x4 xt0 hw f13) (uF x0 x3 x4 (blk i) ds s r j) j := by
  unfold kernelRun0.sl.v119 View.readCov
  refine (readAt_accF _ _ _ d j).trans ?_
  refine (congrFun (read_skip _ _ _ _ _ (congrArg (fun p => p.2.2) (t4_none (w := w) (hw := hwl) (hv5 := hv5) ..))) _).trans ?_
  refine ((t3_all (w := w) (hw := hwl) (hv5 := hv5) (V := x5) (hV := harg9.read_unread _) (U := uF x0 x3 x4 (blk i) ds) (hU := fun s r j' hs => ?_) ..).2 d j).trans ?_
  · refine (congrFun (read_skip1 _ _ _ _ (congrArg (fun p => p.2.1) (t2_none (w := w) (hw := hwl) (hv5 := hv5) ..))) _).trans ?_
    refine (t1_all (w := w) (hw := hwl) (hv5 := hv5) (hv1 := rfl) (hq := r_1_apply i) (ds := ds) (hds := hds) (hd := fun j' => (readAt_ds _ _ _ j').trans ?_) (Q := x0) (hQ := harg4.read_unread _) (K := x3) (hK := harg7.read_unread _) (KS := x4) (hKS := harg8.read_unread _) ..).1 s r j' hs
    rw [harg6.read_unread]; exact hd j'
  · have e : (arg16.view.read (Elt Ideal) (arg16.view.writes (Elt Ideal) arg16.view.junk (kernelRun0.sl.H16_1 (F := Ideal))) (ix2 d j) : EReal) = 0 := by
      refine (congrFun (View.read_writes_full _ _ _ _ _) _).trans ?_
      show Ideal.ofBits FTy.f32 0#32 = 0
      exact zero_word
    have e' : View.readAt (Elt Ideal) arg5.view (Rect.unit ![0, 0, 0, 0, 0] S1x1x1x1x1024.size inb_S1x1x1x1x1024_S1x1x1x1x1024_0_0_0_0_0).toLoadRect (harg5.unread x1) = x1 := by
      rw [View.readAt_full, harg5.read_unread]
    rw [e, zero_add, e']

end Cert.KernelIdeal.Gen

end
-- ==== Proof.I.Blocks.lean ====
module
public import proofs.«01_k».proof.Proof.I.BodyValue

/-!
The two blocks a grid point writes, as closed functions of the blocks it reads and of the word it takes from the table.
-/

@[expose] public section

set_option maxRecDepth 16384

noncomputable section

namespace Cert.KernelIdeal.Gen

open Idealize.ShloMosaic Idealize.ShloMosaic.TcCoe Idealize.ShloMosaic.Tactic Idealize.SL Idealize.SL.Sem

/-- The document starts the block's columns carry. -/
def dsX (x2 : Vec Ideal S1x1x1x1024 .i32) (j : Fin 1024) : ℕ := (x2 (ix4 0 0 0 j)).toNat

/-- The running maximum of a grid point, as a row. -/
def mV (x0 : Vec Ideal S1x128x8x128 .fp8e4m3) (x2 : Vec Ideal S1x1x1x1024 .i32) (x3 : Vec Ideal S1x1x4096x128 .fp8e4m3) (x4 : Vec Ideal S1x1x4096x1 .f32) (i : grid0.Coords) (w : ℕ) : Vec Ideal S1x1024 .f32 :=
  fun y => mF x0 x3 x4 (blk i) (dsX x2) (nTrips (i 2).val w) (y 1)

/-- The sum of weights of a grid point's column. -/
def lF (x0 : Vec Ideal S1x128x8x128 .fp8e4m3) (x1 : Vec Ideal S1x1x1x1x1024 .f32) (x2 : Vec Ideal S1x1x1x1024 .i32) (x3 : Vec Ideal S1x1x4096x128 .fp8e4m3) (x4 : Vec Ideal S1x1x4096x1 .f32) (i : grid0.Coords) (w : ℕ) (j : Fin 1024) : EReal :=
  ∑ s ∈ Finset.range (nTrips (i 2).val w), ∑ r : Fin 256, pF x1 (mV x0 x2 x3 x4 i w) (uF x0 x3 x4 (blk i) (dsX x2) s r j) j

/-- The weighted sum of value rows of a grid point's column. -/
def aF (x0 : Vec Ideal S1x128x8x128 .fp8e4m3) (x1 : Vec Ideal S1x1x1x1x1024 .f32) (x2 : Vec Ideal S1x1x1x1024 .i32) (x3 : Vec Ideal S1x1x4096x128 .fp8e4m3) (x4 : Vec Ideal S1x1x4096x1 .f32) (x5 : Vec Ideal S1x1x4096x128 .fp8e4m3) (i : grid0.Coords) (w : ℕ) (d : Fin 128) (j : Fin 1024) : EReal :=
  ∑ s ∈ Finset.range (nTrips (i 2).val w), ∑ r : Fin 256, (x5 (ix4 0 0 (rowF (blk i) s r) d) : EReal) * pF x1 (mV x0 x2 x3 x4 i w) (uF x0 x3 x4 (blk i) (dsX x2) s r j) j

/-- The block of the first result. -/
def out8F (i : grid0.Coords) (w : ℕ) (x0 : Vec Ideal S1x128x8x128 .fp8e4m3) (x1 : Vec Ideal S1x1x1x1x1024 .f32) (x2 : Vec Ideal S1x1x1x1024 .i32) (x3 : Vec Ideal S1x1x4096x128 .fp8e4m3) (x4 : Vec Ideal S1x1x4096x1 .f32) (x5 : Vec Ideal S1x1x4096x128 .fp8e4m3) (x6 : Vec Ideal S4x2 .f32) : Vec Ideal S1x128x8x128 .bf16 := fun y =>
  aF x0 x1 x2 x3 x4 x5 i w (y 3) ⟨(y 1).val * 8 + (y 2).val, by have h1 : (y 1).val < 128 := (y 1).isLt; have h2 : (y 2).val < 8 := (y 2).isLt; omega⟩
    * Ideal.div (x6 (ix2 (i 0) (i 1))) (lF x0 x1 x2 x3 x4 i w ⟨(y 1).val * 8 + (y 2).val, by have h1 : (y 1).val < 128 := (y 1).isLt; have h2 : (y 2).val < 8 := (y 2).isLt; omega⟩)

/-- The block of the second result. -/
def out9F (i : grid0.Coords) (w : ℕ) (x0 : Vec Ideal S1x128x8x128 .fp8e4m3) (x1 : Vec Ideal S1x1x1x1x1024 .f32) (x2 : Vec Ideal S1x1x1x1024 .i32) (x3 : Vec Ideal S1x1x4096x128 .fp8e4m3) (x4 : Vec Ideal S1x1x4096x1 .f32) (x5 : Vec Ideal S1x1x4096x128 .fp8e4m3) (x6 : Vec Ideal S4x2 .f32) : Vec Ideal S1x1x1x1x1024 .f32 := fun y =>
  (k0_pay72 x1 (mV x0 x2 x3 x4 i w) (ix2 0 (y 4)) : EReal) + Ideal.div (Ideal.log (0 - lF x0 x1 x2 x3 x4 i w (y 4))) (Ideal.log (Ideal.ofBits FTy.f32 1073741824#32))
    - Ideal.div (Ideal.log (FloatOps.sitofp (F := Ideal) FTy.f32 (IntOp.addi (IntOp.subi (BitVec.ofNat 32 ((i 2).val * 128 + (y 4).val / 8)) (x2 (ix4 0 0 0 (y 4)))) 1#32))) (Ideal.log (Ideal.ofBits FTy.f32 1073741824#32))

theorem pay6_apply (v113 : Vec Ideal S1x1024 .f32) (v116 : Elt Ideal .f32) (v119 : Vec Ideal S128x1024 .f32) (a : Fin 1) (t : Fin 128) (g : Fin 8) (d : Fin 128) :
    (k0_pay6 v113 v116 v119 (ix4 a t g d) : EReal) = v119 (ix2 d ⟨t.val * 8 + g.val, by omega⟩) * Ideal.div v116 (v113 (ix2 0 ⟨t.val * 8 + g.val, by omega⟩)) := by
  unfold k0_pay6
  pointwise

theorem pay7_apply (v83 v85 : IVec S1x1024 32) (v99 v113 : Vec Ideal S1x1024 .f32) (a b c d : Fin 1) (j : Fin 1024) :
    (k0_pay7 v83 v85 v99 v113 (ix5 a b c d j) : EReal) = (v99 (ix2 0 j) : EReal) + Ideal.div (Ideal.log (0 - (v113 (ix2 0 j) : EReal))) (Ideal.log (Ideal.ofBits FTy.f32 1073741824#32)) - Ideal.div (Ideal.log (FloatOps.sitofp (F := Ideal) FTy.f32 (IntOp.addi (IntOp.subi (v83 (ix2 0 j)) (v85 (ix2 0 j))) 1#32))) (Ideal.log (Ideal.ofBits FTy.f32 1073741824#32)) := by
  unfold k0_pay7
  pointwise

theorem pay64_apply (v84 : Vec Ideal S1x1x1x1024 .i32) (a : Fin 1) (j : Fin 1024) : k0_pay64 v84 (ix2 a j) = v84 (ix4 0 0 0 j) := by
  unfold k0_pay64
  pointwise

theorem off24_eq (i : grid0.Coords) : k0_off24 i = ![(i 0).val, (i 1).val] := by
  have h0 : (i 0).val < 4 := (i 0).isLt
  have h1 : (i 1).val < 2 := (i 1).isLt
  unfold k0_off24
  simp only [Scalar.indexCast]
  rw [BitVec.toNat_ofNat, BitVec.toNat_ofNat, Nat.mod_eq_of_lt (by omega), Nat.mod_eq_of_lt (by omega)]

theorem of_toNat (b : BitVec 32) : BitVec.ofNat 32 b.toNat = b := BitVec.eq_of_toNat_eq (by simp)

theorem readAt_vs {sig' : RefSig} {κ : Kind} {sp : Space} (v : View sig' κ sp S4x2 .f32) (X : v.ty.Contents (Elt Ideal)) (off : Fin 2 → ℕ) (inb) (a : Fin 4) (b : Fin 2) (h : off = ![a.val, b.val]) (h0) :
    View.readAt (Elt Ideal) v (Rect.unit (s := S4x2) off S1x1.size inb).toLoadRect X (Shape.Idx.first h0) = v.read (Elt Ideal) X (ix2 a b) := by
  subst h
  rw [View.readAt_apply]
  refine congrArg _ (funext fun x => Fin.ext ?_)
  show (![a.val, b.val] : Fin 2 → ℕ) x + 1 * ((Shape.Idx.first h0) x).val = _
  fin_cases x <;> simp [ix2, Shape.Idx.first]

variable (c : Dev nD) (i : grid0.Coords) (arg4 : Memref sig .tc .vmem S1x128x8x128 .fp8e4m3) (harg4 : arg4.IsWhole) (arg5 : Memref sig .tc .vmem S1x1x1x1x1024 .f32) (harg5 : arg5.IsWhole) (arg6 : Memref sig .tc .vmem S1x1x1x1024 .i32) (harg6 : arg6.IsWhole) (arg7 : Memref sig .tc .vmem S1x1x4096x128 .fp8e4m3) (harg7 : arg7.IsWhole) (arg8 : Memref sig .tc .vmem S1x1x4096x1 .f32) (harg8 : arg8.IsWhole) (arg9 : Memref sig .tc .vmem S1x1x4096x128 .fp8e4m3) (harg9 : arg9.IsWhole) (arg10 : Memref sig .tc .smem S4x2 .f32) (harg10 : arg10.IsWhole) (arg11 : Memref sig .tc .vmem S1x128x8x128 .bf16) (harg11 : arg11.IsWhole) (arg12 : Memref sig .tc .vmem S1x1x1x1x1024 .f32) (harg12 : arg12.IsWhole) (arg13 : Memref sig .tc .vmem S17x256x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S128x1024 .f32) (harg16 : arg16.IsWhole) (x0 : Vec Ideal S1x128x8x128 .fp8e4m3) (x1 : Vec Ideal S1x1x1x1x1024 .f32) (x2 : Vec Ideal S1x1x1x1024 .i32) (x3 : Vec Ideal S1x1x4096x128 .fp8e4m3) (x4 : Vec Ideal S1x1x4096x1 .f32) (x5 : Vec Ideal S1x1x4096x128 .fp8e4m3) (x6 : Vec Ideal S4x2 .f32) (xt0 : TbBuf0 (F := Ideal) c tbM0_0) (hw : k0_chk1 i (word0 c i xt0)) (f13 : BufTy.Contents (Elt Ideal) arg13.view.ty)
variable (hwl : (word0 c i xt0 : BitVec 32).toNat ≤ (i 2).val * 128) (hds : ∀ j, dsX x2 j < 4096)

include hwl hds

theorem v95_eq : kernelRun0.sl.v95 (F := Ideal) c i arg4 harg4 arg5 harg5 arg6 harg6 arg7 harg7 arg8 harg8 arg9 harg9 arg10 harg10 arg11 harg11 arg12 harg12 arg13 harg13 arg14 harg14 arg15 harg15 arg16 harg16 x0 x2 x3 x4 xt0 hw f13 = mV x0 x2 x3 x4 i (word0 c i xt0 : BitVec 32).toNat := by
  funext y
  obtain ⟨a, j, rfl⟩ : ∃ (a : Fin 1) (j : Fin 1024), y = ix2 a j := ⟨y 0, y 1, by funext q; fin_cases q <;> rfl⟩
  obtain rfl := Subsingleton.elim a 0
  exact v95_apply c i arg4 harg4 arg5 harg5 arg6 harg6 arg7 harg7 arg8 harg8 arg9 harg9 arg10 harg10 arg11 harg11 arg12 harg12 arg13 harg13 arg14 harg14 arg15 harg15 arg16 harg16 x0 x2 x3 x4 xt0 hw f13 _ hwl (of_toNat _).symm (dsX x2) hds (fun j => (of_toNat _).symm) j

theorem v113_eq (j : Fin 1024) : (kernelRun0.sl.v113 (F := Ideal) c i arg4 harg4 arg5 harg5 arg6 harg6 arg7 harg7 arg8 harg8 arg9 harg9 arg10 harg10 arg11 harg11 arg12 harg12 arg13 harg13 arg14 harg14 arg15 harg15 arg16 harg16 x0 x1 x2 x3 x4 x5 xt0 hw f13 (ix2 0 j) : EReal) = lF x0 x1 x2 x3 x4 i (word0 c i xt0 : BitVec 32).toNat j := by
  refine (v113_apply c i arg4 harg4 arg5 harg5 arg6 harg6 arg7 harg7 arg8 harg8 arg9 harg9 arg10 harg10 arg11 harg11 arg12 harg12 arg13 harg13 arg14 harg14 arg15 harg15 arg16 harg16 x0 x1 x2 x3 x4 x5 xt0 hw f13 _ hwl (of_toNat _).symm (dsX x2) hds (fun j => (of_toNat _).symm) j).trans ?_
  rw [v95_eq (hwl := hwl) (hds := hds)]
  rfl

theorem v119_eq (d : Fin 128) (j : Fin 1024) : (kernelRun0.sl.v119 (F := Ideal) c i arg4 harg4 arg5 harg5 arg6 harg6 arg7 harg7 arg8 harg8 arg9 harg9 arg10 harg10 arg11 harg11 arg12 harg12 arg13 harg13 arg14 harg14 arg15 harg15 arg16 harg16 x0 x1 x2 x3 x4 x5 xt0 hw f13 (ix2 d j) : EReal) = aF x0 x1 x2 x3 x4 x5 i (word0 c i xt0 : BitVec 32).toNat d j := by
  refine (v119_apply c i arg4 harg4 arg5 harg5 arg6 harg6 arg7 harg7 arg8 harg8 arg9 harg9 arg10 harg10 arg11 harg11 arg12 harg12 arg13 harg13 arg14 harg14 arg15 harg15 arg16 harg16 x0 x1 x2 x3 x4 x5 xt0 hw f13 _ hwl (of_toNat _).symm (dsX x2) hds (fun j => (of_toNat _).symm) d j).trans ?_
  rw [v95_eq (hwl := hwl) (hds := hds)]
  rfl

theorem out8_eq : k0_pay6 (F := Ideal) (kernelRun0.sl.v113 (F := Ideal) c i arg4 harg4 arg5 harg5 arg6 harg6 arg7 harg7 arg8 harg8 arg9 harg9 arg10 harg10 arg11 harg11 arg12 harg12 arg13 harg13 arg14 harg14 arg15 harg15 arg16 harg16 x0 x1 x2 x3 x4 x5 xt0 hw f13) (kernelRun0.sl.r_7 (F := Ideal) c i arg10 harg10 x6) (kernelRun0.sl.v119 (F := Ideal) c i arg4 harg4 arg5 harg5 arg6 harg6 arg7 harg7 arg8 harg8 arg9 harg9 arg10 harg10 arg11 harg11 arg12 harg12 arg13 harg13 arg14 harg14 arg15 harg15 arg16 harg16 x0 x1 x2 x3 x4 x5 xt0 hw f13)
    = out8F i (word0 c i xt0 : BitVec 32).toNat x0 x1 x2 x3 x4 x5 x6 := by
  funext y
  obtain ⟨a, t, g, d, rfl⟩ : ∃ (a : Fin 1) (t : Fin 128) (g : Fin 8) (d : Fin 128), y = ix4 a t g d := ⟨y 0, y 1, y 2, y 3, by funext q; fin_cases q <;> rfl⟩
  refine (pay6_apply _ _ _ a t g d).trans ?_
  rw [v113_eq (hwl := hwl) (hds := hds), v119_eq (hwl := hwl) (hds := hds)]
  have e : kernelRun0.sl.r_7 (F := Ideal) c i arg10 harg10 x6 = x6 (ix2 (i 0) (i 1)) := by
    unfold kernelRun0.sl.r_7
    refine (readAt_vs _ _ _ _ (i 0) (i 1) (off24_eq i) _).trans ?_
    rw [harg10.read_unread]
  rw [e]
  rfl

theorem out9_eq : k0_pay7 (F := Ideal) (kernelRun0.sl.r_1 i) (kernelRun0.sl.r_2 (F := Ideal) c arg6 harg6 x2) (kernelRun0.sl.r_3 (F := Ideal) c i arg4 harg4 arg5 harg5 arg6 harg6 arg7 harg7 arg8 harg8 arg9 harg9 arg10 harg10 arg11 harg11 arg12 harg12 arg13 harg13 arg14 harg14 arg15 harg15 arg16 harg16 x0 x1 x2 x3 x4 xt0 hw f13) (kernelRun0.sl.v113 (F := Ideal) c i arg4 harg4 arg5 harg5 arg6 harg6 arg7 harg7 arg8 harg8 arg9 harg9 arg10 harg10 arg11 harg11 arg12 harg12 arg13 harg13 arg14 harg14 arg15 harg15 arg16 harg16 x0 x1 x2 x3 x4 x5 xt0 hw f13)
    = out9F i (word0 c i xt0 : BitVec 32).toNat x0 x1 x2 x3 x4 x5 x6 := by
  funext y
  obtain ⟨a, b, e, d, j, rfl⟩ : ∃ (a b e d : Fin 1) (j : Fin 1024), y = ix5 a b e d j := ⟨y 0, y 1, y 2, y 3, y 4, by funext q; fin_cases q <;> rfl⟩
  refine (pay7_apply _ _ _ _ a b e d j).trans ?_
  rw [v113_eq (hwl := hwl) (hds := hds)]
  have e1 : kernelRun0.sl.r_1 i (ix2 0 j) = BitVec.ofNat 32 ((i 2).val * 128 + j.val / 8) := r_1_apply i j
  have e2 : kernelRun0.sl.r_2 (F := Ideal) c arg6 harg6 x2 (ix2 0 j) = x2 (ix4 0 0 0 j) := by
    unfold kernelRun0.sl.r_2
    refine (pay64_apply _ 0 j).trans ((readAt_ds _ _ _ j).trans ?_)
    rw [harg6.read_unread]
  have e3 : kernelRun0.sl.r_3 (F := Ideal) c i arg4 harg4 arg5 harg5 arg6 harg6 arg7 harg7 arg8 harg8 arg9 harg9 arg10 harg10 arg11 harg11 arg12 harg12 arg13 harg13 arg14 harg14 arg15 harg15 arg16 harg16 x0 x1 x2 x3 x4 xt0 hw f13 = k0_pay72 x1 (mV x0 x2 x3 x4 i (word0 c i xt0 : BitVec 32).toNat) := by
    unfold kernelRun0.sl.r_3
    rw [v95_eq (hwl := hwl) (hds := hds), View.readAt_full, harg5.read_unread]
  rw [e1, e2, e3]
  rfl

end Cert.KernelIdeal.Gen

end
-- ==== Proof.M.Windows.lean ====
module
public import proofs.«01_k».proof.Proof.I.Scores
@[expose] public section
/-!
# The windows of a query block cover its seen rows once each
-/
set_option maxRecDepth 16384
noncomputable section
namespace Cert.KernelIdeal.Gen
open Idealize.ShloMosaic Idealize.ShloMosaic.TcCoe Idealize.SL Idealize.SL.Sem

/-- The rows a column sees. -/
def visW (j2 : Fin 32) (ds : Fin 1024 → ℕ) (j : Fin 1024) (k : Fin 4096) : Prop := ds j ≤ k.val ∧ k.val ≤ j2.val * 128 + j.val / 8

instance (j2 : Fin 32) (ds : Fin 1024 → ℕ) (j : Fin 1024) : DecidablePred (visW j2 ds j) := fun k => by unfold visW; infer_instance

variable (j2 : Fin 32) (ds : Fin 1024 → ℕ) (j : Fin 1024) (w : ℕ) (hw : w ≤ ds j)

theorem vis_of {s : ℕ} {r : Fin 256} (h : visF j2 ds s r j) : visW j2 ds j (rowF j2 s r) := ⟨h.1.2, h.1.1⟩

include hw in
theorem vis_win (k : Fin 4096) (h : visW j2 ds j k) : ∃ (s : ℕ) (r : Fin 256), s < nTrips j2.val w ∧ visF j2 ds s r j ∧ rowF j2 s r = k := by
  obtain ⟨h1, h2⟩ := h
  have hj := j.isLt
  have hs : ((j2.val + 1) * 128 - 1 - k.val) / 256 * 256 ≤ (j2.val + 1) * 128 - 1 - k.val := Nat.div_mul_le_self _ _
  have hs' : (j2.val + 1) * 128 - 1 - k.val < ((j2.val + 1) * 128 - 1 - k.val) / 256 * 256 + 256 := by omega
  generalize hsd : ((j2.val + 1) * 128 - 1 - k.val) / 256 = s at hs hs'
  have hr0 : row0 j2.val s ≤ k.val := by unfold row0; omega
  have hr : k.val - row0 j2.val s < 256 := by unfold row0; omega
  have e : rowF j2 s ⟨k.val - row0 j2.val s, hr⟩ = k := Fin.ext (by show row0 j2.val s + (k.val - row0 j2.val s) = k.val; omega)
  refine ⟨s, ⟨_, hr⟩, ?_, ?_, e⟩
  · unfold nTrips; omega
  · unfold visF; rw [e]; exact ⟨⟨h2, h1⟩, by omega⟩

theorem win_inj {s s' : ℕ} {r r' : Fin 256} (h : visF j2 ds s r j) (h' : visF j2 ds s' r' j) (e : rowF j2 s r = rowF j2 s' r') : s = s' ∧ r = r' := by
  have h1 := h.2; have h2 := h'.2
  have e' : row0 j2.val s + r.val = row0 j2.val s' + r'.val := congrArg Fin.val e
  have h1' : row0 j2.val s + r.val < (j2.val + 1) * 128 - s * 256 := h1
  have h2' : row0 j2.val s' + r'.val < (j2.val + 1) * 128 - s' * 256 := h2
  have es : s = s' := by
    unfold row0 at *
    have := r.isLt; have := r'.isLt
    omega
  subst es
  exact ⟨rfl, Fin.ext (by omega)⟩

include hw in
/-- A sum over the windows is a sum over the rows. -/
theorem sum_win (f : Fin 4096 → EReal) :
    (∑ s ∈ Finset.range (nTrips j2.val w), ∑ r : Fin 256, if visF j2 ds s r j then f (rowF j2 s r) else 0) = ∑ k, if visW j2 ds j k then f k else 0 := by
  rw [← Finset.sum_product', ← Finset.sum_filter, ← Finset.sum_filter]
  refine Finset.sum_nbij (fun x => rowF j2 x.1 x.2) ?_ ?_ ?_ fun _ _ => rfl
  · intro x hx
    rw [Finset.mem_filter] at hx
    exact Finset.mem_filter.mpr ⟨Finset.mem_univ _, vis_of j2 ds j hx.2⟩
  · intro x hx y hy e
    rw [Finset.mem_coe, Finset.mem_filter] at hx hy
    obtain ⟨a, b⟩ := win_inj j2 ds j hx.2 hy.2 e
    exact Prod.ext a b
  · intro k hk
    rw [Finset.mem_coe, Finset.mem_filter] at hk
    obtain ⟨s, r, a, b, c⟩ := vis_win j2 ds j w hw k hk.2
    exact ⟨(s, r), by rw [Finset.mem_coe, Finset.mem_filter, Finset.mem_product, Finset.mem_range]; exact ⟨⟨a, Finset.mem_univ _⟩, b⟩, c⟩

include hw in
/-- The largest over the windows is the largest over the rows. -/
theorem sup_win (f : Fin 4096 → EReal) :
    ((Finset.range (nTrips j2.val w)).sup fun s => Finset.univ.sup fun r : Fin 256 => if visF j2 ds s r j then f (rowF j2 s r) else ⊥)
      = Finset.univ.sup fun k => if visW j2 ds j k then f k else ⊥ := by
  refine le_antisymm (Finset.sup_le fun s _ => Finset.sup_le fun r _ => ?_) (Finset.sup_le fun k _ => ?_)
  · split_ifs with h
    · have := Finset.le_sup (f := fun k => if visW j2 ds j k then f k else ⊥) (Finset.mem_univ (rowF j2 s r))
      simpa only [if_pos (vis_of j2 ds j h)] using this
    · exact bot_le
  · split_ifs with h
    · obtain ⟨s, r, a, b, rfl⟩ := vis_win j2 ds j w hw k h
      refine le_trans ?_ (Finset.le_sup (f := fun s => Finset.univ.sup fun r : Fin 256 => if visF j2 ds s r j then f (rowF j2 s r) else ⊥) (Finset.mem_range.mpr a))
      have := Finset.le_sup (f := fun r : Fin 256 => if visF j2 ds s r j then f (rowF j2 s r) else ⊥) (Finset.mem_univ r)
      simpa only [if_pos b] using this
    · exact bot_le
end Cert.KernelIdeal.Gen
-- ==== Proof.Col.lean ====
module
public import Idealize.ShloMosaic.Lib.Pointwise
@[expose] public section
/-!
# One query row of the attention, on the extended reals

The reference's row: scores `s`, the rows `vis` seen, the values `v` and their scale `vs`.
-/
noncomputable section
namespace Cert.Col
open Idealize.ShloMosaic

/-- The scale of the scores. -/
def SC : EReal := Ideal.ofBits FTy.f32 1035273459#32

/-- `1 + f` to its 24 bits, for `x = n + f`. -/
def aE (x : EReal) : EReal :=
  Ideal.liftRound Ideal.roundHalfEven ((Ideal.ofBits FTy.f32 0x3F800000#32 + (x - Ideal.liftRound Int.floor x)) * Ideal.ofBits FTy.f32 0x4B000000#32) * Ideal.ofBits FTy.f32 0x34000000#32

/-- The reference's power of two. -/
def pow2E (x : EReal) : EReal :=
  if Ideal.liftRound Int.floor x < Ideal.ofBits FTy.f32 0xC2FC0000#32 then
    (if Ideal.liftRound Int.floor x < Ideal.ofBits FTy.f32 0xC2FE0000#32 then 0 else (aE x - Ideal.ofBits FTy.f32 0x3F800000#32) * Ideal.ofBits FTy.f32 0x00800000#32)
  else aE x * (FloatOps.exp2 (F := Ideal) (φ := FTy.f32) (Ideal.liftRound Int.floor x) : EReal)

variable (s v : Fin 4096 → EReal) (vis : Fin 4096 → Prop) [DecidablePred vis] (vs : EReal)

/-- The largest seen score, rounded up. -/
def mR : EReal := Ideal.liftRound Int.ceil (Finset.univ.sup fun k => if vis k then s k else ⊥)
/-- The weight of a row. -/
def pR (k : Fin 4096) : EReal := if vis k then pow2E (s k - mR s vis) else 0
/-- The sum of the weights. -/
def lR : EReal := ∑ k, pR s vis k
/-- One entry of the result. -/
def outR : EReal := (0 - ∑ k, (0 - pR s vis k) * v k) * Ideal.div vs (lR s vis)
/-- The number of seen rows. -/
def nR : BitVec 32 := Finset.univ.fold IntOp.addi 0#32 fun k => if vis k then 1#32 else 0#32
/-- The entry of the logarithm of the sum. -/
def lseR : EReal :=
  mR s vis + Ideal.div (Ideal.log (lR s vis)) (Ideal.log (Ideal.ofBits FTy.f32 1073741824#32))
    - Ideal.div (Ideal.log (FloatOps.sitofp (F := Ideal) FTy.f32 (nR vis) : EReal)) (Ideal.log (Ideal.ofBits FTy.f32 1073741824#32))

theorem neg_inf_word : Ideal.ofBits FTy.f32 4286578688#32 = ⊥ := by
  simp [Ideal.ofBits, Ideal.ieee]
theorem fold_max (f : Fin 4096 → EReal) : Finset.univ.fold max (Ideal.ofBits FTy.f32 4286578688#32) f = Finset.univ.sup f := by
  rw [neg_inf_word]; rfl
end Cert.Col
-- ==== Proof.M.Pow.lean ====
module
public import proofs.«01_k».proof.Proof.Col
@[expose] public section
/-!
# The power of two by its bits

A word of the float32 format read as a number, and the word `(x - 129) * 2 ^ 23` rounded: it is minus the reference's power of two.
-/
noncomputable section
namespace Cert.Col
open Idealize.ShloMosaic

/-- A word of the format by its fields. -/
theorem ofBits_word (w : BitVec 32) (s : Bool) (e f : ℕ) (hs : (w.extractLsb' 31 1 == 1#1) = s) (he : (w.extractLsb' 23 8).toNat = e)
    (hf : (w.extractLsb' 0 23).toNat = f) (h : e ≠ 255) (h0 : e ≠ 0) :
    Ideal.ofBits FTy.f32 w = (((if s then -1 else 1) * (2 ^ 23 + f : ℕ) * (2 : ℝ) ^ ((e : ℤ) - 150) : ℝ) : EReal) := by
  show Ideal.ieee 8 23 w = _
  unfold Ideal.ieee
  simp only [show 8 + 23 = 31 from rfl, hs, he, hf]
  rw [if_neg (by norm_num; exact h), if_neg h0]
  refine congrArg _ (congrArg _ (congrArg _ ?_))
  norm_num; ring

theorem w_one : Ideal.ofBits FTy.f32 0x3F800000#32 = ((1 : ℝ) : EReal) := by
  rw [ofBits_word _ false 127 0 (by decide) (by decide) (by decide) (by decide) (by decide)]; norm_num
theorem w_mant : Ideal.ofBits FTy.f32 0x4B000000#32 = ((2 ^ 23 : ℝ) : EReal) := by
  rw [ofBits_word _ false 150 0 (by decide) (by decide) (by decide) (by decide) (by decide)]; norm_num
theorem w_step : Ideal.ofBits FTy.f32 0x34000000#32 = (((2 : ℝ) ^ (-23 : ℤ) : ℝ) : EReal) := by
  rw [ofBits_word _ false 104 0 (by decide) (by decide) (by decide) (by decide) (by decide)]; norm_num
theorem w_126 : Ideal.ofBits FTy.f32 0xC2FC0000#32 = ((-126 : ℝ) : EReal) := by
  rw [ofBits_word _ true 133 0x7C0000 (by decide) (by decide) (by decide) (by decide) (by decide)]; norm_num
theorem w_127 : Ideal.ofBits FTy.f32 0xC2FE0000#32 = ((-127 : ℝ) : EReal) := by
  rw [ofBits_word _ true 133 0x7E0000 (by decide) (by decide) (by decide) (by decide) (by decide)]; norm_num
theorem w_129 : Ideal.ofBits FTy.f32 0x43010000#32 = ((129 : ℝ) : EReal) := by
  rw [ofBits_word _ false 134 0x010000 (by decide) (by decide) (by decide) (by decide) (by decide)]; norm_num
theorem w_least : Ideal.ofBits FTy.f32 0x00800000#32 = (((2 : ℝ) ^ (-126 : ℤ) : ℝ) : EReal) := by
  rw [ofBits_word _ false 1 0 (by decide) (by decide) (by decide) (by decide) (by decide)]; norm_num
/-- The scale of the scores is positive. -/
theorem SC_pos : ∃ r : ℝ, 0 < r ∧ SC = (r : EReal) ∧ Ideal.ofBits FTy.f32 0x493504F3#32 = ((r * 2 ^ 23 : ℝ) : EReal) := by
  unfold SC
  rw [ofBits_word 1035273459#32 false 123 0x3504F3 (by decide) (by decide) (by decide) (by decide) (by decide), ofBits_word 0x493504F3#32 false 146 0x3504F3 (by decide) (by decide) (by decide) (by decide) (by decide)]
  exact ⟨_, by norm_num, rfl, by norm_num⟩

/-- A negative word read as a number. -/
theorem ofBits_neg (e f : ℕ) (he : e < 255) (hf : f < 2 ^ 23) :
    Ideal.ofBits FTy.f32 (BitVec.ofInt 32 (-2 ^ 31 + e * 2 ^ 23 + f))
      = if e = 0 then ((-(f * (2 : ℝ) ^ (-149 : ℤ)) : ℝ) : EReal) else ((-((2 ^ 23 + f) * (2 : ℝ) ^ ((e : ℤ) - 150)) : ℝ) : EReal) := by
  have hw : BitVec.ofInt 32 (-2 ^ 31 + e * 2 ^ 23 + f) = BitVec.ofNat 32 (2 ^ 31 + e * 2 ^ 23 + f) := by
    apply BitVec.eq_of_toNat_eq
    rw [BitVec.toNat_ofInt, BitVec.toNat_ofNat]
    omega
  rw [hw]
  have h1 : (BitVec.ofNat 32 (2 ^ 31 + e * 2 ^ 23 + f)).extractLsb' 31 1 = 1#1 := by
    apply BitVec.eq_of_toNat_eq
    rw [BitVec.extractLsb'_toNat, BitVec.toNat_ofNat, Nat.shiftRight_eq_div_pow]
    simp only [BitVec.toNat_ofNat]
    omega
  have h2 : ((BitVec.ofNat 32 (2 ^ 31 + e * 2 ^ 23 + f)).extractLsb' 23 8).toNat = e := by
    rw [BitVec.extractLsb'_toNat, BitVec.toNat_ofNat, Nat.shiftRight_eq_div_pow]
    omega
  have h3 : ((BitVec.ofNat 32 (2 ^ 31 + e * 2 ^ 23 + f)).extractLsb' 0 23).toNat = f := by
    rw [BitVec.extractLsb'_toNat, BitVec.toNat_ofNat, Nat.shiftRight_eq_div_pow]
    omega
  show Ideal.ieee 8 23 _ = _
  unfold Ideal.ieee
  simp only [show 8 + 23 = 31 from rfl, h1, h2, h3]
  rw [if_neg (by norm_num; omega)]
  by_cases h0 : e = 0
  · rw [if_pos h0, if_pos h0]
    norm_num
  · rw [if_neg h0, if_neg h0]
    refine congrArg _ ?_
    rw [show (e : ℤ) - (2 ^ (8 - 1) - 1) - ((23 : ℕ) : ℤ) = (e : ℤ) - 150 by norm_num; ring]
    push_cast
    simp only [beq_self_eq_true, if_true]
    ring

theorem roundHalfEven_add (r : ℝ) (c : ℤ) (hc : Even c) : Ideal.roundHalfEven (r + c) = Ideal.roundHalfEven r + c := by
  unfold Ideal.roundHalfEven
  dsimp only
  rw [Int.floor_add_intCast]
  have e : r + c - ((⌊r⌋ + c : ℤ) : ℝ) = r - ⌊r⌋ := by push_cast; ring
  rw [e]
  have ev : Even (⌊r⌋ + c) ↔ Even ⌊r⌋ := by rw [Int.even_add]; simp [hc]
  simp only [ev]
  split_ifs <;> ring

theorem roundHalfEven_mem (r : ℝ) (a b : ℤ) (h1 : (a : ℝ) ≤ r) (h2 : r ≤ b) : a ≤ Ideal.roundHalfEven r ∧ Ideal.roundHalfEven r ≤ b := by
  have f1 : a ≤ ⌊r⌋ := Int.le_floor.mpr h1
  have f2 : ⌊r⌋ ≤ b := by exact_mod_cast (Int.floor_le r).trans h2
  have f3 : ⌊r⌋ = b → r - ⌊r⌋ = 0 := fun h => by
    have := Int.floor_le r
    rw [h] at this ⊢; linarith
  unfold Ideal.roundHalfEven
  dsimp only
  rcases f2.lt_or_eq with h | h
  · split_ifs <;> omega
  · rw [f3 h, if_pos (by norm_num)]; omega

/-- What the bits of a rounded number read as. -/
def bitE (y : EReal) : EReal := Ideal.ofBits FTy.f32 (FloatOps.fptosi (F := Ideal) (φ := FTy.f32) 32 (Ideal.liftRound Ideal.roundHalfEven y))

theorem bitE_coe (y : ℝ) : bitE (y : EReal) = Ideal.ofBits FTy.f32 (BitVec.ofInt 32 (max (-2 ^ 31) (min (2 ^ 31 - 1) (Ideal.roundHalfEven y)))) := by
  unfold bitE
  show Ideal.ofBits FTy.f32 (Ideal.fptosi 32 (((Ideal.roundHalfEven y : ℤ) : ℝ) : EReal)) = _
  unfold Ideal.fptosi
  rw [Ideal.toIntClamped_coe, Int.floor_intCast, Int.ceil_intCast, ite_self]
  rfl
theorem bitE_low (N : ℤ) (y : ℝ) (h : Ideal.roundHalfEven y = N) (hN : N ≤ -2 ^ 31) : bitE (y : EReal) = 0 := by
  rw [bitE_coe, h, max_eq_left (by omega)]
  have := ofBits_neg 0 0 (by norm_num) (by norm_num)
  norm_num at this ⊢
  exact this
theorem bitE_bot : bitE ⊥ = 0 := by
  have := ofBits_neg 0 0 (by norm_num) (by norm_num)
  norm_num at this
  exact this
theorem pow2E_bot : pow2E ⊥ = 0 := by
  unfold pow2E
  rw [w_126, w_127, show Ideal.liftRound Int.floor ⊥ = ⊥ from rfl]
  rw [if_pos (EReal.bot_lt_coe _), if_pos (EReal.bot_lt_coe _)]

theorem aE_coe (x : ℝ) : aE x = ((Ideal.roundHalfEven ((1 + (x - ⌊x⌋)) * 2 ^ 23) : ℝ) * (2 : ℝ) ^ (-23 : ℤ) : ℝ) := by
  unfold aE
  rw [w_one, w_mant, w_step]
  show Ideal.liftRound Ideal.roundHalfEven ((((1 : ℝ) : EReal) + ((x : EReal) - ((⌊x⌋ : ℝ) : EReal))) * _) * _ = _
  rw [← EReal.coe_sub, ← EReal.coe_add, ← EReal.coe_mul]
  show (((Ideal.roundHalfEven ((1 + (x - ⌊x⌋)) * 2 ^ 23) : ℤ) : ℝ) : EReal) * _ = _
  rw [← EReal.coe_mul]

/-- The power of two on the reals. -/
theorem pow2E_coe (x : ℝ) (n R : ℤ) (hn : ⌊x⌋ = n) (hR : Ideal.roundHalfEven ((1 + (x - ⌊x⌋)) * 2 ^ 23) = R) :
    pow2E x = if n < -126 then (if n < -127 then 0 else (((R - 2 ^ 23) * (2 : ℝ) ^ (-149 : ℤ) : ℝ) : EReal))
      else (((R : ℝ) * (2 : ℝ) ^ (n - 23 : ℤ) : ℝ) : EReal) := by
  unfold pow2E
  rw [w_126, w_127, w_one, w_least, aE_coe, hR, show Ideal.liftRound Int.floor (x : EReal) = (((⌊x⌋ : ℤ) : ℝ) : EReal) from rfl, hn]
  have c1 : (((n : ℝ) : EReal) < ((-126 : ℝ) : EReal)) ↔ n < -126 := by
    rw [EReal.coe_lt_coe_iff]; exact_mod_cast Iff.rfl
  have c2 : (((n : ℝ) : EReal) < ((-127 : ℝ) : EReal)) ↔ n < -127 := by
    rw [EReal.coe_lt_coe_iff]; exact_mod_cast Iff.rfl
  refine if_congr c1 (if_congr c2 rfl ?_) ?_
  · rw [← EReal.coe_sub, ← EReal.coe_mul]
    refine congrArg _ ?_
    norm_num; ring
  · show _ * ((Real.rpow 2 (n : ℝ) : ℝ) : EReal) = _
    rw [← EReal.coe_mul]
    refine congrArg _ ?_
    rw [Real.rpow_eq_pow, Real.rpow_intCast, mul_assoc, ← zpow_add₀ (by norm_num)]
    congr 2; ring

/-- The rounded word is minus the power of two, and the power of two is a nonnegative real. -/
theorem bit_pow (x : ℝ) (hx : x ≤ 0) : ∃ r : ℝ, 0 ≤ r ∧ pow2E x = r ∧ bitE (((x - 129) * 2 ^ 23 : ℝ)) = ((-r : ℝ) : EReal) := by
  obtain ⟨n, hn⟩ : ∃ n, ⌊x⌋ = n := ⟨_, rfl⟩
  obtain ⟨R, hR⟩ : ∃ R, Ideal.roundHalfEven ((1 + (x - ⌊x⌋)) * 2 ^ 23) = R := ⟨_, rfl⟩
  have hp := pow2E_coe x n R hn hR
  have hfl := Int.floor_le x
  have hfl2 := Int.lt_floor_add_one x
  have hm := roundHalfEven_mem ((1 + (x - ⌊x⌋)) * 2 ^ 23) (2 ^ 23) (2 ^ 24) (by push_cast; nlinarith) (by push_cast; nlinarith)
  rw [hR] at hm
  have hn0 : n ≤ 0 := by rw [← hn]; exact Int.floor_nonpos hx
  have hN : Ideal.roundHalfEven ((x - 129) * 2 ^ 23) = R + (n - 130) * 2 ^ 23 := by
    rw [← hR, ← roundHalfEven_add _ _ ⟨(n - 130) * 2 ^ 22, by ring⟩, hn]
    congr 1; push_cast; ring
  have hR24 : n = 0 → R = 2 ^ 23 := fun h => by
    have : x = 0 := by
      have h2 : (0 : ℝ) ≤ x := by rw [hn, h] at hfl; simpa using hfl
      linarith
    rw [← hR, this]
    simp [Ideal.roundHalfEven]
    norm_num
  rcases lt_trichotomy n (-127) with h | h | h
  · refine ⟨0, le_rfl, ?_, ?_⟩
    · rw [hp, if_pos (by omega), if_pos h]; rfl
    · rw [bitE_low _ _ hN (by omega)]; simp
  · rw [if_pos (by omega), if_neg (by omega)] at hp
    refine ⟨_, ?_, hp, ?_⟩
    · have : ((2 ^ 23 : ℤ) : ℝ) ≤ R := by exact_mod_cast hm.1
      push_cast at this
      exact mul_nonneg (by linarith) (by positivity)
    · rw [bitE_coe, hN]
      subst h
      rcases hm.2.lt_or_eq with hlt | heq
      · obtain ⟨f, hf⟩ := Int.eq_ofNat_of_zero_le (show 0 ≤ R - 2 ^ 23 by omega)
        have e := ofBits_neg 0 f (by norm_num) (by omega)
        rw [if_pos rfl] at e
        rw [show max (-2 ^ 31) (min (2 ^ 31 - 1) (R + (-127 - 130) * 2 ^ 23)) = -2 ^ 31 + ((0 : ℕ) : ℤ) * 2 ^ 23 + (f : ℤ) by rw [Nat.cast_zero]; omega]
        refine e.trans (congrArg _ ?_)
        have : (R : ℝ) = 2 ^ 23 + f := by
          have : R = 2 ^ 23 + f := by omega
          rw [this]; push_cast; ring
        rw [this]; ring
      · have e := ofBits_neg 1 0 (by norm_num) (by norm_num)
        rw [if_neg (by norm_num)] at e
        rw [show max (-2 ^ 31) (min (2 ^ 31 - 1) (R + (-127 - 130) * 2 ^ 23)) = -2 ^ 31 + ((1 : ℕ) : ℤ) * 2 ^ 23 + ((0 : ℕ) : ℤ) by rw [Nat.cast_zero, Nat.cast_one]; omega]
        refine e.trans (congrArg _ ?_)
        rw [heq]; norm_num
  · rw [if_neg (by omega)] at hp
    refine ⟨_, ?_, hp, ?_⟩
    · have : ((2 ^ 23 : ℤ) : ℝ) ≤ R := by exact_mod_cast hm.1
      push_cast at this
      exact mul_nonneg (by linarith) (by positivity)
    · rw [bitE_coe, hN]
      obtain ⟨e, he⟩ := Int.eq_ofNat_of_zero_le (show 0 ≤ n + 127 by omega)
      rcases hm.2.lt_or_eq with hlt | heq
      · obtain ⟨f, hf⟩ := Int.eq_ofNat_of_zero_le (show 0 ≤ R - 2 ^ 23 by omega)
        have w := ofBits_neg e f (by omega) (by omega)
        rw [if_neg (by omega)] at w
        rw [show max (-2 ^ 31) (min (2 ^ 31 - 1) (R + (n - 130) * 2 ^ 23)) = -2 ^ 31 + (e : ℤ) * 2 ^ 23 + (f : ℤ) by omega]
        refine w.trans (congrArg _ ?_)
        have : (R : ℝ) = 2 ^ 23 + f := by
          have : R = 2 ^ 23 + f := by omega
          rw [this]; push_cast; ring
        rw [this, show (e : ℤ) - 150 = n - 23 by omega]
      · have w := ofBits_neg (e + 1) 0 (by omega) (by norm_num)
        rw [if_neg (by omega)] at w
        rw [show max (-2 ^ 31) (min (2 ^ 31 - 1) (R + (n - 130) * 2 ^ 23)) = -2 ^ 31 + ((e + 1 : ℕ) : ℤ) * 2 ^ 23 + ((0 : ℕ) : ℤ) by push_cast; omega]
        refine w.trans (congrArg _ ?_)
        rw [heq, show ((e + 1 : ℕ) : ℤ) - 150 = (n - 23) + 1 by push_cast; omega, zpow_add₀ (by norm_num)]
        norm_num; ring
end Cert.Col
-- ==== Proof.M.Row.lean ====
module
public import proofs.«01_k».proof.Proof.M.Pow
@[expose] public section
/-!
# One query row as the kernel computes it

The kernel scales the largest raw score, and makes each weight from the bits of a rounded number, with the sign set: the row
is the reference's.
-/
noncomputable section
namespace Cert.Col
open Idealize.ShloMosaic

variable (raw v : Fin 4096 → EReal) (vis : Fin 4096 → Prop) [DecidablePred vis] (q vs : EReal)

/-- The raw score where the row is seen, `−∞` elsewhere. -/
def uK (k : Fin 4096) : EReal := if vis k then raw k else ⊥
/-- The largest score rounded up, as the kernel computes it. -/
def mK : EReal := Ideal.liftRound Int.ceil (Finset.univ.sup (uK raw vis) * (q * SC))
/-- The weight the kernel makes of a raw score, given the row's largest. -/
def wK (m u : EReal) : EReal :=
  bitE (u * (q * Ideal.ofBits FTy.f32 0x493504F3#32) - (m + Ideal.ofBits FTy.f32 0x43010000#32) * Ideal.ofBits FTy.f32 0x4B000000#32)

theorem c_pos (hq : 0 < q) : 0 < q * SC := by
  obtain ⟨r, hr, e, -⟩ := SC_pos
  rw [e]
  exact EReal.mul_pos hq (by exact_mod_cast hr)

theorem sc23 : q * Ideal.ofBits FTy.f32 0x493504F3#32 = q * SC * Ideal.ofBits FTy.f32 0x4B000000#32 := by
  obtain ⟨r, hr, e, e2⟩ := SC_pos
  rw [e, e2, w_mant, mul_assoc, ← EReal.coe_mul]

theorem mK_eq (hq : 0 < q) : mK raw vis q = mR (fun k => raw k * (q * SC)) vis := by
  unfold mK mR
  refine congrArg _ ?_
  have hc := c_pos q hq
  generalize q * SC = c at hc
  refine (Finset.comp_sup_eq_sup_comp (fun x : EReal => x * c) ?_ ?_).trans ?_
  · intro x y
    exact (show Monotone fun x : EReal => x * c from fun a b h => mul_le_mul_of_nonneg_right h hc.le).map_sup x y
  · exact EReal.bot_mul_of_pos hc
  · refine Finset.sup_congr rfl fun k _ => ?_
    show uK raw vis k * c = _
    unfold uK
    split_ifs
    · rfl
    · exact EReal.bot_mul_of_pos hc

theorem mR_ge (s : Fin 4096 → EReal) (k : Fin 4096) (h : vis k) : s k ≤ mR s vis := by
  have h1 : s k ≤ Finset.univ.sup fun k => if vis k then s k else ⊥ := by
    have := Finset.le_sup (f := fun k => if vis k then s k else ⊥) (Finset.mem_univ k)
    simpa [h] using this
  refine h1.trans ?_
  unfold mR
  generalize (Finset.univ.sup fun k => if vis k then s k else ⊥) = M
  induction M using EReal.rec with
  | bot => exact bot_le
  | top => exact le_top
  | coe x => exact EReal.coe_le_coe_iff.mpr (Int.le_ceil x)

theorem wK_bot (m : EReal) (hq : 0 < q) : wK q m ⊥ = 0 := by
  unfold wK
  have hb : (0 : EReal) < Ideal.ofBits FTy.f32 0x4B000000#32 := by rw [w_mant]; exact_mod_cast (by norm_num : (0 : ℝ) < 2 ^ 23)
  rw [sc23, EReal.bot_mul_of_pos (EReal.mul_pos (c_pos q hq) hb), EReal.bot_sub]
  exact bitE_bot

/-- A weight, and minus it. -/
theorem wK_pow (z m : EReal) (h : z ≤ m) :
    ∃ r : ℝ, 0 ≤ r ∧ pow2E (z - m) = r ∧ bitE (z * Ideal.ofBits FTy.f32 0x4B000000#32 - (m + Ideal.ofBits FTy.f32 0x43010000#32) * Ideal.ofBits FTy.f32 0x4B000000#32) = ((-r : ℝ) : EReal) := by
  have hb : (0 : EReal) < Ideal.ofBits FTy.f32 0x4B000000#32 := by rw [w_mant]; exact_mod_cast (by norm_num : (0 : ℝ) < 2 ^ 23)
  have h0 : ∀ y : EReal, z - m = ⊥ → y = ⊥ → ∃ r : ℝ, 0 ≤ r ∧ pow2E (z - m) = r ∧ bitE y = ((-r : ℝ) : EReal) := fun y e1 e2 =>
    ⟨0, le_rfl, by rw [e1, pow2E_bot]; rfl, by rw [e2, bitE_bot]; simp⟩
  induction z using EReal.rec with
  | bot =>
    refine h0 _ (EReal.bot_sub _) ?_
    rw [EReal.bot_mul_of_pos hb, EReal.bot_sub]
  | top =>
    obtain rfl := top_le_iff.mp h
    refine h0 _ (EReal.sub_top _) ?_
    rw [w_129, EReal.top_add_coe, EReal.top_mul_of_pos hb, EReal.sub_top]
  | coe x =>
    induction m using EReal.rec with
    | bot => exact absurd h (by simp)
    | top =>
      refine h0 _ (EReal.sub_top _) ?_
      rw [w_129, EReal.top_add_coe, EReal.top_mul_of_pos hb, EReal.sub_top]
    | coe y =>
      have hxy : x ≤ y := EReal.coe_le_coe_iff.mp h
      obtain ⟨r, h1, h2, h3⟩ := bit_pow (x - y) (by linarith)
      refine ⟨r, h1, by rw [← EReal.coe_sub]; exact h2, ?_⟩
      rw [← h3, w_129, w_mant, ← EReal.coe_mul, ← EReal.coe_add, ← EReal.coe_mul, ← EReal.coe_sub]
      congr 2; ring

/-- The weights of the row are nonnegative reals, and the kernel's are minus them. -/
theorem wK_eq (hq : 0 < q) : ∃ r : Fin 4096 → ℝ, (∀ k, 0 ≤ r k) ∧ (∀ k, pR (fun k => raw k * (q * SC)) vis k = r k)
    ∧ ∀ k, wK q (mK raw vis q) (uK raw vis k) = ((-(r k) : ℝ) : EReal) := by
  have key : ∀ k, ∃ r : ℝ, 0 ≤ r ∧ pR (fun k => raw k * (q * SC)) vis k = r ∧ wK q (mK raw vis q) (uK raw vis k) = ((-r : ℝ) : EReal) := fun k => by
    unfold pR uK
    by_cases h : vis k
    · simp only [if_pos h]
      rw [mK_eq raw vis q hq]
      unfold wK
      rw [sc23, show raw k * (q * SC * Ideal.ofBits FTy.f32 0x4B000000#32) = raw k * (q * SC) * Ideal.ofBits FTy.f32 0x4B000000#32 from (mul_assoc _ _ _).symm]
      exact wK_pow _ _ (mR_ge vis (fun k => raw k * (q * SC)) k h)
    · simp only [if_neg h]
      exact ⟨0, le_rfl, rfl, by rw [wK_bot q _ hq]; simp⟩
  choose r h1 h2 h3 using key
  exact ⟨r, h1, h2, h3⟩

theorem sum_coe (r : Fin 4096 → ℝ) : (∑ k, (r k : EReal)) = ((∑ k, r k : ℝ) : EReal) := by
  induction (Finset.univ : Finset (Fin 4096)) using Finset.cons_induction with
  | empty => simp
  | cons a t ha ih => rw [Finset.sum_cons, Finset.sum_cons, ih, EReal.coe_add]

/-- The sum of the weights. -/
theorem lK_eq (hq : 0 < q) : 0 - ∑ k, wK q (mK raw vis q) (uK raw vis k) = lR (fun k => raw k * (q * SC)) vis := by
  obtain ⟨r, h1, h2, h3⟩ := wK_eq raw vis q hq
  unfold lR
  rw [Finset.sum_congr rfl fun k _ => h3 k, Finset.sum_congr rfl fun k _ => h2 k, sum_coe (fun k => -(r k)), sum_coe r, Finset.sum_neg_distrib,
    EReal.coe_neg, zero_sub, neg_neg]

/-- One entry of the result. -/
theorem outK_eq (hq : 0 < q) :
    (∑ k, v k * wK q (mK raw vis q) (uK raw vis k)) * Ideal.div vs (∑ k, wK q (mK raw vis q) (uK raw vis k))
      = outR (fun k => raw k * (q * SC)) v vis vs := by
  obtain ⟨r, h1, h2, h3⟩ := wK_eq raw vis q hq
  unfold outR lR
  rw [Finset.sum_congr rfl fun k _ => congrArg (v k * ·) (h3 k), Finset.sum_congr rfl fun k _ => h3 k, Finset.sum_congr rfl fun k _ => h2 k,
    Finset.sum_congr rfl fun k _ => congrArg (fun z => (0 - z) * v k) (h2 k), sum_coe (fun k => -(r k)), sum_coe r, Finset.sum_neg_distrib]
  rw [Finset.sum_congr rfl fun k _ => show v k * ((-(r k) : ℝ) : EReal) = (0 - (r k : EReal)) * v k by rw [zero_sub, ← EReal.coe_neg, mul_comm]]
  by_cases h0 : ∑ k, r k = 0
  · have hr : ∀ k, r k = 0 := fun k => (Finset.sum_eq_zero_iff_of_nonneg fun k _ => h1 k).mp h0 k (Finset.mem_univ k)
    rw [Finset.sum_eq_zero fun k _ => by rw [hr k]; simp]
    simp
  · rw [Ideal.div_coe (neg_ne_zero.mpr h0), Ideal.div_coe h0, zero_sub, show (1 / -(∑ k, r k) : ℝ) = -(1 / ∑ k, r k) by rw [div_neg], EReal.coe_neg, mul_neg, mul_neg]; exact (EReal.neg_mul _ _).symm
end Cert.Col
-- ==== Proof.M.Segs.lean ====
module
public import proofs.«01_k».proof.Proof.I.Table
public import proofs.«01_k».proof.Proof.Col
@[expose] public section
/-!
# Same document, read off the document starts

Where segment ids do not decrease, a row at or before `p` has `p`'s segment id exactly when it lies at or after `p`'s document start.
-/
set_option maxRecDepth 16384
noncomputable section
namespace Cert.KernelIdeal.Gen
open Idealize.ShloMosaic

variable (x : IVec S4x4096 32) (b : Fin 4)

/-- The document start of a row. -/
def dStart (p : Fin 4096) : ℕ := (hStart x (ix2 b p)).toNat

theorem dStart_le (p : Fin 4096) : dStart x b p ≤ p.val := (hStart_le x b p).2
theorem dStart_toInt (p : Fin 4096) : (hStart x (ix2 b p)).toInt = dStart x b p := by
  have h := dStart_le x b p
  have hp := p.isLt
  unfold dStart at *
  exact BitVec.toInt_eq_toNat_of_lt (by omega)

theorem dStart_mono (p q : Fin 4096) (h : p.val ≤ q.val) : dStart x b p ≤ dStart x b q := by
  obtain ⟨⟨t, ht, e⟩, -⟩ := hStart_spec x b p
  have h2 := (hStart_spec x b q).2 t (by omega)
  rw [← e, dStart_toInt, dStart_toInt] at h2
  exact_mod_cast h2

/-- A row after the start has the id of the row before it. -/
theorem same_prev (p t : Fin 4096) (h : dStart x b p < t.val) (h' : t.val ≤ p.val) : x (ix2 b t) = x (ix2 b (prevRow t)) := by
  by_contra hn
  have h2 := (hStart_spec x b p).2 t h'
  rw [hMark_at, if_neg hn, dStart_toInt, toInt_small _ t.isLt] at h2
  omega

theorem same_of (p k : Fin 4096) (h : dStart x b p ≤ k.val) : ∀ q : ℕ, k.val ≤ q → ∀ hq : q ≤ p.val, x (ix2 b ⟨q, by omega⟩) = x (ix2 b k) := by
  intro q hk
  induction q, hk using Nat.le_induction with
  | base => intro _; rfl
  | succ q hk ih =>
    intro hq
    rw [same_prev x b p ⟨q + 1, by omega⟩ (by show _ < q + 1; omega) hq]
    exact ih (by omega)

variable (hx : ∀ (t : ℕ) (ht : t + 1 < 4096), (x (ix2 b ⟨t, Nat.lt_of_succ_lt ht⟩)).toInt ≤ (x (ix2 b ⟨t + 1, ht⟩)).toInt)
include hx

theorem mono_of (a : Fin 4096) : ∀ q : ℕ, a.val ≤ q → ∀ hq : q < 4096, (x (ix2 b a)).toInt ≤ (x (ix2 b ⟨q, hq⟩)).toInt := by
  intro q hk
  induction q, hk using Nat.le_induction with
  | base => intro _; exact le_rfl
  | succ q hk ih => intro hq; exact (ih (by omega)).trans (hx q hq)

/-- The same id, exactly from the start on. -/
theorem same_iff (p k : Fin 4096) (hk : k.val ≤ p.val) : x (ix2 b p) = x (ix2 b k) ↔ dStart x b p ≤ k.val := by
  constructor
  · intro e
    by_contra hn
    rw [not_le] at hn
    obtain ⟨⟨t, ht, et⟩, -⟩ := hStart_spec x b p
    rw [hMark_at] at et
    by_cases hc : x (ix2 b t) = x (ix2 b (prevRow t))
    · rw [if_pos hc] at et
      unfold dStart at hn
      rw [et] at hn
      simp at hn
    · rw [if_neg hc] at et
      have eT : dStart x b p = t.val := by
        unfold dStart
        rw [et, BitVec.toNat_ofNat, Nat.mod_eq_of_lt (by omega)]
      have h1 := mono_of x b hx k (t.val - 1) (by omega) (by omega)
      have h2 := mono_of x b hx t p.val ht p.isLt
      have h3 := mono_of x b hx (prevRow t) t.val (by show t.val - 1 ≤ _; omega) t.isLt
      have h4 : (x (ix2 b k)).toInt ≤ (x (ix2 b (prevRow t))).toInt := h1
      have h5 : (x (ix2 b t)).toInt ≤ (x (ix2 b p)).toInt := h2
      have h6 : (x (ix2 b (prevRow t))).toInt ≤ (x (ix2 b t)).toInt := h3
      rw [e] at h5
      exact hc (BitVec.eq_of_toInt_eq (by omega))
  · intro h
    exact same_of x b p k h p.val hk le_rfl

omit hx
/-- The number of seen rows. -/
theorem nR_count (vis : Fin 4096 → Prop) [DecidablePred vis] (T : ℕ) (p : Fin 4096) (hT : T ≤ p.val) (h : ∀ k, vis k ↔ T ≤ k.val ∧ k.val ≤ p.val) :
    Cert.Col.nR vis = IntOp.addi (IntOp.subi (BitVec.ofNat 32 p.val) (BitVec.ofNat 32 T)) 1#32 := by
  have key : ∀ s : Finset (Fin 4096), s.fold IntOp.addi 0#32 (fun k => if vis k then 1#32 else 0#32) = BitVec.ofNat 32 (s.filter vis).card := by
    intro s
    induction s using Finset.cons_induction with
    | empty => rfl
    | cons a t ha ih =>
      rw [Finset.fold_cons, ih, Finset.filter_cons]
      by_cases hv : vis a
      · rw [if_pos hv, if_pos hv, Finset.card_cons, add_comm, BitVec.ofNat_add]; rfl
      · rw [if_neg hv, if_neg hv]; exact BitVec.zero_add _
  unfold Cert.Col.nR
  rw [key, show Finset.univ.filter vis = Finset.Icc (⟨T, by omega⟩ : Fin 4096) p from by
    ext k
    rw [Finset.mem_filter, Finset.mem_Icc, h k]
    exact ⟨fun a => ⟨a.2.1, a.2.2⟩, fun a => ⟨Finset.mem_univ _, a.1, a.2⟩⟩, Fin.card_Icc]
  have hp := p.isLt
  refine BitVec.eq_of_toNat_eq ?_
  simp only [IntOp.addi, IntOp.subi, BitVec.toNat_add, BitVec.toNat_sub, BitVec.toNat_ofNat]
  omega
end Cert.KernelIdeal.Gen
-- ==== Proof.M.Blk.lean ====
module
public import proofs.«01_k».proof.Proof.I.Blocks
public import proofs.«01_k».proof.Proof.M.Windows
public import proofs.«01_k».proof.Proof.M.Row
public import proofs.«01_k».proof.Proof.M.Segs
@[expose] public section
/-!
# The blocks a grid point writes, as rows of the reference
-/
set_option maxRecDepth 16384
noncomputable section
namespace Cert.KernelIdeal.Gen
open Idealize.ShloMosaic Idealize.ShloMosaic.TcCoe Idealize.ShloMosaic.Tactic Idealize.SL Idealize.SL.Sem
open Cert

theorem pay72_apply (x1 : Vec Ideal S1x1x1x1x1024 .f32) (M : Vec Ideal S1x1024 .f32) (j : Fin 1024) :
    (k0_pay72 x1 M (ix2 0 j) : EReal) = Ideal.liftRound Int.ceil ((M (ix2 0 j) : EReal) * (x1 (ix5 0 0 0 0 j) * Col.SC)) := by
  unfold k0_pay72 k0_pay71 Col.SC
  pointwise
theorem pay73_apply (x1 : Vec Ideal S1x1x1x1x1024 .f32) (M : Vec Ideal S1x1024 .f32) (j : Fin 1024) :
    (k0_pay73 x1 M (ix2 0 j) : EReal) = ((k0_pay72 x1 M (ix2 0 j) : EReal) + Ideal.ofBits FTy.f32 0x43010000#32) * Ideal.ofBits FTy.f32 0x4B000000#32 := by
  unfold k0_pay73
  pointwise
theorem pay74_apply (x1 : Vec Ideal S1x1x1x1x1024 .f32) (j : Fin 1024) :
    (k0_pay74 x1 (ix2 0 j) : EReal) = (x1 (ix5 0 0 0 0 j) : EReal) * Ideal.ofBits FTy.f32 0x493504F3#32 := by
  unfold k0_pay74 k0_pay71
  pointwise

variable (x0 : Vec Ideal S1x128x8x128 .fp8e4m3) (x1 : Vec Ideal S1x1x1x1x1024 .f32) (x2 : Vec Ideal S1x1x1x1024 .i32)
  (x3 : Vec Ideal S1x1x4096x128 .fp8e4m3) (x4 : Vec Ideal S1x1x4096x1 .f32) (x5 : Vec Ideal S1x1x4096x128 .fp8e4m3) (x6 : Vec Ideal S4x2 .f32)
  (i : grid0.Coords) (w : ℕ) (j : Fin 1024)

/-- The scores of a column. -/
def sB (k : Fin 4096) : EReal := rawF x0 x3 x4 k j * (x1 (ix5 0 0 0 0 j) * Col.SC)

section
variable (hw : w ≤ dsX x2 j)
include hw

/-- The largest raw score of a column, over all rows it sees. -/
theorem mV_row : (mV x0 x2 x3 x4 i w (ix2 0 j) : EReal) = Finset.univ.sup (Col.uK (fun k => rawF x0 x3 x4 k j) (visW (blk i) (dsX x2) j)) :=
  sup_win (blk i) (dsX x2) j w hw fun k => rawF x0 x3 x4 k j

theorem pay72_row : (k0_pay72 x1 (mV x0 x2 x3 x4 i w) (ix2 0 j) : EReal)
    = Col.mK (fun k => rawF x0 x3 x4 k j) (visW (blk i) (dsX x2) j) (x1 (ix5 0 0 0 0 j)) := by
  rw [pay72_apply, mV_row x0 x2 x3 x4 i w j hw]
  rfl

theorem pF_row (u : EReal) : pF x1 (mV x0 x2 x3 x4 i w) u j
    = Col.wK (x1 (ix5 0 0 0 0 j)) (Col.mK (fun k => rawF x0 x3 x4 k j) (visW (blk i) (dsX x2) j) (x1 (ix5 0 0 0 0 j))) u := by
  unfold pF Col.wK Col.bitE
  rw [pay74_apply, pay73_apply, pay72_row x0 x1 x2 x3 x4 i w j hw]

variable (hq : (0 : EReal) < x1 (ix5 0 0 0 0 j))
include hq

theorem sum_row (f : Fin 4096 → EReal) :
    (∑ s ∈ Finset.range (nTrips (i 2).val w), ∑ r : Fin 256, f (rowF (blk i) s r) * pF x1 (mV x0 x2 x3 x4 i w) (uF x0 x3 x4 (blk i) (dsX x2) s r j) j)
      = ∑ k, f k * Col.wK (x1 (ix5 0 0 0 0 j)) (Col.mK (fun k => rawF x0 x3 x4 k j) (visW (blk i) (dsX x2) j) (x1 (ix5 0 0 0 0 j)))
          (Col.uK (fun k => rawF x0 x3 x4 k j) (visW (blk i) (dsX x2) j) k) := by
  have h := sum_win (blk i) (dsX x2) j w hw fun k => f k * Col.wK (x1 (ix5 0 0 0 0 j)) (Col.mK (fun k => rawF x0 x3 x4 k j) (visW (blk i) (dsX x2) j) (x1 (ix5 0 0 0 0 j))) (rawF x0 x3 x4 k j)
  refine (Eq.trans ?_ h).trans (Finset.sum_congr rfl fun k _ => ?_)
  · refine Finset.sum_congr rfl fun s _ => Finset.sum_congr rfl fun r _ => ?_
    rw [pF_row x0 x1 x2 x3 x4 i w j hw]
    unfold uF
    by_cases hv : visF (blk i) (dsX x2) s r j
    · rw [if_pos hv, if_pos hv]
    · rw [if_neg hv, if_neg hv, Col.wK_bot _ _ hq, mul_zero]
  · unfold Col.uK
    by_cases hv : visW (blk i) (dsX x2) j k
    · rw [if_pos hv, if_pos hv]
    · rw [if_neg hv, if_neg hv, Col.wK_bot _ _ hq, mul_zero]

theorem lF_row : lF x0 x1 x2 x3 x4 i w j
    = ∑ k, Col.wK (x1 (ix5 0 0 0 0 j)) (Col.mK (fun k => rawF x0 x3 x4 k j) (visW (blk i) (dsX x2) j) (x1 (ix5 0 0 0 0 j)))
          (Col.uK (fun k => rawF x0 x3 x4 k j) (visW (blk i) (dsX x2) j) k) := by
  have h := sum_row x0 x1 x2 x3 x4 i w j hw hq fun _ => 1
  simp only [one_mul] at h
  exact h

theorem aF_row (d : Fin 128) : aF x0 x1 x2 x3 x4 x5 i w d j
    = ∑ k, (x5 (ix4 0 0 k d) : EReal) * Col.wK (x1 (ix5 0 0 0 0 j)) (Col.mK (fun k => rawF x0 x3 x4 k j) (visW (blk i) (dsX x2) j) (x1 (ix5 0 0 0 0 j)))
          (Col.uK (fun k => rawF x0 x3 x4 k j) (visW (blk i) (dsX x2) j) k) :=
  sum_row x0 x1 x2 x3 x4 i w j hw hq fun k => x5 (ix4 0 0 k d)

/-- An entry of the first result. -/
theorem out8_row (d : Fin 128) : aF x0 x1 x2 x3 x4 x5 i w d j * Ideal.div (x6 (ix2 (i 0) (i 1))) (lF x0 x1 x2 x3 x4 i w j)
    = Col.outR (sB x0 x1 x3 x4 j) (fun k => x5 (ix4 0 0 k d)) (visW (blk i) (dsX x2) j) (x6 (ix2 (i 0) (i 1))) := by
  rw [aF_row x0 x1 x2 x3 x4 x5 i w j hw hq, lF_row x0 x1 x2 x3 x4 i w j hw hq]
  exact Col.outK_eq (fun k => rawF x0 x3 x4 k j) (fun k => x5 (ix4 0 0 k d)) (visW (blk i) (dsX x2) j) (x1 (ix5 0 0 0 0 j)) _ hq

/-- An entry of the second result. -/
theorem out9_row (hd : dsX x2 j ≤ (i 2).val * 128 + j.val / 8) (a b c d : Fin 1) : (out9F i w x0 x1 x2 x3 x4 x5 x6 (ix5 a b c d j) : EReal)
    = Col.lseR (sB x0 x1 x3 x4 j) (visW (blk i) (dsX x2) j) := by
  have hi : (i 2).val < 32 := i2_lt i
  have hj := j.isLt
  show (k0_pay72 x1 (mV x0 x2 x3 x4 i w) (ix2 0 j) : EReal) + Ideal.div (Ideal.log (0 - lF x0 x1 x2 x3 x4 i w j)) (Ideal.log (Ideal.ofBits FTy.f32 1073741824#32))
    - Ideal.div (Ideal.log (FloatOps.sitofp (F := Ideal) FTy.f32 (IntOp.addi (IntOp.subi (BitVec.ofNat 32 ((i 2).val * 128 + j.val / 8)) (x2 (ix4 0 0 0 j))) 1#32))) (Ideal.log (Ideal.ofBits FTy.f32 1073741824#32)) = _
  unfold Col.lseR
  rw [lF_row x0 x1 x2 x3 x4 i w _ hw hq, pay72_row x0 x1 x2 x3 x4 i w _ hw, Col.lK_eq _ _ _ hq, Col.mK_eq _ _ _ hq,
    nR_count (visW (blk i) (dsX x2) j) (dsX x2 j) ⟨(i 2).val * 128 + j.val / 8, by omega⟩ hd (fun k => Iff.rfl)]
  rw [show BitVec.ofNat 32 (dsX x2 j) = x2 (ix4 0 0 0 j) from of_toNat _]
  rfl
end
end Cert.KernelIdeal.Gen
-- ==== Proof.M.Spec.lean ====
module
public import proofs.«01_k».proof.Proof.Col
@[expose] public section
/-!
# The two results, entry by entry, as functions of the arguments
-/
noncomputable section
namespace Cert.Col
open Idealize.ShloMosaic

/-- The score of key row `k` for the query at row `p` and head `H`. -/
def sS (q : Vec Ideal ⟨4, ![4, 4096, 16, 128]⟩ .fp8e4m3) (qs : Vec Ideal ⟨3, ![4, 4096, 16]⟩ .f32) (k : Vec Ideal ⟨4, ![4, 4096, 2, 128]⟩ .fp8e4m3)
    (ks : Vec Ideal ⟨3, ![4, 4096, 2]⟩ .f32) (b : Fin 4) (p : Fin 4096) (H : Fin 16) (r : Fin 4096) : EReal :=
  (∑ d : Fin 128, (q (ix4 b p H d) : EReal) * k (ix4 b r ⟨H.val / 8, by omega⟩ d)) * qs (ix3 b p H) * ks (ix3 b r ⟨H.val / 8, by omega⟩) * SC

/-- Whether row `p` sees row `r`: it is not later, and of the same segment. -/
def visS (seg : Vec Ideal ⟨2, ![4, 4096]⟩ .i32) (b : Fin 4) (p r : Fin 4096) : Prop := r.val ≤ p.val ∧ (seg (ix2 b p) : BitVec 32) = seg (ix2 b r)

instance (seg : Vec Ideal ⟨2, ![4, 4096]⟩ .i32) (b : Fin 4) (p : Fin 4096) : DecidablePred (visS seg b p) := fun r => by unfold visS; infer_instance

/-- An entry of the first result. -/
def outS (q : Vec Ideal ⟨4, ![4, 4096, 16, 128]⟩ .fp8e4m3) (qs : Vec Ideal ⟨3, ![4, 4096, 16]⟩ .f32) (k : Vec Ideal ⟨4, ![4, 4096, 2, 128]⟩ .fp8e4m3)
    (ks : Vec Ideal ⟨3, ![4, 4096, 2]⟩ .f32) (v : Vec Ideal ⟨4, ![4, 4096, 2, 128]⟩ .fp8e4m3) (vs : Vec Ideal ⟨2, ![4, 2]⟩ .f32)
    (seg : Vec Ideal ⟨2, ![4, 4096]⟩ .i32) (b : Fin 4) (p : Fin 4096) (H : Fin 16) (d : Fin 128) : EReal :=
  outR (sS q qs k ks b p H) (fun r => v (ix4 b r ⟨H.val / 8, by omega⟩ d)) (visS seg b p) (vs (ix2 b ⟨H.val / 8, by omega⟩))

/-- An entry of the second result. -/
def lseS (q : Vec Ideal ⟨4, ![4, 4096, 16, 128]⟩ .fp8e4m3) (qs : Vec Ideal ⟨3, ![4, 4096, 16]⟩ .f32) (k : Vec Ideal ⟨4, ![4, 4096, 2, 128]⟩ .fp8e4m3)
    (ks : Vec Ideal ⟨3, ![4, 4096, 2]⟩ .f32) (seg : Vec Ideal ⟨2, ![4, 4096]⟩ .i32) (b : Fin 4) (p : Fin 4096) (H : Fin 16) : EReal :=
  lseR (sS q qs k ks b p H) (visS seg b p)

theorem outR_congr {s s' v v' : Fin 4096 → EReal} {vis vis' : Fin 4096 → Prop} [i : DecidablePred vis] [i' : DecidablePred vis'] {vs vs' : EReal}
    (hs : ∀ k, s k = s' k) (hv : ∀ k, v k = v' k) (h : ∀ k, vis k ↔ vis' k) (hvs : vs = vs') : outR s v vis vs = outR s' v' vis' vs' := by
  obtain rfl := funext hs
  obtain rfl := funext hv
  obtain rfl : vis = vis' := funext fun k => propext (h k)
  obtain rfl := hvs
  obtain rfl := Subsingleton.elim i i'
  rfl

theorem lseR_congr {s s' : Fin 4096 → EReal} {vis vis' : Fin 4096 → Prop} [i : DecidablePred vis] [i' : DecidablePred vis']
    (hs : ∀ k, s k = s' k) (h : ∀ k, vis k ↔ vis' k) : lseR s vis = lseR s' vis' := by
  obtain rfl := funext hs
  obtain rfl : vis = vis' := funext fun k => propext (h k)
  obtain rfl := Subsingleton.elim i i'
  rfl
end Cert.Col
-- ==== Proof.I.RunV.lean ====
/- The body's run at the ideal reading, the two output blocks named: on whole staging memrefs it reads its inputs, leaves them as
   they were, and hands back the outputs at `out8F` and `out9F`. -/
module

public import proofs.«01_k».proof.Proof.I.Blocks

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 4000000 in
theorem kernelRunV (c : Dev nD) (i : grid0.Coords) (arg4 : Memref sig .tc .vmem S1x128x8x128 .fp8e4m3) (harg4 : arg4.IsWhole) (arg5 : Memref sig .tc .vmem S1x1x1x1x1024 .f32) (harg5 : arg5.IsWhole) (arg6 : Memref sig .tc .vmem S1x1x1x1024 .i32) (harg6 : arg6.IsWhole) (arg7 : Memref sig .tc .vmem S1x1x4096x128 .fp8e4m3) (harg7 : arg7.IsWhole) (arg8 : Memref sig .tc .vmem S1x1x4096x1 .f32) (harg8 : arg8.IsWhole) (arg9 : Memref sig .tc .vmem S1x1x4096x128 .fp8e4m3) (harg9 : arg9.IsWhole) (arg10 : Memref sig .tc .smem S4x2 .f32) (harg10 : arg10.IsWhole) (arg11 : Memref sig .tc .vmem S1x128x8x128 .bf16) (harg11 : arg11.IsWhole) (arg12 : Memref sig .tc .vmem S1x1x1x1x1024 .f32) (harg12 : arg12.IsWhole) (arg13 : Memref sig .tc .vmem S17x256x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S128x1024 .f32) (harg16 : arg16.IsWhole)
    (x0 : Vec Ideal S1x128x8x128 .fp8e4m3) (x1 : Vec Ideal S1x1x1x1x1024 .f32) (x2 : Vec Ideal S1x1x1x1024 .i32) (x3 : Vec Ideal S1x1x4096x128 .fp8e4m3) (x4 : Vec Ideal S1x1x4096x1 .f32) (x5 : Vec Ideal S1x1x4096x128 .fp8e4m3) (x6 : Vec Ideal S4x2 .f32) (xt0 : TbBuf0 (F := Ideal) c tbM0_0) (hw : k0_chk1 i (word0 c i xt0))
    (hwl : (word0 c i xt0 : BitVec 32).toNat ≤ (i 2).val * 128) (hds : ∀ j, dsX x2 j < 4096) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare (out8F i (word0 c i xt0 : BitVec 32).toNat x0 x1 x2 x3 x4 x5 x6) ∗ owns (c : Thread nD τ) arg12 fullShare (out9F i (word0 c i xt0 : BitVec 32).toNat x0 x1 x2 x3 x4 x5 x6) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0) -∗ K ⟨⟩))
          ⊢ wp frame (wpE (defs₀ (F := Ideal)) Variants.none c none) E (cc0__attend i tbM0_0 htbM0_0 arg4 harg4 arg5 harg5 arg6 harg6 arg7 harg7 arg8 harg8 arg9 harg9 arg10 harg10 arg11 harg11 arg12 harg12 arg13 harg13 arg14 harg14 arg15 harg15 arg16 harg16) K := by
    intro E K
    simp only [cc0__attend_eq_skeleton]; unfold cc0__attend_skel
    unfold owns
    iintro ⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, HT0, Hk⟩
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    sl_exec (disch := exact hw)
    sl_step
    iapply Hk
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; swap; · iexact H11
      ipureintro
      refine (View.read_writes_full _ _ _ _ _).trans ?_
      exact out8_eq c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 xt0 hw f13 hwl hds
    isplitl [H12]
    · iexists _; isplitr; swap; · iexact H12
      ipureintro
      refine (View.read_writes_full _ _ _ _ _).trans ?_
      exact out9_eq c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 xt0 hw f13 hwl hds
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    iexact HT0

end Cert.KernelIdeal.Gen

end
-- ==== Proof.I.FrameV.lean ====
/- The run of the kernel at the ideal reading with its two outputs named: the proof data of its pipeline, the body's obligation at
   every point, and the run of @main. -/
module

public import proofs.«01_k».proof.Proof.I.RunV
public import proofs.«01_k».proof.Proof.I.Table
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
/-- The word a grid point takes from the table, as a number. -/
abbrev wordN (c : Dev nD) (i : grid0.Coords) : ℕ := (word0 (F := Ideal) c i (tbl m 0) : BitVec 32).toNat

/-- What the values below need of the words: the table's word lies before the block, and every column's document start is a row. -/
def HypsV (hO : Ok m) : Prop := ∀ (c : Dev nD) (t : Fin (cfgM m hO).N), wordN m c (grid0.coords t) ≤ ((grid0.coords t) 2).val * 128 ∧ ∀ j, dsX (iblk m hO c 2 t) j < 4096

def datsV (hO : Ok m) (_ : Fin 1) (c : Dev nD) : Dat τ (Elt Ideal) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => out8F (grid0.coords t) (wordN m c (grid0.coords t)) (iblk m hO c 0 t) (iblk m hO c 1 t) (iblk m hO c 2 t) (iblk m hO c 3 t) (iblk m hO c 4 t) (iblk m hO c 5 t) (iblk m hO c 6 t)
    | ⟨8, _⟩ => out9F (grid0.coords t) (wordN m c (grid0.coords t)) (iblk m hO c 0 t) (iblk m hO c 1 t) (iblk m hO c 2 t) (iblk m hO c 3 t) (iblk m hO c 4 t) (iblk m hO c 5 t) (iblk m hO c 6 t)
  Φ _ := iprop(Pipeline.ΦA spec0 c ∗ Pipeline.ΦT pre0 (tbl m) c)
  q _ := fullShare
  owed _ := 0

theorem A_eqV (hO : Ok m) (c : Dev nD) (w : Fin (cfgM m hO).W) : (datsV m hO 0 c).A w = V m c (Pipeline.arrRef spec0 w) := by
  dsimp only [datsV]

theorem after0_0V (hO : Ok m) (c : Dev nD) (t : Fin (cfgM m hO).N) : (datsV m hO 0 c).after 0 t = iblk m hO c 0 t := by dsimp only [datsV]; try rfl
theorem before0_0V (hO : Ok m) (c : Dev nD) (t : Fin (cfgM m hO).N) (d) : (datsV m hO 0 c).before 0 t d = iblk m hO c 0 t :=
  before0_0_of m hO (datsV m hO 0 c) (A_eqV m hO c 0) (after0_0V m hO c) t d
theorem after0_1V (hO : Ok m) (c : Dev nD) (t : Fin (cfgM m hO).N) : (datsV m hO 0 c).after 1 t = iblk m hO c 1 t := by dsimp only [datsV]; try rfl
theorem before0_1V (hO : Ok m) (c : Dev nD) (t : Fin (cfgM m hO).N) (d) : (datsV m hO 0 c).before 1 t d = iblk m hO c 1 t :=
  before0_1_of m hO (datsV m hO 0 c) (A_eqV m hO c 1) (after0_1V m hO c) t d
theorem after0_2V (hO : Ok m) (c : Dev nD) (t : Fin (cfgM m hO).N) : (datsV m hO 0 c).after 2 t = iblk m hO c 2 t := by dsimp only [datsV]; try rfl
theorem before0_2V (hO : Ok m) (c : Dev nD) (t : Fin (cfgM m hO).N) (d) : (datsV m hO 0 c).before 2 t d = iblk m hO c 2 t :=
  before0_2_of m hO (datsV m hO 0 c) (A_eqV m hO c 2) (after0_2V m hO c) t d
theorem after0_3V (hO : Ok m) (c : Dev nD) (t : Fin (cfgM m hO).N) : (datsV m hO 0 c).after 3 t = iblk m hO c 3 t := by dsimp only [datsV]; try rfl
theorem before0_3V (hO : Ok m) (c : Dev nD) (t : Fin (cfgM m hO).N) (d) : (datsV m hO 0 c).before 3 t d = iblk m hO c 3 t :=
  before0_3_of m hO (datsV m hO 0 c) (A_eqV m hO c 3) (after0_3V m hO c) t d
theorem after0_4V (hO : Ok m) (c : Dev nD) (t : Fin (cfgM m hO).N) : (datsV m hO 0 c).after 4 t = iblk m hO c 4 t := by dsimp only [datsV]; try rfl
theorem before0_4V (hO : Ok m) (c : Dev nD) (t : Fin (cfgM m hO).N) (d) : (datsV m hO 0 c).before 4 t d = iblk m hO c 4 t :=
  before0_4_of m hO (datsV m hO 0 c) (A_eqV m hO c 4) (after0_4V m hO c) t d
theorem after0_5V (hO : Ok m) (c : Dev nD) (t : Fin (cfgM m hO).N) : (datsV m hO 0 c).after 5 t = iblk m hO c 5 t := by dsimp only [datsV]; try rfl
theorem before0_5V (hO : Ok m) (c : Dev nD) (t : Fin (cfgM m hO).N) (d) : (datsV m hO 0 c).before 5 t d = iblk m hO c 5 t :=
  before0_5_of m hO (datsV m hO 0 c) (A_eqV m hO c 5) (after0_5V m hO c) t d
theorem after0_6V (hO : Ok m) (c : Dev nD) (t : Fin (cfgM m hO).N) : (datsV m hO 0 c).after 6 t = iblk m hO c 6 t := by dsimp only [datsV]; try rfl
theorem before0_6V (hO : Ok m) (c : Dev nD) (t : Fin (cfgM m hO).N) (d) : (datsV m hO 0 c).before 6 t d = iblk m hO c 6 t :=
  before0_6_of m hO (datsV m hO 0 c) (A_eqV m hO c 6) (after0_6V m hO c) t d

theorem after0_7V (hO : Ok m) (c : Dev nD) (t : Fin (cfgM m hO).N) : (datsV m hO 0 c).after 7 t = out8F (grid0.coords t) (wordN m c (grid0.coords t)) (iblk m hO c 0 t) (iblk m hO c 1 t) (iblk m hO c 2 t) (iblk m hO c 3 t) (iblk m hO c 4 t) (iblk m hO c 5 t) (iblk m hO c 6 t) := by dsimp only [datsV]; try rfl
theorem after0_8V (hO : Ok m) (c : Dev nD) (t : Fin (cfgM m hO).N) : (datsV m hO 0 c).after 8 t = out9F (grid0.coords t) (wordN m c (grid0.coords t)) (iblk m hO c 0 t) (iblk m hO c 1 t) (iblk m hO c 2 t) (iblk m hO c 3 t) (iblk m hO c 4 t) (iblk m hO c 5 t) (iblk m hO c 6 t) := by dsimp only [datsV]; try rfl

def bodyPreV (hO : Ok m) (c : Dev nD) (t : Fin (cfgM m hO).N) : sProp 𝕄 :=
  iprop((datsV m hO 0 c).Φ t.castSucc ∗ (datsV m hO 0 c).owesAt () t.castSucc
    ∗ (∃ d, owns (c : Thread nD τ) (ms0_0 m hO t) fullShare ((datsV m hO 0 c).before 0 t d))
    ∗ (∃ d, owns (c : Thread nD τ) (ms0_1 m hO t) fullShare ((datsV m hO 0 c).before 1 t d))
    ∗ (∃ d, owns (c : Thread nD τ) (ms0_2 m hO t) fullShare ((datsV m hO 0 c).before 2 t d))
    ∗ (∃ d, owns (c : Thread nD τ) (ms0_3 m hO t) fullShare ((datsV m hO 0 c).before 3 t d))
    ∗ (∃ d, owns (c : Thread nD τ) (ms0_4 m hO t) fullShare ((datsV m hO 0 c).before 4 t d))
    ∗ (∃ d, owns (c : Thread nD τ) (ms0_5 m hO t) fullShare ((datsV m hO 0 c).before 5 t d))
    ∗ (∃ d, owns (c : Thread nD τ) (ms0_6 m hO t) fullShare ((datsV m hO 0 c).before 6 t d))
    ∗ (∃ d, owns (c : Thread nD τ) (ms0_7 m hO t) fullShare ((datsV m hO 0 c).before 7 t d))
    ∗ (∃ d, owns (c : Thread nD τ) (ms0_8 m hO t) fullShare ((datsV m hO 0 c).before 8 t d)))

def bodyPostV (hO : Ok m) (c : Dev nD) (t : Fin (cfgM m hO).N) : sProp 𝕄 :=
  iprop((datsV m hO 0 c).Φ t.succ ∗ (datsV m hO 0 c).owesAt () t.succ
    ∗ owns (c : Thread nD τ) (ms0_0 m hO t) fullShare ((datsV m hO 0 c).after 0 t)
    ∗ owns (c : Thread nD τ) (ms0_1 m hO t) fullShare ((datsV m hO 0 c).after 1 t)
    ∗ owns (c : Thread nD τ) (ms0_2 m hO t) fullShare ((datsV m hO 0 c).after 2 t)
    ∗ owns (c : Thread nD τ) (ms0_3 m hO t) fullShare ((datsV m hO 0 c).after 3 t)
    ∗ owns (c : Thread nD τ) (ms0_4 m hO t) fullShare ((datsV m hO 0 c).after 4 t)
    ∗ owns (c : Thread nD τ) (ms0_5 m hO t) fullShare ((datsV m hO 0 c).after 5 t)
    ∗ owns (c : Thread nD τ) (ms0_6 m hO t) fullShare ((datsV m hO 0 c).after 6 t)
    ∗ owns (c : Thread nD τ) (ms0_7 m hO t) fullShare ((datsV m hO 0 c).after 7 t)
    ∗ owns (c : Thread nD τ) (ms0_8 m hO t) fullShare ((datsV m hO 0 c).after 8 t))

set_option maxHeartbeats 1000000 in
theorem sound_bodyV (hO : Ok m) (hH : Hyps m) (hV : HypsV m hO) (c : Dev nD) (t : Fin (cfgM m hO).N) :
    bodyPreV m hO c t ⊢ wp Idealize.ShloMosaic.frame (wpE (defs₀ (F := Ideal)) Variants.none c none) Set.univ (bodyAt0 (adm m hO) t) (fun _ => bodyPostV m hO c t) := by
  unfold bodyPreV bodyPostV bodyAt0
  simp only [before0_0V, before0_1V, before0_2V, before0_3V, before0_4V, before0_5V, before0_6V]
  rw [show (datsV m hO 0 c).Φ t.succ = (datsV m hO 0 c).Φ t.castSucc from rfl,
    show (datsV m hO 0 c).owesAt () t.succ = (datsV m hO 0 c).owesAt () t.castSucc from rfl,
    after0_0V, after0_1V, after0_2V, after0_3V, after0_4V, after0_5V, after0_6V, after0_7V, after0_8V]
  rw [show (datsV m hO 0 c).Φ t.castSucc = iprop(Pipeline.ΦA spec0 c ∗ Pipeline.ΦT pre0 (tbl m) c) from rfl, PhiT0_eq, PhiA0_eq]
  iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRunV c (grid0.coords t) _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (hH c _) (hV c t).1 (hV c t).2) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  isplitl [HT0]; · iexact HT0
  iintro ⟨H0, H1, H2, H3, H4, H5, H6, H7, H8, HS0, HS1, HS2, HS3, HT0⟩
  isplitl [HS0 HS1 HS2 HS3 Hg HT0]
  · isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_rowV (hO : Ok m) (t : Fin (cfgM m hO).N) :
    defs₀ (F := Ideal) .tc (cfgM m hO).body ((cfgM m hO).bodyArgs t ((cfgM m hO).slots t)) = bodyAt0 (adm m hO) t := by
  unfold defs₀; rw [Defs.onTc_tc]

theorem body_obligationV (hO : Ok m) (hH : Hyps m) (hV : HypsV m hO) (c : Dev nD) : BodyObligation (datsV m hO 0 c) (defs₀ (F := Ideal)) Variants.none () Set.univ := fun t => by
  rw [bigSep_W0, bigSep_W0, defs₀_rowV m hO]
  exact triple_restated (sound_bodyV m hO hH hV c t) rfl .rfl fun _ => .rfl

/-! ## The run and the frame -/

-- `θ_run_frameP_around_T_forget`'s implicit arguments are found by unifying its conclusion with this one, which takes unfolding plain
-- definitions in a metavariable's type
set_option backward.isDefEq.respectTransparency.types false in
set_option maxHeartbeats 800000 in
theorem run_main_quiescentV (hO : Ok m) (hH : Hyps m) (hV : HypsV m hO) : θ_run defs (onTc (τ := τ) (main (F := Ideal))) (s₀ m ρ) (fun r => Pipeline.FramePost (Pipeline.pin pcfgs fun _ => adm m hO) (datsV m hO) 0 (Pipeline.afterTail pcfgs (fun _ => adm m hO) (datsV m hO) 0 (V0 m) [hostOps1]) r ∧ r.2.sem = fun _ => 0) :=
  Pipeline.θ_run_frameP_around (Q' := _) pcfgs (fun _ => adm m hO) (datsV m hO) (0 : Fin 1) launch0 defs₀ Variants.none m ρ main
    (hbody := fun c => (body_obligationV m hO hH hV c).loose) (hshare := fun c => (datsV m hO 0 c).share_full fun _ => rfl)
    (howed := fun _ _ => rfl) (V₀ := V0 m) (opss := [hostOps1]) (hsub := sfx_sub) (hfresh := sfx_fresh) (hkeep := sfx_keeps)
    (hmain := hmain m Variants.none) (hA := A_eqV m hO) (hpf := V_pre m) (hΦ := fun _ _ => rfl)

end Cert.KernelIdeal.Gen

end
-- ==== Proof.I.Reads.lean ====
module
public import proofs.«01_k».proof.Proof.I.FrameV
public import Idealize.ShloMosaic.Lib.Pipeline.ValueKit

/-!
The arrays the launch reads, at an index, as entries of the program's arguments: what the host lines before the launch put in
them, and what a grid point's blocks read of them.
-/

@[expose] public section

set_option maxRecDepth 16384
noncomputable section
namespace Cert.KernelIdeal.Gen
open Idealize.ShloMosaic Idealize.ShloMosaic.TcCoe Idealize.ShloMosaic.Tactic Idealize.SL Idealize.SL.Sem
variable (m : (ℓ : Loc nD τ sig) → Buf (Elt Ideal) ℓ)

theorem c0_lt (i : grid0.Coords) : (i 0).val < 4 := (i 0).isLt
theorem c1_lt (i : grid0.Coords) : (i 1).val < 2 := (i 1).isLt
theorem c2_lt (i : grid0.Coords) : (i 2).val < 32 := (i 2).isLt
theorem w_small (n : ℕ) (h : n < 4294967296) : (BitVec.ofNat 32 n).toNat = n := by
  rw [BitVec.toNat_ofNat, Nat.mod_eq_of_lt (by omega)]

abbrev qRow (i : grid0.Coords) (q : Fin 128) : Fin 4096 := ⟨(i 2).val * 128 + q.val, by have := c2_lt i; omega⟩
abbrev hRow (i : grid0.Coords) (g : Fin 8) : Fin 16 := ⟨(i 1).val * 8 + g.val, by have := c1_lt i; omega⟩

theorem V_v12 (c : Dev nD) : V m c main_v12 = shapeCast S4x2x32x1x1024 (transpose S4x2x32x128x8 [0, 3, 1, 2, 4] (shapeCast S4x32x128x2x8 (m ((c : Thread nD τ).loc main_arg1) : Vec Ideal S4x4096x16 .f32) shapeCasts_S4x4096x16_S4x32x128x2x8) transposes_S4x32x128x2x8_S4x2x32x128x8_0_3_1_2_4) shapeCasts_S4x2x32x128x8_S4x2x32x1x1024 := by
  unfold V
  rw [← V_main_arg1 m c]
  unfold V
  rw [V0_eq]
  generalize V5 m c = W
  after_results_simp
  rfl
theorem V_v9 (c : Dev nD) : V m c main_v9 = shapeCast S4x32x1x1024 (broadcastInDim S4x32x1x128x8 ![0, 1, 2, 3] bcast_S4x32x1x128_S4x32x1x128x8_0_1_2_3 (shapeCast S4x32x1x128 (hStart (m ((c : Thread nD τ).loc main_arg6))) shapeCasts_S4x4096_S4x32x1x128)) shapeCasts_S4x32x1x128x8_S4x32x1x1024 := by
  rw [← V_v6 m c]
  unfold V
  rw [V0_eq]
  generalize V5 m c = W
  after_results_simp
  rfl
theorem v9_at (x : IVec S4x4096 32) (b : Fin 4) (j : Fin 32) (u : Fin 1) (k : Fin 1024) : shapeCast S4x32x1x1024 (broadcastInDim S4x32x1x128x8 ![0, 1, 2, 3] bcast_S4x32x1x128_S4x32x1x128x8_0_1_2_3 (shapeCast S4x32x1x128 x shapeCasts_S4x4096_S4x32x1x128)) shapeCasts_S4x32x1x128x8_S4x32x1x1024 (ix4 b j u k) = x (ix2 b ⟨j.val * 128 + k.val / 8, by omega⟩) := by
  pointwise
theorem v12_at (x : Vec Ideal S4x4096x16 .f32) (b : Fin 4) (h : Fin 2) (j : Fin 32) (u : Fin 1) (k : Fin 1024) : shapeCast S4x2x32x1x1024 (transpose S4x2x32x128x8 [0, 3, 1, 2, 4] (shapeCast S4x32x128x2x8 x shapeCasts_S4x4096x16_S4x32x128x2x8) transposes_S4x32x128x2x8_S4x2x32x128x8_0_3_1_2_4) shapeCasts_S4x2x32x128x8_S4x2x32x1x1024 (ix5 b h j u k) = x (ix3 b ⟨j.val * 128 + k.val / 8, by omega⟩ ⟨h.val * 8 + k.val % 8, by omega⟩) := by
  pointwise
theorem V_v13 (c : Dev nD) : V m c main_v13 = transpose S4x2x4096x128 [0, 2, 1, 3] (m ((c : Thread nD τ).loc main_arg2) : Vec Ideal S4x4096x2x128 .fp8e4m3) transposes_S4x4096x2x128_S4x2x4096x128_0_2_1_3 := by
  rw [← V_main_arg2 m c]
  unfold V
  rw [V0_eq]
  generalize V5 m c = W
  after_results_simp
theorem V_v14 (c : Dev nD) : V m c main_v14 = transpose S4x2x4096x128 [0, 2, 1, 3] (m ((c : Thread nD τ).loc main_arg4) : Vec Ideal S4x4096x2x128 .fp8e4m3) transposes_S4x4096x2x128_S4x2x4096x128_0_2_1_3 := by
  rw [← V_main_arg4 m c]
  unfold V
  rw [V0_eq]
  generalize V5 m c = W
  after_results_simp
theorem V_v16 (c : Dev nD) : V m c main_v16 = broadcastInDim S4x2x4096x1 ![0, 1, 2] bcast_S4x2x4096_S4x2x4096x1_0_1_2 (transpose S4x2x4096 [0, 2, 1] (m ((c : Thread nD τ).loc main_arg3) : Vec Ideal S4x4096x2 .f32) transposes_S4x4096x2_S4x2x4096_0_2_1) := by
  rw [← V_main_arg3 m c]
  unfold V
  rw [V0_eq]
  generalize V5 m c = W
  after_results_simp
theorem v13_at (x : Vec Ideal S4x4096x2x128 .fp8e4m3) (b : Fin 4) (h : Fin 2) (r : Fin 4096) (d : Fin 128) : transpose S4x2x4096x128 [0, 2, 1, 3] x transposes_S4x4096x2x128_S4x2x4096x128_0_2_1_3 (ix4 b h r d) = x (ix4 b r h d) := by
  pointwise
theorem v16_at (x : Vec Ideal S4x4096x2 .f32) (b : Fin 4) (h : Fin 2) (r : Fin 4096) (u : Fin 1) : broadcastInDim S4x2x4096x1 ![0, 1, 2] bcast_S4x2x4096_S4x2x4096x1_0_1_2 (transpose S4x2x4096 [0, 2, 1] x transposes_S4x4096x2_S4x2x4096_0_2_1) (ix4 b h r u) = x (ix3 b r h) := by
  pointwise

/-- The query row a column stands for. -/
abbrev qCol (i : grid0.Coords) (k : Fin 1024) : Fin 4096 := ⟨(i 2).val * 128 + k.val / 8, by have := c2_lt i; omega⟩
/-- The query head a column stands for. -/
abbrev hCol (i : grid0.Coords) (k : Fin 1024) : Fin 16 := ⟨(i 1).val * 8 + k.val % 8, by have := c1_lt i; omega⟩

theorem iblk0_at (hO : Ok m) (c : Dev nD) (t : Fin (cfgM m hO).N) (a : Fin 1) (q : Fin 128) (g : Fin 8) (d : Fin 128) :
   iblk m hO c 0 t (ix4 a q g d) = m ((c : Thread nD τ).loc main_arg0) (ix4 ((grid0.coords t) 0) (qRow (grid0.coords t) q) (hRow (grid0.coords t) g) d) := by
  rw [← V_main_arg0 m c]
  show V m c main_arg0 (((cfgM m hO).win 0).rect t |>.emb (ix4 a q g d)) = _
  refine congrArg _ (funext fun x => Fin.ext ?_)
  refine (Pipeline.Window.rect_emb_val _ t (ix4 a q g d) x).trans ?_
  show cc0_transform_0 (grid0.coords t) x * S1x128x8x128.size x + _ = _
  have h0 := c0_lt (grid0.coords t); have h1 := c1_lt (grid0.coords t); have h2 := c2_lt (grid0.coords t)
  fin_cases x
  · show (BitVec.ofNat 32 (grid0.coords t 0).val).toNat * 1 + a.val = (grid0.coords t 0).val
    rw [w_small _ (by omega)]; omega
  · show (BitVec.ofNat 32 (grid0.coords t 2).val).toNat * 128 + q.val = (grid0.coords t 2).val * 128 + q.val
    rw [w_small _ (by omega)]
  · show (BitVec.ofNat 32 (grid0.coords t 1).val).toNat * 8 + g.val = (grid0.coords t 1).val * 8 + g.val
    rw [w_small _ (by omega)]
  · show 0 * 128 + d.val = d.val
    omega

theorem iblk1_at (hO : Ok m) (c : Dev nD) (t : Fin (cfgM m hO).N) (a : Fin 1) (u : Fin 1) (v : Fin 1) (w : Fin 1) (k : Fin 1024) :
    iblk m hO c 1 t (ix5 a u v w k) = m ((c : Thread nD τ).loc main_arg1) (ix3 ((grid0.coords t) 0) (qCol (grid0.coords t) k) (hCol (grid0.coords t) k)) := by
  have h0 := c0_lt (grid0.coords t); have h1 := c1_lt (grid0.coords t); have h2 := c2_lt (grid0.coords t)
  have e : iblk m hO c 1 t (ix5 a u v w k) = V m c main_v12 (ix5 ((grid0.coords t) 0) ((grid0.coords t) 1) ((grid0.coords t) 2) w k) := by
    show V m c main_v12 (((cfgM m hO).win 1).rect t |>.emb (ix5 a u v w k)) = _
    refine congrArg _ (funext fun x => Fin.ext ?_)
    refine (Pipeline.Window.rect_emb_val _ t (ix5 a u v w k) x).trans ?_
    show cc0_transform_1 (grid0.coords t) x * S1x1x1x1x1024.size x + _ = _
    fin_cases x
    · show (BitVec.ofNat 32 (grid0.coords t 0).val).toNat * 1 + a.val = (grid0.coords t 0).val
      rw [w_small _ (by omega)]; omega
    · show (BitVec.ofNat 32 (grid0.coords t 1).val).toNat * 1 + u.val = (grid0.coords t 1).val
      rw [w_small _ (by omega)]; omega
    · show (BitVec.ofNat 32 (grid0.coords t 2).val).toNat * 1 + v.val = (grid0.coords t 2).val
      rw [w_small _ (by omega)]; omega
    · show 0 * 1 + w.val = w.val
      omega
    · show 0 * 1024 + k.val = k.val
      omega
  refine e.trans ?_
  exact (congrFun (V_v12 m c) _).trans (v12_at _ ((grid0.coords t) 0) ((grid0.coords t) 1) ((grid0.coords t) 2) w k)
theorem iblk2_at (hO : Ok m) (c : Dev nD) (t : Fin (cfgM m hO).N) (a : Fin 1) (u : Fin 1) (w : Fin 1) (k : Fin 1024) :
    iblk m hO c 2 t (ix4 a u w k) = hStart (m ((c : Thread nD τ).loc main_arg6)) (ix2 ((grid0.coords t) 0) (qCol (grid0.coords t) k)) := by
  have h0 := c0_lt (grid0.coords t); have h1 := c1_lt (grid0.coords t); have h2 := c2_lt (grid0.coords t)
  have e : iblk m hO c 2 t (ix4 a u w k) = V m c main_v9 (ix4 ((grid0.coords t) 0) ((grid0.coords t) 2) w k) := by
    show V m c main_v9 (((cfgM m hO).win 2).rect t |>.emb (ix4 a u w k)) = _
    refine congrArg _ (funext fun x => Fin.ext ?_)
    refine (Pipeline.Window.rect_emb_val _ t (ix4 a u w k) x).trans ?_
    show cc0_transform_2 (grid0.coords t) x * S1x1x1x1024.size x + _ = _
    fin_cases x
    · show (BitVec.ofNat 32 (grid0.coords t 0).val).toNat * 1 + a.val = (grid0.coords t 0).val
      rw [w_small _ (by omega)]; omega
    · show (BitVec.ofNat 32 (grid0.coords t 2).val).toNat * 1 + u.val = (grid0.coords t 2).val
      rw [w_small _ (by omega)]; omega
    · show 0 * 1 + w.val = w.val
      omega
    · show 0 * 1024 + k.val = k.val
      omega
  refine e.trans ?_
  exact (congrFun (V_v9 m c) _).trans (v9_at _ ((grid0.coords t) 0) ((grid0.coords t) 2) w k)
theorem iblk3_at (hO : Ok m) (c : Dev nD) (t : Fin (cfgM m hO).N) (a : Fin 1) (u : Fin 1) (r : Fin 4096) (d : Fin 128) :
    iblk m hO c 3 t (ix4 a u r d) = m ((c : Thread nD τ).loc main_arg2) (ix4 ((grid0.coords t) 0) r ((grid0.coords t) 1) d) := by
  have h0 := c0_lt (grid0.coords t); have h1 := c1_lt (grid0.coords t); have h2 := c2_lt (grid0.coords t)
  have e : iblk m hO c 3 t (ix4 a u r d) = V m c main_v13 (ix4 ((grid0.coords t) 0) ((grid0.coords t) 1) r d) := by
    show V m c main_v13 (((cfgM m hO).win 3).rect t |>.emb (ix4 a u r d)) = _
    refine congrArg _ (funext fun x => Fin.ext ?_)
    refine (Pipeline.Window.rect_emb_val _ t (ix4 a u r d) x).trans ?_
    show cc0_transform_3 (grid0.coords t) x * S1x1x4096x128.size x + _ = _
    fin_cases x
    · show (BitVec.ofNat 32 (grid0.coords t 0).val).toNat * 1 + a.val = (grid0.coords t 0).val
      rw [w_small _ (by omega)]; omega
    · show (BitVec.ofNat 32 (grid0.coords t 1).val).toNat * 1 + u.val = (grid0.coords t 1).val
      rw [w_small _ (by omega)]; omega
    · show 0 * 4096 + r.val = r.val
      omega
    · show 0 * 128 + d.val = d.val
      omega
  refine e.trans ?_
  exact (congrFun (V_v13 m c) _).trans (v13_at _ ((grid0.coords t) 0) ((grid0.coords t) 1) r d)
theorem iblk5_at (hO : Ok m) (c : Dev nD) (t : Fin (cfgM m hO).N) (a : Fin 1) (u : Fin 1) (r : Fin 4096) (d : Fin 128) :
    iblk m hO c 5 t (ix4 a u r d) = m ((c : Thread nD τ).loc main_arg4) (ix4 ((grid0.coords t) 0) r ((grid0.coords t) 1) d) := by
  have h0 := c0_lt (grid0.coords t); have h1 := c1_lt (grid0.coords t); have h2 := c2_lt (grid0.coords t)
  have e : iblk m hO c 5 t (ix4 a u r d) = V m c main_v14 (ix4 ((grid0.coords t) 0) ((grid0.coords t) 1) r d) := by
    show V m c main_v14 (((cfgM m hO).win 5).rect t |>.emb (ix4 a u r d)) = _
    refine congrArg _ (funext fun x => Fin.ext ?_)
    refine (Pipeline.Window.rect_emb_val _ t (ix4 a u r d) x).trans ?_
    show cc0_transform_5 (grid0.coords t) x * S1x1x4096x128.size x + _ = _
    fin_cases x
    · show (BitVec.ofNat 32 (grid0.coords t 0).val).toNat * 1 + a.val = (grid0.coords t 0).val
      rw [w_small _ (by omega)]; omega
    · show (BitVec.ofNat 32 (grid0.coords t 1).val).toNat * 1 + u.val = (grid0.coords t 1).val
      rw [w_small _ (by omega)]; omega
    · show 0 * 4096 + r.val = r.val
      omega
    · show 0 * 128 + d.val = d.val
      omega
  refine e.trans ?_
  exact (congrFun (V_v14 m c) _).trans (v13_at _ ((grid0.coords t) 0) ((grid0.coords t) 1) r d)
theorem iblk4_at (hO : Ok m) (c : Dev nD) (t : Fin (cfgM m hO).N) (a : Fin 1) (u : Fin 1) (r : Fin 4096) (w : Fin 1) :
    iblk m hO c 4 t (ix4 a u r w) = m ((c : Thread nD τ).loc main_arg3) (ix3 ((grid0.coords t) 0) r ((grid0.coords t) 1)) := by
  have h0 := c0_lt (grid0.coords t); have h1 := c1_lt (grid0.coords t); have h2 := c2_lt (grid0.coords t)
  have e : iblk m hO c 4 t (ix4 a u r w) = V m c main_v16 (ix4 ((grid0.coords t) 0) ((grid0.coords t) 1) r w) := by
    show V m c main_v16 (((cfgM m hO).win 4).rect t |>.emb (ix4 a u r w)) = _
    refine congrArg _ (funext fun x => Fin.ext ?_)
    refine (Pipeline.Window.rect_emb_val _ t (ix4 a u r w) x).trans ?_
    show cc0_transform_4 (grid0.coords t) x * S1x1x4096x1.size x + _ = _
    fin_cases x
    · show (BitVec.ofNat 32 (grid0.coords t 0).val).toNat * 1 + a.val = (grid0.coords t 0).val
      rw [w_small _ (by omega)]; omega
    · show (BitVec.ofNat 32 (grid0.coords t 1).val).toNat * 1 + u.val = (grid0.coords t 1).val
      rw [w_small _ (by omega)]; omega
    · show 0 * 4096 + r.val = r.val
      omega
    · show 0 * 1 + w.val = w.val
      omega
  refine e.trans ?_
  exact (congrFun (V_v16 m c) _).trans (v16_at _ ((grid0.coords t) 0) ((grid0.coords t) 1) r w)
theorem iblk6_at (hO : Ok m) (c : Dev nD) (t : Fin (cfgM m hO).N) (a : Fin 4) (u : Fin 2) :
    iblk m hO c 6 t (ix2 a u) = m ((c : Thread nD τ).loc main_arg5) (ix2 a u) := by
  have h0 := c0_lt (grid0.coords t); have h1 := c1_lt (grid0.coords t); have h2 := c2_lt (grid0.coords t)
  have e : iblk m hO c 6 t (ix2 a u) = V m c main_arg5 (ix2 a u) := by
    show V m c main_arg5 (((cfgM m hO).win 6).rect t |>.emb (ix2 a u)) = _
    refine congrArg _ (funext fun x => Fin.ext ?_)
    refine (Pipeline.Window.rect_emb_val _ t (ix2 a u) x).trans ?_
    show cc0_transform_6 (grid0.coords t) x * S4x2.size x + _ = _
    fin_cases x
    · show 0 * 4 + a.val = a.val
      omega
    · show 0 * 2 + u.val = u.val
      omega
  refine e.trans ?_
  exact congrFun (V_main_arg5 m c) _

end Cert.KernelIdeal.Gen

end
-- ==== Proof.M.KBlk.lean ====
module
public import proofs.«01_k».proof.Proof.M.Blk
public import proofs.«01_k».proof.Proof.M.Spec
public import proofs.«01_k».proof.Proof.I.Reads
public import proofs.«01_k».proof.Proof.I.Table
@[expose] public section
/-!
# What a grid point leaves in the results' blocks
-/
set_option maxRecDepth 16384
noncomputable section
namespace Cert.KernelIdeal.Gen
open Idealize.ShloMosaic Idealize.ShloMosaic.TcCoe Idealize.ShloMosaic.Tactic Idealize.SL Idealize.SL.Sem
variable (m : (ℓ : Loc nD τ sig) → Buf (Elt Ideal) ℓ)

/-! ## The arguments, named -/
abbrev A0 (c : Dev nD) : Vec Ideal S4x4096x16x128 .fp8e4m3 := m ((c : Thread nD τ).loc main_arg0)
abbrev A1 (c : Dev nD) : Vec Ideal S4x4096x16 .f32 := m ((c : Thread nD τ).loc main_arg1)
abbrev A2 (c : Dev nD) : Vec Ideal S4x4096x2x128 .fp8e4m3 := m ((c : Thread nD τ).loc main_arg2)
abbrev A3 (c : Dev nD) : Vec Ideal S4x4096x2 .f32 := m ((c : Thread nD τ).loc main_arg3)
abbrev A4 (c : Dev nD) : Vec Ideal S4x4096x2x128 .fp8e4m3 := m ((c : Thread nD τ).loc main_arg4)
abbrev A5 (c : Dev nD) : Vec Ideal S4x2 .f32 := m ((c : Thread nD τ).loc main_arg5)
abbrev A6 (c : Dev nD) : IVec S4x4096 32 := m ((c : Thread nD τ).loc main_arg6)

/-! ## The launch's side conditions -/
theorem wordN_eq (c : Dev nD) (i : grid0.Coords) : wordN m c i = dStart (A6 m c) (i 0) (qrow0 i) := by
  obtain rfl : c = 0 := Subsingleton.elim _ _
  exact congrArg BitVec.toNat (word0_tbl (F := Ideal) m 0 i)

theorem dsX_eq (hO : Ok m) (c : Dev nD) (t : Fin (cfgM m hO).N) (j : Fin 1024) :
    dsX (iblk m hO c 2 t) j = dStart (A6 m c) (grid0.coords t 0) (qCol (grid0.coords t) j) :=
  congrArg BitVec.toNat (iblk2_at m hO c t 0 0 0 j)

theorem hypsV (hO : Ok m) : HypsV m hO := by
  intro c t
  refine ⟨?_, fun j => ?_⟩
  · rw [wordN_eq]; exact dStart_le _ _ _
  · rw [dsX_eq]; exact lt_of_le_of_lt (dStart_le _ _ _) (Fin.isLt _)

theorem word_le (hO : Ok m) (c : Dev nD) (t : Fin (cfgM m hO).N) (j : Fin 1024) : wordN m c (grid0.coords t) ≤ dsX (iblk m hO c 2 t) j := by
  rw [wordN_eq, dsX_eq]
  refine dStart_mono _ _ _ _ ?_
  show (grid0.coords t 2).val * 128 ≤ (grid0.coords t 2).val * 128 + j.val / 8
  omega

/-! ## A block's scores and the rows it sees -/
theorem hCol_div (i : grid0.Coords) (j : Fin 1024) : (⟨(hCol i j).val / 8, by have := (hCol i j).isLt; omega⟩ : Fin 2) = i 1 := by
  refine Fin.ext ?_
  show ((i 1).val * 8 + j.val % 8) / 8 = (i 1).val
  omega

theorem sB_gen (x0 : Vec Ideal S1x128x8x128 .fp8e4m3) (x1 : Vec Ideal S1x1x1x1x1024 .f32) (x3 : Vec Ideal S1x1x4096x128 .fp8e4m3) (x4 : Vec Ideal S1x1x4096x1 .f32)
    (a0 : Vec Ideal S4x4096x16x128 .fp8e4m3) (a1 : Vec Ideal S4x4096x16 .f32) (a2 : Vec Ideal S4x4096x2x128 .fp8e4m3) (a3 : Vec Ideal S4x4096x2 .f32)
    (j : Fin 1024) (r : Fin 4096) (b : Fin 4) (p : Fin 4096) (H : Fin 16) (h : Fin 2) (hh : (⟨H.val / 8, by omega⟩ : Fin 2) = h)
    (h0 : ∀ d : Fin 128, x0 (ix4 0 ⟨j.val / 8, by omega⟩ ⟨j.val % 8, by omega⟩ d) = a0 (ix4 b p H d)) (h1 : x1 (ix5 0 0 0 0 j) = a1 (ix3 b p H))
    (h3 : ∀ d : Fin 128, x3 (ix4 0 0 r d) = a2 (ix4 b r h d)) (h4 : x4 (ix4 0 0 r 0) = a3 (ix3 b r h)) :
    sB x0 x1 x3 x4 j r = Col.sS a0 a1 a2 a3 b p H r := by
  have e : (∑ d : Fin 128, (x3 (ix4 0 0 r d) : EReal) * x0 (ix4 0 ⟨j.val / 8, by omega⟩ ⟨j.val % 8, by omega⟩ d))
      = ∑ d : Fin 128, (a0 (ix4 b p H d) : EReal) * a2 (ix4 b r h d) := Finset.sum_congr rfl fun d _ => by rw [h0, h3, mul_comm]
  unfold sB rawF Col.sS
  rw [hh, h1, h4, e]
  generalize (∑ d : Fin 128, (a0 (ix4 b p H d) : EReal) * a2 (ix4 b r h d)) = S
  rw [← mul_assoc, mul_right_comm S]

theorem sB_blk (hO : Ok m) (c : Dev nD) (t : Fin (cfgM m hO).N) (j : Fin 1024) (r : Fin 4096) :
    sB (iblk m hO c 0 t) (iblk m hO c 1 t) (iblk m hO c 3 t) (iblk m hO c 4 t) j r
      = Col.sS (A0 m c) (A1 m c) (A2 m c) (A3 m c) (grid0.coords t 0) (qCol (grid0.coords t) j) (hCol (grid0.coords t) j) r :=
  sB_gen _ _ _ _ _ _ _ _ j r _ _ _ (grid0.coords t 1) (hCol_div _ j) (fun d => iblk0_at m hO c t 0 _ _ d) (iblk1_at m hO c t 0 0 0 0 j)
    (fun d => iblk3_at m hO c t 0 0 r d) (iblk4_at m hO c t 0 0 r 0)

variable (hx : ∀ (c : Dev nD) (b : Fin 4) (t : ℕ) (ht : t + 1 < 4096), (A6 m c (ix2 b ⟨t, Nat.lt_of_succ_lt ht⟩)).toInt ≤ (A6 m c (ix2 b ⟨t + 1, ht⟩)).toInt)
variable (hq : ∀ (c : Dev nD) (b : Fin 4) (p : Fin 4096) (H : Fin 16), (0 : EReal) < A1 m c (ix3 b p H))

include hx in
theorem vis_blk (hO : Ok m) (c : Dev nD) (t : Fin (cfgM m hO).N) (j : Fin 1024) (r : Fin 4096) :
    visW (blk (grid0.coords t)) (dsX (iblk m hO c 2 t)) j r ↔ Col.visS (A6 m c) (grid0.coords t 0) (qCol (grid0.coords t) j) r := by
  unfold visW Col.visS
  rw [dsX_eq]
  constructor
  · rintro ⟨h1, h2⟩
    exact ⟨h2, (same_iff _ _ (hx c _) _ _ h2).2 h1⟩
  · rintro ⟨h1, h2⟩
    exact ⟨(same_iff _ _ (hx c _) _ _ h1).1 h2, h1⟩

include hx hq in
/-- What a grid point leaves in the first result's block. -/
theorem blk7 (hO : Ok m) (c : Dev nD) (t : Fin (cfgM m hO).N) (a : Fin 1) (q : Fin 128) (g : Fin 8) (d : Fin 128) :
    ((datsV m hO 0 c).after 7 t (ix4 a q g d) : EReal)
      = Col.outS (A0 m c) (A1 m c) (A2 m c) (A3 m c) (A4 m c) (A5 m c) (A6 m c) (grid0.coords t 0) (qRow (grid0.coords t) q) (hRow (grid0.coords t) g) d := by
  rw [after0_7V]
  have hj : q.val * 8 + g.val < 1024 := by omega
  refine (out8_row _ _ _ _ _ _ _ _ _ ⟨q.val * 8 + g.val, hj⟩ (word_le m hO c t _) ?_ d).trans ?_
  · rw [iblk1_at]; exact hq c _ _ _
  · have e1 : qCol (grid0.coords t) ⟨q.val * 8 + g.val, hj⟩ = qRow (grid0.coords t) q := Fin.ext (by
      show (grid0.coords t 2).val * 128 + (q.val * 8 + g.val) / 8 = (grid0.coords t 2).val * 128 + q.val
      omega)
    have e2 : hCol (grid0.coords t) ⟨q.val * 8 + g.val, hj⟩ = hRow (grid0.coords t) g := Fin.ext (by
      show (grid0.coords t 1).val * 8 + (q.val * 8 + g.val) % 8 = (grid0.coords t 1).val * 8 + g.val
      omega)
    rw [← e1, ← e2]
    unfold Col.outS
    rw [hCol_div]
    refine Col.outR_congr (i := _) (i' := _) (fun r => sB_blk m hO c t _ r) (fun r => iblk5_at m hO c t 0 0 r d) (fun r => vis_blk m hx hO c t _ r) (iblk6_at m hO c t _ _)

include hx hq in
/-- What a grid point leaves in the second result's block. -/
theorem blk8 (hO : Ok m) (c : Dev nD) (t : Fin (cfgM m hO).N) (a b e f : Fin 1) (j : Fin 1024) :
    ((datsV m hO 0 c).after 8 t (ix5 a b e f j) : EReal)
      = Col.lseS (A0 m c) (A1 m c) (A2 m c) (A3 m c) (A6 m c) (grid0.coords t 0) (qCol (grid0.coords t) j) (hCol (grid0.coords t) j) := by
  rw [after0_8V]
  refine (out9_row _ _ _ _ _ _ _ _ _ j (word_le m hO c t _) (by rw [iblk1_at]; exact hq c _ _ _) (by rw [dsX_eq]; exact dStart_le _ _ _) a b e f).trans ?_
  exact Col.lseR_congr (i := _) (i' := _) (fun r => sB_blk m hO c t _ r) (fun r => vis_blk m hx hO c t _ r)
end Cert.KernelIdeal.Gen
-- ==== Proof.M.Tail.lean ====
module
public import proofs.«01_k».proof.Proof.I.Reads
@[expose] public section
/-!
# The host lines after the launch, at an index
-/
set_option maxRecDepth 16384
noncomputable section
namespace Cert.KernelIdeal.Gen
open Idealize.ShloMosaic Idealize.ShloMosaic.TcCoe Idealize.ShloMosaic.Tactic
theorem tail_at (x : Vec Ideal S4x2x32x1x1024 .f32) (b : Fin 4) (p : Fin 4096) (H : Fin 16) :
    shapeCast S4x4096x16 (transpose S4x32x128x2x8 [0, 2, 3, 1, 4] (shapeCast S4x2x32x128x8 x shapeCasts_S4x2x32x1x1024_S4x2x32x128x8) transposes_S4x2x32x128x8_S4x32x128x2x8_0_2_3_1_4) shapeCasts_S4x32x128x2x8_S4x4096x16 (ix3 b p H)
      = x (ix5 b ⟨H.val / 8, by omega⟩ ⟨p.val / 128, by omega⟩ 0 ⟨p.val % 128 * 8 + H.val % 8, by omega⟩) := by
  pointwise
end Cert.KernelIdeal.Gen
-- ==== Proof.M.Points.lean ====
module
public import proofs.«01_k».proof.Proof.I.Runs
@[expose] public section
/-!
# The grid's points
-/
set_option maxRecDepth 16384
noncomputable section
namespace Cert.KernelIdeal.Gen
open Idealize.ShloMosaic Idealize.ShloMosaic.TcCoe Idealize.ShloMosaic.Tactic Idealize.SL Idealize.SL.Sem
theorem pts : ∀ t : Fin grid0.N, Pipeline.Window.flushOf grid0 true cc0_transform_7 t = true ∧ Pipeline.Window.flushOf grid0 true cc0_transform_8 t = true
    ∧ (grid0.coords t 0).val = t.val / 64 ∧ (grid0.coords t 1).val = t.val / 32 % 2 ∧ (grid0.coords t 2).val = t.val % 32 := by decide +kernel

theorem gridN : grid0.N = 256 := by decide +kernel

theorem pt_of (b h j : ℕ) (hb : b < 4) (hh : h < 2) (hj : j < 32) : ∃ t : Fin grid0.N,
    (grid0.coords t 0).val = b ∧ (grid0.coords t 1).val = h ∧ (grid0.coords t 2).val = j := by
  refine ⟨⟨b * 64 + h * 32 + j, by rw [gridN]; omega⟩, ?_⟩
  obtain ⟨-, -, e0, e1, e2⟩ := pts ⟨b * 64 + h * 32 + j, by rw [gridN]; omega⟩
  rw [e0, e1, e2]
  refine ⟨?_, ?_, ?_⟩ <;> dsimp only <;> omega

end Cert.KernelIdeal.Gen
-- ==== Proof.M.KFinal.lean ====
module
public import proofs.«01_k».proof.Proof.M.KBlk
public import proofs.«01_k».proof.Proof.M.Tail
public import proofs.«01_k».proof.Proof.M.Points
@[expose] public section
/-!
# The kernel's two results, whole
-/
set_option maxRecDepth 16384
noncomputable section
namespace Cert.KernelIdeal.Gen
open Idealize.ShloMosaic Idealize.ShloMosaic.TcCoe Idealize.ShloMosaic.Tactic Idealize.SL Idealize.SL.Sem
variable (m : (ℓ : Loc nD τ sig) → Buf (Elt Ideal) ℓ)

variable (hx : ∀ (c : Dev nD) (b : Fin 4) (t : ℕ) (ht : t + 1 < 4096), (A6 m c (ix2 b ⟨t, Nat.lt_of_succ_lt ht⟩)).toInt ≤ (A6 m c (ix2 b ⟨t + 1, ht⟩)).toInt)
variable (hq : ∀ (c : Dev nD) (b : Fin 4) (p : Fin 4096) (H : Fin 16), (0 : EReal) < A1 m c (ix3 b p H))

/-! ## Where a block lies -/
theorem emb7 (hO : Ok m) (t : Fin (cfgM m hO).N) (a : Fin 1) (q : Fin 128) (g : Fin 8) (d : Fin 128) :
    (((cfgM m hO).win 7).rect t).emb (ix4 a q g d) = (ix4 (grid0.coords t 0) (qRow (grid0.coords t) q) (hRow (grid0.coords t) g) d : S4x4096x16x128.Idx) := by
  refine (funext fun x => Fin.ext ?_)
  refine (Pipeline.Window.rect_emb_val _ t (ix4 a q g d) x).trans ?_
  show cc0_transform_7 (grid0.coords t) x * S1x128x8x128.size x + _ = _
  have h0 := c0_lt (grid0.coords t); have h1 := c1_lt (grid0.coords t); have h2 := c2_lt (grid0.coords t)
  fin_cases x
  · show (BitVec.ofNat 32 (grid0.coords t 0).val).toNat * 1 + a.val = (grid0.coords t 0).val
    rw [w_small _ (by omega)]; omega
  · show (BitVec.ofNat 32 (grid0.coords t 2).val).toNat * 128 + q.val = (grid0.coords t 2).val * 128 + q.val
    rw [w_small _ (by omega)]
  · show (BitVec.ofNat 32 (grid0.coords t 1).val).toNat * 8 + g.val = (grid0.coords t 1).val * 8 + g.val
    rw [w_small _ (by omega)]
  · show 0 * 128 + d.val = d.val
    omega

theorem emb8 (hO : Ok m) (t : Fin (cfgM m hO).N) (a b e f : Fin 1) (k : Fin 1024) :
    (((cfgM m hO).win 8).rect t).emb (ix5 a b e f k) = (ix5 (grid0.coords t 0) (grid0.coords t 1) (grid0.coords t 2) f k : S4x2x32x1x1024.Idx) := by
  refine (funext fun x => Fin.ext ?_)
  refine (Pipeline.Window.rect_emb_val _ t (ix5 a b e f k) x).trans ?_
  show cc0_transform_8 (grid0.coords t) x * S1x1x1x1x1024.size x + _ = _
  have h0 := c0_lt (grid0.coords t); have h1 := c1_lt (grid0.coords t); have h2 := c2_lt (grid0.coords t)
  fin_cases x
  · show (BitVec.ofNat 32 (grid0.coords t 0).val).toNat * 1 + a.val = (grid0.coords t 0).val
    rw [w_small _ (by omega)]; omega
  · show (BitVec.ofNat 32 (grid0.coords t 1).val).toNat * 1 + b.val = (grid0.coords t 1).val
    rw [w_small _ (by omega)]; omega
  · show (BitVec.ofNat 32 (grid0.coords t 2).val).toNat * 1 + e.val = (grid0.coords t 2).val
    rw [w_small _ (by omega)]; omega
  · show 0 * 1 + f.val = f.val
    omega
  · show 0 * 1024 + k.val = k.val
    omega

/-- The first result, whole. -/
def G7 (c : Dev nD) : Vec Ideal S4x4096x16x128 .bf16 := fun y =>
  Col.outS (A0 m c) (A1 m c) (A2 m c) (A3 m c) (A4 m c) (A5 m c) (A6 m c) (y 0) (y 1) (y 2) (y 3)

/-- The second result, as the launch leaves it: by batch, key head, query block and column. -/
def G8 (c : Dev nD) : Vec Ideal S4x2x32x1x1024 .f32 := fun y =>
  Col.lseS (A0 m c) (A1 m c) (A2 m c) (A3 m c) (A6 m c) (y 0)
    ⟨(y 2).val * 128 + (y 4).val / 8, by have h2 : (y 2).val < 32 := (y 2).isLt; have h4 : (y 4).val < 1024 := (y 4).isLt; omega⟩
    ⟨(y 1).val * 8 + (y 4).val % 8, by have h1 : (y 1).val < 2 := (y 1).isLt; omega⟩

theorem eta4 (y : S1x128x8x128.Idx) : y = ix4 (y 0) (y 1) (y 2) (y 3) := by funext x; fin_cases x <;> rfl
theorem eta5 (y : S1x1x1x1x1024.Idx) : y = ix5 (y 0) (y 1) (y 2) (y 3) (y 4) := by funext x; fin_cases x <;> rfl

include hx hq in
theorem hG7 (hO : Ok m) (c : Dev nD) (t : Fin (cfgM m hO).N) (y : S1x128x8x128.Idx) : (datsV m hO 0 c).after 7 t y = G7 m c ((((cfgM m hO).win 7).rect t).emb y) := by
  rw [eta4 y]
  refine (blk7 m hx hq hO c t _ _ _ _).trans ?_
  exact (congrArg (G7 m c) (emb7 m hO t (y 0) (y 1) (y 2) (y 3))).symm

include hx hq in
theorem hG8 (hO : Ok m) (c : Dev nD) (t : Fin (cfgM m hO).N) (y : S1x1x1x1x1024.Idx) : (datsV m hO 0 c).after 8 t y = G8 m c ((((cfgM m hO).win 8).rect t).emb y) := by
  rw [eta5 y]
  refine (blk8 m hx hq hO c t _ _ _ _ _).trans ?_
  exact (congrArg (G8 m c) (emb8 m hO t (y 0) (y 1) (y 2) (y 3) (y 4))).symm

theorem cov7 (hO : Ok m) (i : S4x4096x16x128.Idx) : ∃ (t : Fin (cfgM m hO).N) (y : S1x128x8x128.Idx), (((cfgM m hO).win 7).rect t).emb y = i := by
  have hi1 : (i 1).val < 4096 := (i 1).isLt
  have hi2 : (i 2).val < 16 := (i 2).isLt
  obtain ⟨t, e0, e1, e2⟩ := pt_of (i 0).val ((i 2).val / 8) ((i 1).val / 128) (i 0).isLt (by omega) (by omega)
  refine ⟨t, ix4 (0 : Fin 1) ⟨(i 1).val % 128, by omega⟩ ⟨(i 2).val % 8, by omega⟩ (i 3), ?_⟩
  refine (emb7 m hO t _ _ _ _).trans ?_
  funext x
  fin_cases x <;> refine Fin.ext ?_
  · exact e0
  · show (grid0.coords t 2).val * 128 + (i 1).val % 128 = (i 1).val
    omega
  · show (grid0.coords t 1).val * 8 + (i 2).val % 8 = (i 2).val
    omega
  · rfl

theorem cov8 (hO : Ok m) (i : S4x2x32x1x1024.Idx) : ∃ (t : Fin (cfgM m hO).N) (y : S1x1x1x1x1024.Idx), (((cfgM m hO).win 8).rect t).emb y = i := by
  obtain ⟨t, e0, e1, e2⟩ := pt_of (i 0).val (i 1).val (i 2).val (i 0).isLt (i 1).isLt (i 2).isLt
  refine ⟨t, ix5 (0 : Fin 1) (0 : Fin 1) (0 : Fin 1) (i 3) (i 4), ?_⟩
  refine (emb8 m hO t _ _ _ _ _).trans ?_
  funext x
  fin_cases x <;> refine Fin.ext ?_
  · exact e0
  · exact e1
  · exact e2
  · rfl
  · rfl

include hx hq in
theorem arr7 (hO : Ok m) (c : Dev nD) : (datsV m hO 0 c).arrAt 7 (cfgM m hO).N = G7 m c :=
  (datsV m hO 0 c).arrAt_eq_of_emb 7 (G7 m c) (fun t _ y => hG7 m hx hq hO c t y) fun i => by
    obtain ⟨t, y, e⟩ := cov7 m hO i
    refine ⟨t, (pts t).1, ?_⟩
    rw [← e]
    exact View.emb_mem_set (((cfgM m hO).win 7).blk t).view y

include hx hq in
theorem arr8 (hO : Ok m) (c : Dev nD) : (datsV m hO 0 c).arrAt 8 (cfgM m hO).N = G8 m c :=
  (datsV m hO 0 c).arrAt_eq_of_emb 8 (G8 m c) (fun t _ y => hG8 m hx hq hO c t y) fun i => by
    obtain ⟨t, y, e⟩ := cov8 m hO i
    refine ⟨t, (pts t).2.1, ?_⟩
    rw [← e]
    exact View.emb_mem_set (((cfgM m hO).win 8).blk t).view y

/-! ## The host lines after the launch -/
/-- The second result, whole. -/
def L20 (c : Dev nD) : Vec Ideal S4x4096x16 .f32 := fun y => Col.lseS (A0 m c) (A1 m c) (A2 m c) (A3 m c) (A6 m c) (y 0) (y 1) (y 2)

theorem eta3 (y : S4x4096x16.Idx) : y = ix3 (y 0) (y 1) (y 2) := by funext x; fin_cases x <;> rfl

theorem tail_eq (c : Dev nD) :
    shapeCast S4x4096x16 (transpose S4x32x128x2x8 [0, 2, 3, 1, 4] (shapeCast S4x2x32x128x8 (G8 m c) shapeCasts_S4x2x32x1x1024_S4x2x32x128x8) transposes_S4x2x32x128x8_S4x32x128x2x8_0_2_3_1_4) shapeCasts_S4x32x128x2x8_S4x4096x16 = L20 m c := by
  funext y
  rw [eta3 y]
  refine (tail_at _ _ _ _).trans ?_
  have hp : (y 1).val < 4096 := (y 1).isLt
  have hH : (y 2).val < 16 := (y 2).isLt
  unfold G8 L20
  refine congrArg₂ (Col.lseS (A0 m c) (A1 m c) (A2 m c) (A3 m c) (A6 m c) (y 0)) (Fin.ext ?_) (Fin.ext ?_)
  · show (y 1).val / 128 * 128 + ((y 1).val % 128 * 8 + (y 2).val % 8) / 8 = (y 1).val
    omega
  · show (y 2).val / 8 * 8 + ((y 1).val % 128 * 8 + (y 2).val % 8) % 8 = (y 2).val
    omega

include hx hq in
theorem tail20 (hO : Ok m) (c : Dev nD) :
    Pipeline.afterTail pcfgs (fun _ => adm m hO) (datsV m hO) 0 (V0 m) [hostOps1] c main_v20 = L20 m c := by
  have e : Pipeline.afterTail pcfgs (fun _ => adm m hO) (datsV m hO) 0 (V0 m) [hostOps1] c main_v20
      = shapeCast S4x4096x16 (transpose S4x32x128x2x8 [0, 2, 3, 1, 4] (shapeCast S4x2x32x128x8 ((datsV m hO 0 c).arrAt 8 (cfgM m hO).N : Vec Ideal S4x2x32x1x1024 .f32) shapeCasts_S4x2x32x1x1024_S4x2x32x128x8) transposes_S4x2x32x128x8_S4x32x128x2x8_0_2_3_1_4) shapeCasts_S4x32x128x2x8_S4x4096x16 := by
    rw [← Pipeline.withArrays_arr spec0 (by decide) c (V0 m c) (fun w => (datsV m hO 0 c).arrAt w (cfgM m hO).N) 8]
    unfold Pipeline.afterTail
    generalize Pipeline.withArrays _ c _ _ = W
    after_results_simp
    rfl
  refine e.trans ((congrArg (fun z : Vec Ideal S4x2x32x1x1024 .f32 => shapeCast S4x4096x16 (transpose S4x32x128x2x8 [0, 2, 3, 1, 4] (shapeCast S4x2x32x128x8 z shapeCasts_S4x2x32x1x1024_S4x2x32x128x8) transposes_S4x2x32x128x8_S4x32x128x2x8_0_2_3_1_4) shapeCasts_S4x32x128x2x8_S4x4096x16) (arr8 m hx hq hO c)).trans (tail_eq m c))
end Cert.KernelIdeal.Gen
-- ==== Proof.M.Pre.lean ====
module
public import proofs.«01_k».proof.Proof.Gen.Pre_laid_out
public import Idealize.ShloMosaic.Lib.Pointwise
@[expose] public section
/-!
# What the precondition says
-/
set_option maxRecDepth 16384
noncomputable section
namespace Cert.Pre_laid_out
open Idealize.ShloMosaic Idealize.ShloMosaic.Tactic
variable (a0 : FVec Ideal S4x4096x16x128 .fp8e4m3) (a1 : FVec Ideal S4x4096x16 .f32) (a2 : FVec Ideal S4x4096x2x128 .fp8e4m3) (a3 : FVec Ideal S4x4096x2 .f32)
  (a4 : FVec Ideal S4x4096x2x128 .fp8e4m3) (a5 : FVec Ideal S4x2 .f32) (a6 : IVec S4x4096 32)

theorem scale_pos (h : (fn a0 a1 a2 a3 a4 a5 a6).1 = fun _ => 1#1) (b : Fin 4) (p : Fin 4096) (H : Fin 16) : (0 : EReal) < a1 (ix3 b p H) := by
  have h := congrFun h (ix3 b p H)
  unfold fn at h
  pointwise at h
  by_contra hn
  simp_all

theorem sorted (h : (fn a0 a1 a2 a3 a4 a5 a6).2 = fun _ => 1#1) (b : Fin 4) (t : ℕ) (ht : t + 1 < 4096) :
    (a6 (ix2 b ⟨t, Nat.lt_of_succ_lt ht⟩)).toInt ≤ (a6 (ix2 b ⟨t + 1, ht⟩)).toInt := by
  have h := congrFun h (ix2 b ⟨t, by omega⟩)
  unfold fn at h
  pointwise at h
  have e : (⟨1 + t, by omega⟩ : Fin 4096) = ⟨t + 1, ht⟩ := Fin.ext (Nat.add_comm 1 t)
  rw [e] at h
  by_contra hn
  rw [not_le] at hn
  have hs : BitVec.sle (a6 (ix2 b ⟨t, Nat.lt_of_succ_lt ht⟩)) (a6 (ix2 b ⟨t + 1, ht⟩)) = false := by
    rw [BitVec.sle_eq_decide]
    exact decide_eq_false (not_le.2 hn)
  simp only [IntOp.cmpi] at h
  rw [hs] at h
  exact absurd h (by decide)
end Cert.Pre_laid_out
-- ==== Proof.R.Value.lean ====
module
public import proofs.«01_k».proof.Proof.Gen.ReferenceIdeal.Value
public import proofs.«01_k».proof.Proof.Col
public import Idealize.ShloMosaic.Lib.Pointwise
public import Idealize.ShloMosaic.Lib.Routing.Words
public import Idealize.ShloMosaic.Lib.Pipeline.ValueKit
@[expose] public section
/-!
# The reference's results, entry by entry
-/
set_option maxRecDepth 16384
noncomputable section
namespace Cert.ReferenceIdeal.Gen
open Idealize.ShloMosaic Idealize.ShloMosaic.TcCoe Idealize.ShloMosaic.Tactic Idealize.SL Idealize.SL.Sem

/-- The score of key row `k` for query row `r` of head pair `n`. -/
def sX (x0 : Vec Ideal S8x32768x128 .fp8e4m3) (x1 : Vec Ideal S8x32768x1 .f32) (x2 : Vec Ideal S8x4096x128 .fp8e4m3) (x3 : Vec Ideal S8x1x4096 .f32)
    (n : Fin 8) (r : Fin 32768) (k : Fin 4096) : EReal :=
  (∑ x, (x0 (ix3 n r x) : EReal) * x2 (ix3 n k x)) * x1 (ix3 n r 0) * x3 (ix3 n 0 k) * Col.SC

/-- Whether it is seen. -/
def visX (x6 : Vec Ideal S8x32768x1 .i32) (x7 : Vec Ideal S8x1x4096 .i32) (n : Fin 8) (r : Fin 32768) (k : Fin 4096) : Prop :=
  k.val ≤ r.val / 8 ∧ (x6 (ix3 n r 0) : BitVec 32) = x7 (ix3 n 0 k)

instance (x6 : Vec Ideal S8x32768x1 .i32) (x7 : Vec Ideal S8x1x4096 .i32) (n : Fin 8) (r : Fin 32768) : DecidablePred (visX x6 x7 n r) := fun k => by
  unfold visX; infer_instance

theorem pay1_at (v0 v2 v5 v9) (n r k) : (k0_pay1 (F := Ideal) v0 v2 v5 v9 (ix3 n r k) : EReal) = sX v0 v5 v2 v9 n r k := by
  unfold k0_pay1 sX Col.SC
  pointwise

theorem pos_at (n r k) : Scalar.select (k0_pay3 (ix3 n r k)) (k0_pay4 (ix3 n r k)) (k0_pay2 (ix3 n r k)) = BitVec.ofNat 32 (r.val / 8) := by
  unfold k0_pay3 k0_pay4 k0_pay2
  pointwise
  have hr : r.val < 32768 := r.isLt
  rw [Routing.divsi_word .vector (by omega) (by norm_num) (by norm_num), Routing.remsi_word .vector (by omega) (by norm_num) (by norm_num)]
  by_cases h0 : r.val = 0
  · rw [h0]; decide
  · have h1 : IntOp.cmpi CmpIPredicate.sgt (BitVec.ofNat 32 r.val) 0#32 = 1#1 := by
      simp only [IntOp.cmpi, BitVec.slt]
      rw [BitVec.toInt_eq_toNat_of_lt (x := BitVec.ofNat 32 r.val) (by rw [BitVec.toNat_ofNat, Nat.mod_eq_of_lt (by omega)]; omega), BitVec.toNat_ofNat, Nat.mod_eq_of_lt (by omega)]
      rw [decide_eq_true (by simp; omega)]; rfl
    have h2 : IntOp.cmpi CmpIPredicate.slt (BitVec.ofNat 32 r.val) 0#32 = 0#1 := by
      simp only [IntOp.cmpi, BitVec.slt]
      rw [BitVec.toInt_eq_toNat_of_lt (x := BitVec.ofNat 32 r.val) (by rw [BitVec.toNat_ofNat, Nat.mod_eq_of_lt (by omega)]; omega), BitVec.toNat_ofNat, Nat.mod_eq_of_lt (by omega)]
      rw [decide_eq_false (by simp)]; rfl
    rw [h1, h2]
    rw [show IntOp.cmpi CmpIPredicate.ne (IntOp.subi (BitVec.setWidth 32 1#1) (BitVec.setWidth 32 0#1))
          (Scalar.subi (Scalar.extui (Scalar.cmpi CmpIPredicate.sgt 8#32 0#32)) (Scalar.extui (Scalar.cmpi CmpIPredicate.slt 8#32 0#32))) = 0#1 from by decide]
    rw [show ∀ z : BitVec 1, IntOp.andi 0#1 z = 0#1 from by decide]
    rfl

theorem pay5_at (d : Vec Ideal S8x32768x1 .i32) (e : Vec Ideal S8x1x4096 .i32) (n r k) :
    k0_pay5 (F := Ideal) k0_pay2 k0_pay3 k0_pay4 d e (ix3 n r k) = if visX d e n r k then 1#1 else 0#1 := by
  unfold k0_pay5
  pointwise
  rw [pos_at]
  have hr : r.val < 32768 := r.isLt
  have hk : k.val < 4096 := k.isLt
  have h1 : IntOp.cmpi CmpIPredicate.sle (BitVec.ofNat 32 k.val) (BitVec.ofNat 32 (r.val / 8)) = if k.val ≤ r.val / 8 then 1#1 else 0#1 := by
    simp only [IntOp.cmpi, BitVec.sle]
    rw [BitVec.toInt_eq_toNat_of_lt (x := BitVec.ofNat 32 k.val) (by rw [BitVec.toNat_ofNat, Nat.mod_eq_of_lt (by omega)]; omega), BitVec.toNat_ofNat, Nat.mod_eq_of_lt (by omega)]
    rw [BitVec.toInt_eq_toNat_of_lt (x := BitVec.ofNat 32 (r.val / 8)) (by rw [BitVec.toNat_ofNat, Nat.mod_eq_of_lt (by omega)]; omega), BitVec.toNat_ofNat, Nat.mod_eq_of_lt (by omega)]
    by_cases h : k.val ≤ r.val / 8
    · rw [if_pos h]; rw [decide_eq_true (by omega)]; rfl
    · rw [if_neg h]; rw [decide_eq_false (by omega)]; rfl
  rw [h1]
  by_cases h : k.val ≤ r.val / 8 <;> by_cases h' : (d (ix3 n r 0) : BitVec 32) = e (ix3 n 0 k)
  · rw [if_pos h, if_pos (show visX d e n r k from ⟨h, h'⟩), h']; simp [IntOp.cmpi, IntOp.andi]
  · rw [if_pos h, if_neg (show ¬ visX d e n r k from fun x => h' x.2)]; simp only [IntOp.cmpi, IntOp.andi]; rw [beq_eq_false_iff_ne.mpr h']; rfl
  · rw [if_neg h, if_neg (show ¬ visX d e n r k from fun x => h x.1), h']; simp [IntOp.cmpi, IntOp.andi]
  · rw [if_neg h, if_neg (show ¬ visX d e n r k from fun x => h x.1)]; simp [IntOp.cmpi, IntOp.andi]

theorem pay6_at (d : Vec Ideal S8x32768x1 .i32) (e : Vec Ideal S8x1x4096 .i32) (n r k) :
    (k0_pay6 (F := Ideal) k0_pay2 k0_pay3 k0_pay4 d e (ix3 n r k) : EReal) = FloatOps.sitofp (F := Ideal) FTy.f32 (Col.nR (visX d e n r)) := by
  unfold k0_pay6
  pointwise
  refine congrArg _ ?_
  unfold Col.nR
  refine congrArg (fun f => Finset.univ.fold IntOp.addi 0#32 f) (funext fun x => ?_)
  rw [pay5_at]
  by_cases h : visX d e n r x
  · rw [if_pos h, if_pos h]; rfl
  · rw [if_neg h, if_neg h]; rfl

theorem cast_at (Y : FVec Ideal S8x32768 .f32) (n r k) : (shapeCast S8x32768x1 Y shapeCasts_S8x32768_S8x32768x1 (ix3 n r k) : EReal) = Y (ix2 n r) := by
  pointwise

theorem max2_at (X : FVec Ideal S8x32768x4096 .f32) (n r) :
    (multiReduction .maximumf [2] S8x32768 X 0xFF800000#32 reduces_S8x32768x4096_S8x32768 (.inl rfl) rfl (ix2 n r)  : EReal)
      = Finset.univ.fold max (Ideal.ofBits FTy.f32 4286578688#32) (fun x => X (ix3 n r x)) := by
  pointwise

theorem ceil_at (X : FVec Ideal S8x32768x1 .f32) (i : S8x32768x1.Idx) : (ceil X i : EReal) = Ideal.liftRound Int.ceil (X i) := rfl

theorem max_at (X : FVec Ideal S8x32768x4096 .f32) (n r k) :
    (ceil (shapeCast S8x32768x1 (multiReduction .maximumf [2] S8x32768 X 0xFF800000#32 reduces_S8x32768x4096_S8x32768 (.inl rfl) rfl) shapeCasts_S8x32768_S8x32768x1) (ix3 n r k)  : EReal)
      = Ideal.liftRound Int.ceil (Finset.univ.fold max (Ideal.ofBits FTy.f32 4286578688#32) (fun x => X (ix3 n r x))) := by
  rw [ceil_at, cast_at, max2_at]

theorem pay7_at (a : FVec Ideal S8x32768x4096 .f32) (d : Vec Ideal S8x32768x1 .i32) (e : Vec Ideal S8x1x4096 .i32) (n r k) :
    (k0_pay7 (F := Ideal) a k0_pay2 k0_pay3 k0_pay4 d e (ix3 n r k) : EReal) = Col.mR (fun x => a (ix3 n r x)) (visX d e n r) := by
  unfold k0_pay7 Col.mR
  refine (max_at _ n r k).trans (congrArg (Ideal.liftRound Int.ceil) ?_)
  rw [Col.fold_max]
  refine Finset.sup_congr rfl fun x _ => ?_
  show Scalar.select (k0_pay5 (F := Ideal) k0_pay2 k0_pay3 k0_pay4 d e (ix3 n r x)) (a (ix3 n r x)) (Ideal.ofBits FTy.f32 4286578688#32) = _
  rw [pay5_at, Col.neg_inf_word]
  by_cases h : visX d e n r x
  · rw [if_pos h, if_pos h]; rfl
  · rw [if_neg h, if_neg h]; rfl
section
variable (x0 : Vec Ideal S8x32768x128 .fp8e4m3) (x1 : Vec Ideal S8x32768x1 .f32) (x2 : Vec Ideal S8x4096x128 .fp8e4m3) (x3 : Vec Ideal S8x1x4096 .f32)
  (x4 : Vec Ideal S8x4096x128 .fp8e4m3) (x5 : Vec Ideal S8x1x1 .f32) (x6 : Vec Ideal S8x32768x1 .i32) (x7 : Vec Ideal S8x1x4096 .i32)

theorem ld_x6 : View.ld x6 r0_2 = x6 := View.ld_unit_lit _ _ (by decide)
theorem ld_x1 : View.ld x1 r0_2 = x1 := View.ld_unit_lit _ _ (by decide)
theorem ld_x7 : View.ld x7 r0_3 = x7 := View.ld_unit_lit _ _ (by decide)
theorem ld_x3 : View.ld x3 r0_3 = x3 := View.ld_unit_lit _ _ (by decide)
theorem ld_x0 : View.ld x0 r0_0 = x0 := View.ld_unit_lit _ _ (by decide)
theorem ld_x2 : View.ld x2 r0_1 = x2 := View.ld_unit_lit _ _ (by decide)
theorem ld_x5 : View.ld x5 r0_4 = x5 := View.ld_unit_lit _ _ (by decide)

theorem pay17_at (n r k) : (k0_pay17 x0 x1 x2 x3 x4 x5 x6 x7 (ix3 n r k) : EReal) = sX x0 x1 x2 x3 n r k := by
  unfold k0_pay17; rw [ld_x0, ld_x1, ld_x2, ld_x3]; exact pay1_at _ _ _ _ n r k

theorem pay21_at (n r k) : k0_pay21 x0 x1 x2 x3 x4 x5 x6 x7 (ix3 n r k) = if visX x6 x7 n r k then 1#1 else 0#1 := by
  unfold k0_pay21 k0_pay18 k0_pay19 k0_pay20; rw [ld_x6, ld_x7]; exact pay5_at x6 x7 n r k

/-- What the power of two is taken of. -/
theorem pay8_at (a : FVec Ideal S8x32768x4096 .f32) (n r k) (h : visX x6 x7 n r k) :
    (k0_pay8 (F := Ideal) a k0_pay2 k0_pay3 k0_pay4 x6 x7 (ix3 n r k) : EReal) = a (ix3 n r k) - Col.mR (fun x => a (ix3 n r x)) (visX x6 x7 n r) := by
  unfold k0_pay8
  pointwise
  rw [pay5_at, if_pos h, pay7_at]; rfl

theorem pay22_at (n r k) (h : visX x6 x7 n r k) : (k0_pay22 x0 x1 x2 x3 x4 x5 x6 x7 (ix3 n r k) : EReal)
    = Ideal.liftRound Int.floor (sX x0 x1 x2 x3 n r k - Col.mR (sX x0 x1 x2 x3 n r) (visX x6 x7 n r)) := by
  unfold k0_pay22 k0_pay18 k0_pay19 k0_pay20 k0_pay9; rw [ld_x6, ld_x7]
  refine congrArg (Ideal.liftRound Int.floor) ?_
  rw [pay8_at x6 x7 _ n r k h, pay17_at]
  exact congrArg (fun f => _ - Col.mR f _) (funext fun x => pay17_at x0 x1 x2 x3 x4 x5 x6 x7 n r x)

theorem pay23_at (n r k) (h : visX x6 x7 n r k) : (k0_pay23 x0 x1 x2 x3 x4 x5 x6 x7 (ix3 n r k) : EReal)
    = Col.aE (sX x0 x1 x2 x3 n r k - Col.mR (sX x0 x1 x2 x3 n r) (visX x6 x7 n r)) := by
  have e := pay22_at x0 x1 x2 x3 x4 x5 x6 x7 n r k h
  unfold k0_pay22 k0_pay18 k0_pay19 k0_pay20 at e; rw [ld_x6, ld_x7] at e
  unfold k0_pay23 k0_pay18 k0_pay19 k0_pay20 k0_pay10 Col.aE; rw [ld_x6, ld_x7]
  pointwise
  rw [e, pay8_at x6 x7 _ n r k h, pay17_at, show (fun x => (k0_pay17 x0 x1 x2 x3 x4 x5 x6 x7 (ix3 n r x) : EReal)) = sX x0 x1 x2 x3 n r from (funext fun x => pay17_at x0 x1 x2 x3 x4 x5 x6 x7 n r x)]

theorem pay13_at (c : Ideal .f32) (hc : (c : EReal) = 0) (n r k) : (k0_pay13 (k0_pay21 x0 x1 x2 x3 x4 x5 x6 x7) (k0_pay22 x0 x1 x2 x3 x4 x5 x6 x7) (k0_pay23 x0 x1 x2 x3 x4 x5 x6 x7) (k0_pay24 x0 x1 x2 x3 x4 x5 x6 x7) (k0_pay25 x0 x1 x2 x3 x4 x5 x6 x7)
      c (ix3 n r k) : EReal) = Col.pR (sX x0 x1 x2 x3 n r) (visX x6 x7 n r) k := by
  unfold k0_pay13 Col.pR
  pointwise
  rw [pay21_at]
  by_cases h : visX x6 x7 n r k
  · rw [if_pos h, if_pos h]
    have e := pay22_at x0 x1 x2 x3 x4 x5 x6 x7 n r k h
    have e3 := pay23_at x0 x1 x2 x3 x4 x5 x6 x7 n r k h
    rw [e, e3]
    have e4 : k0_pay24 x0 x1 x2 x3 x4 x5 x6 x7 (ix3 n r k) = if (k0_pay22 x0 x1 x2 x3 x4 x5 x6 x7 (ix3 n r k) : EReal) < Ideal.ofBits FTy.f32 0xC2FE0000#32 then 1#1 else 0#1 := by
      unfold k0_pay24 k0_pay11 k0_pay22; pointwise
      split_ifs with hlt
      · rw [decide_eq_true hlt]; rfl
      · rw [decide_eq_false hlt]; rfl
    have e5 : (k0_pay25 x0 x1 x2 x3 x4 x5 x6 x7 (ix3 n r k) : EReal) = (k0_pay23 x0 x1 x2 x3 x4 x5 x6 x7 (ix3 n r k) - Ideal.ofBits FTy.f32 0x3F800000#32) * Ideal.ofBits FTy.f32 0x00800000#32 := by
      unfold k0_pay25 k0_pay12 k0_pay23; pointwise
    rw [e4, e5, e, e3]
    unfold Col.pow2E
    rw [show ∀ a b : EReal, Scalar.select 1#1 a b = a from fun _ _ => rfl]
    refine if_congr Iff.rfl ?_ rfl
    by_cases h2 : Ideal.liftRound Int.floor (sX x0 x1 x2 x3 n r k - Col.mR (sX x0 x1 x2 x3 n r) (visX x6 x7 n r)) < Ideal.ofBits FTy.f32 0xC2FE0000#32
    · rw [if_pos h2, if_pos h2]; exact hc
    · rw [if_neg h2, if_neg h2]; rfl
  · rw [if_neg h, if_neg h]; rfl

theorem pay14_at (c : Ideal .f32) (hc : (c : EReal) = 0) (n r u) : (k0_pay14 (k0_pay21 x0 x1 x2 x3 x4 x5 x6 x7) (k0_pay22 x0 x1 x2 x3 x4 x5 x6 x7) (k0_pay23 x0 x1 x2 x3 x4 x5 x6 x7) (k0_pay24 x0 x1 x2 x3 x4 x5 x6 x7) (k0_pay25 x0 x1 x2 x3 x4 x5 x6 x7)
      c (ix3 n r u) : EReal) = Col.lR (sX x0 x1 x2 x3 n r) (visX x6 x7 n r) := by
  unfold k0_pay14 Col.lR
  pointwise
  exact Finset.sum_congr rfl fun k _ => pay13_at x0 x1 x2 x3 x4 x5 x6 x7 c hc n r k

/-- The head pair and the query row of a result's entry. -/
abbrev hp (b : Fin 4) (H : Fin 16) : Fin 8 := ⟨b.val * 2 + H.val / 8, by omega⟩
abbrev qr (p : Fin 4096) (H : Fin 16) : Fin 32768 := ⟨p.val * 8 + H.val % 8, by omega⟩

theorem out0_8_at (b p H d) : (out0_8 x0 x1 x2 x3 x4 x5 x6 x7 (ix4 b p H d) : EReal)
    = Col.outR (sX x0 x1 x2 x3 (hp b H) (qr p H)) (fun k => x4 (ix3 (hp b H) k d)) (visX x6 x7 (hp b H) (qr p H)) (x5 (ix3 (hp b H) 0 0)) := by
  unfold out0_8
  refine (congrFun (View.canon_cons_unit_lit _ _ _ (by decide)) _).trans ?_
  rw [ld_x2 x4, ld_x5]
  unfold k0_pay15 Col.outR
  pointwise
  rw [pay14_at _ _ _ _ _ _ _ _ _ rfl]
  refine congrArg (fun z : EReal => (0 - z) * _) (Finset.sum_congr rfl fun k _ => ?_)
  rw [pay13_at _ _ _ _ _ _ _ _ _ rfl]

theorem pay16_at (v49 v55 v60 v65 v73 v75 v79 c) (b p H) : (k0_pay16 (F := Ideal) v49 v55 v60 v65 v73 v75 v79 c (ix3 b p H) : EReal)
    = v60 (ix3 (hp b H) (qr p H) 0) + Ideal.div (Ideal.log (k0_pay14 v49 v65 v73 v75 v79 c (ix3 (hp b H) (qr p H) 0))) (Ideal.log (Ideal.ofBits FTy.f32 1073741824#32))
      - Ideal.div (Ideal.log (v55 (ix3 (hp b H) (qr p H) 0))) (Ideal.log (Ideal.ofBits FTy.f32 1073741824#32)) := by
  unfold k0_pay16
  pointwise

theorem out0_9_at (b p H) : (out0_9 x0 x1 x2 x3 x4 x5 x6 x7 (ix3 b p H) : EReal)
    = Col.lseR (sX x0 x1 x2 x3 (hp b H) (qr p H)) (visX x6 x7 (hp b H) (qr p H)) := by
  unfold out0_9
  refine (congrFun (View.canon_cons_unit_lit _ _ _ (by decide)) _).trans ?_
  refine (pay16_at _ _ _ _ _ _ _ _ b p H).trans ?_
  unfold Col.lseR
  rw [pay14_at x0 x1 x2 x3 x4 x5 x6 x7 (FloatOps.ofBits FTy.f32 0#32) (by simp [FloatOps.ofBits, Ideal.ofBits, Ideal.ieee])]
  have e7 : (k0_pay7 (k0_pay17 x0 x1 x2 x3 x4 x5 x6 x7) (k0_pay18 x0 x1 x2 x3 x4 x5 x6 x7) (k0_pay19 x0 x1 x2 x3 x4 x5 x6 x7)
      (k0_pay20 x0 x1 x2 x3 x4 x5 x6 x7) (View.ld x6 r0_2) (View.ld x7 r0_3) (ix3 (hp b H) (qr p H) 0) : EReal) = Col.mR (sX x0 x1 x2 x3 (hp b H) (qr p H)) (visX x6 x7 (hp b H) (qr p H)) := by
    unfold k0_pay18 k0_pay19 k0_pay20; rw [ld_x6, ld_x7]
    refine (pay7_at _ x6 x7 (hp b H) (qr p H) 0).trans ?_
    rw [show (fun x => (k0_pay17 x0 x1 x2 x3 x4 x5 x6 x7 (ix3 (hp b H) (qr p H) x) : EReal)) = sX x0 x1 x2 x3 (hp b H) (qr p H) from (funext fun x => pay17_at x0 x1 x2 x3 x4 x5 x6 x7 _ _ x)]
  have e6 : (k0_pay6 (k0_pay18 x0 x1 x2 x3 x4 x5 x6 x7) (k0_pay19 x0 x1 x2 x3 x4 x5 x6 x7) (k0_pay20 x0 x1 x2 x3 x4 x5 x6 x7) (View.ld x6 r0_2) (View.ld x7 r0_3) (ix3 (hp b H) (qr p H) 0) : EReal)
      = FloatOps.sitofp (F := Ideal) FTy.f32 (Col.nR (visX x6 x7 (hp b H) (qr p H))) := by
    unfold k0_pay18 k0_pay19 k0_pay20; rw [ld_x6, ld_x7]
    exact pay6_at x6 x7 (hp b H) (qr p H) 0
  rw [e7, e6]
end
end Cert.ReferenceIdeal.Gen
-- ==== Proof.R.Reads.lean ====
module
public import proofs.«01_k».proof.Proof.R.Value
@[expose] public section
/-!
# The reference's blocks as entries of the arguments
-/
set_option maxRecDepth 16384
noncomputable section
namespace Cert.ReferenceIdeal.Gen
open Idealize.ShloMosaic Idealize.ShloMosaic.TcCoe Idealize.ShloMosaic.Tactic Idealize.SL Idealize.SL.Sem
variable (m : (ℓ : Loc nD τ sig) → Buf (Elt Ideal) ℓ)
abbrev A0 (c : Dev nD) : Vec Ideal S4x4096x16x128 .fp8e4m3 := m ((c : Thread nD τ).loc main_arg0)
abbrev A1 (c : Dev nD) : Vec Ideal S4x4096x16 .f32 := m ((c : Thread nD τ).loc main_arg1)
abbrev A2 (c : Dev nD) : Vec Ideal S4x4096x2x128 .fp8e4m3 := m ((c : Thread nD τ).loc main_arg2)
abbrev A3 (c : Dev nD) : Vec Ideal S4x4096x2 .f32 := m ((c : Thread nD τ).loc main_arg3)
abbrev A4 (c : Dev nD) : Vec Ideal S4x4096x2x128 .fp8e4m3 := m ((c : Thread nD τ).loc main_arg4)
abbrev A5 (c : Dev nD) : Vec Ideal S4x2 .f32 := m ((c : Thread nD τ).loc main_arg5)
abbrev A6 (c : Dev nD) : Vec Ideal S4x4096 .i32 := m ((c : Thread nD τ).loc main_arg6)

theorem V_v2 (c : Dev nD) : V m c main_v2 = shapeCast S8x32768x128 (transpose S4x2x4096x8x128 [0, 2, 1, 3, 4] (shapeCast S4x4096x2x8x128 (A0 m c) shapeCasts_S4x4096x16x128_S4x4096x2x8x128) transposes_S4x4096x2x8x128_S4x2x4096x8x128_0_2_1_3_4) shapeCasts_S4x2x4096x8x128_S8x32768x128 := by
  unfold V
  after_results_simp
  rfl
theorem V_v5 (c : Dev nD) : V m c main_v5 = shapeCast S8x32768x1 (transpose S4x2x4096x8 [0, 2, 1, 3] (shapeCast S4x4096x2x8 (A1 m c) shapeCasts_S4x4096x16_S4x4096x2x8) transposes_S4x4096x2x8_S4x2x4096x8_0_2_1_3) shapeCasts_S4x2x4096x8_S8x32768x1 := by
  unfold V
  after_results_simp
  rfl
theorem V_v7 (c : Dev nD) : V m c main_v7 = shapeCast S8x4096x128 (transpose S4x2x4096x128 [0, 2, 1, 3] (A2 m c) transposes_S4x4096x2x128_S4x2x4096x128_0_2_1_3) shapeCasts_S4x2x4096x128_S8x4096x128 := by
  unfold V
  after_results_simp
  rfl
theorem V_v9 (c : Dev nD) : V m c main_v9 = shapeCast S8x1x4096 (transpose S4x2x4096 [0, 2, 1] (A3 m c) transposes_S4x4096x2_S4x2x4096_0_2_1) shapeCasts_S4x2x4096_S8x1x4096 := by
  unfold V
  after_results_simp
  rfl
theorem V_v11 (c : Dev nD) : V m c main_v11 = shapeCast S8x4096x128 (transpose S4x2x4096x128 [0, 2, 1, 3] (A4 m c) transposes_S4x4096x2x128_S4x2x4096x128_0_2_1_3) shapeCasts_S4x2x4096x128_S8x4096x128 := by
  unfold V
  after_results_simp
  rfl
theorem V_v12 (c : Dev nD) : V m c main_v12 = shapeCast S8x1x1 (A5 m c) shapeCasts_S4x2_S8x1x1 := by
  unfold V
  after_results_simp
  rfl
theorem V_v15 (c : Dev nD) : V m c main_v15 = shapeCast S8x1x4096 (shapeCast S8x4096 (broadcastInDim S4x2x4096 ![0, 2] bcast_S4x4096_S4x2x4096_0_2 (A6 m c)) shapeCasts_S4x2x4096_S8x4096) shapeCasts_S8x4096_S8x1x4096 := by
  unfold V
  after_results_simp
  rfl
theorem V_v20 (c : Dev nD) : V m c main_v20 = shapeCast S8x32768x1 (broadcastInDim S8x4096x8x1 ![0, 1, 3] bcast_S8x4096x1_S8x4096x8x1_0_1_3 (shapeCast S8x4096x1 (shapeCast S8x4096 (broadcastInDim S4x2x4096 ![0, 2] bcast_S4x4096_S4x2x4096_0_2 (A6 m c)) shapeCasts_S4x2x4096_S8x4096) shapeCasts_S8x4096_S8x4096x1)) shapeCasts_S8x4096x8x1_S8x32768x1 := by
  unfold V
  after_results_simp
  rfl

theorem v2_at (x : Vec Ideal S4x4096x16x128 .fp8e4m3) (n : Fin 8) (r : Fin 32768) (d : Fin 128) : shapeCast S8x32768x128 (transpose S4x2x4096x8x128 [0, 2, 1, 3, 4] (shapeCast S4x4096x2x8x128 x shapeCasts_S4x4096x16x128_S4x4096x2x8x128) transposes_S4x4096x2x8x128_S4x2x4096x8x128_0_2_1_3_4) shapeCasts_S4x2x4096x8x128_S8x32768x128 (ix3 n r d)
    = x (ix4 ⟨n.val / 2, by omega⟩ ⟨r.val / 8, by omega⟩ ⟨n.val % 2 * 8 + r.val % 8, by omega⟩ d) := by
  pointwise
theorem v5_at (x : Vec Ideal S4x4096x16 .f32) (n : Fin 8) (r : Fin 32768) (d : Fin 1) : shapeCast S8x32768x1 (transpose S4x2x4096x8 [0, 2, 1, 3] (shapeCast S4x4096x2x8 x shapeCasts_S4x4096x16_S4x4096x2x8) transposes_S4x4096x2x8_S4x2x4096x8_0_2_1_3) shapeCasts_S4x2x4096x8_S8x32768x1 (ix3 n r d)
    = x (ix3 ⟨n.val / 2, by omega⟩ ⟨r.val / 8, by omega⟩ ⟨n.val % 2 * 8 + r.val % 8, by omega⟩) := by
  pointwise
theorem v7_at (x : Vec Ideal S4x4096x2x128 .fp8e4m3) (n : Fin 8) (r : Fin 4096) (d : Fin 128) : shapeCast S8x4096x128 (transpose S4x2x4096x128 [0, 2, 1, 3] x transposes_S4x4096x2x128_S4x2x4096x128_0_2_1_3) shapeCasts_S4x2x4096x128_S8x4096x128 (ix3 n r d)
    = x (ix4 ⟨n.val / 2, by omega⟩ r ⟨n.val % 2, by omega⟩ d) := by
  pointwise
theorem v9_at (x : Vec Ideal S4x4096x2 .f32) (n : Fin 8) (u : Fin 1) (r : Fin 4096) : shapeCast S8x1x4096 (transpose S4x2x4096 [0, 2, 1] x transposes_S4x4096x2_S4x2x4096_0_2_1) shapeCasts_S4x2x4096_S8x1x4096 (ix3 n u r)
    = x (ix3 ⟨n.val / 2, by omega⟩ r ⟨n.val % 2, by omega⟩) := by
  pointwise
theorem v12_at (x : Vec Ideal S4x2 .f32) (n : Fin 8) (u v : Fin 1) : shapeCast S8x1x1 x shapeCasts_S4x2_S8x1x1 (ix3 n u v) = x (ix2 ⟨n.val / 2, by omega⟩ ⟨n.val % 2, by omega⟩) := by
  pointwise
theorem v15_at (x : Vec Ideal S4x4096 .i32) (n : Fin 8) (u : Fin 1) (r : Fin 4096) : shapeCast S8x1x4096 (shapeCast S8x4096 (broadcastInDim S4x2x4096 ![0, 2] bcast_S4x4096_S4x2x4096_0_2 x) shapeCasts_S4x2x4096_S8x4096) shapeCasts_S8x4096_S8x1x4096 (ix3 n u r)
    = x (ix2 ⟨n.val / 2, by omega⟩ r) := by
  pointwise
theorem v20_at (x : Vec Ideal S4x4096 .i32) (n : Fin 8) (r : Fin 32768) (u : Fin 1) : shapeCast S8x32768x1 (broadcastInDim S8x4096x8x1 ![0, 1, 3] bcast_S8x4096x1_S8x4096x8x1_0_1_3 (shapeCast S8x4096x1 (shapeCast S8x4096 (broadcastInDim S4x2x4096 ![0, 2] bcast_S4x4096_S4x2x4096_0_2 x) shapeCasts_S4x2x4096_S8x4096) shapeCasts_S8x4096_S8x4096x1)) shapeCasts_S8x4096x8x1_S8x32768x1 (ix3 n r u)
    = x (ix2 ⟨n.val / 2, by omega⟩ ⟨r.val / 8, by omega⟩) := by
  pointwise

theorem iblk_whole (c : Dev nD) (t : Fin cfg0.N) : iblk m c 0 t = V m c main_v2 ∧ iblk m c 1 t = V m c main_v5 ∧ iblk m c 2 t = V m c main_v7 ∧ iblk m c 3 t = V m c main_v9
    ∧ iblk m c 4 t = V m c main_v11 ∧ iblk m c 5 t = V m c main_v12 ∧ iblk m c 6 t = V m c main_v20 ∧ iblk m c 7 t = V m c main_v15 := by
  refine ⟨?_, ?_, ?_, ?_, ?_, ?_, ?_, ?_⟩
  · funext y; show V m c main_v2 ((((cfg0.win 0).rect t).emb) y) = _; refine congrArg _ (funext fun x => Fin.ext ?_)
    refine (Pipeline.Window.rect_emb_val _ t y x).trans ?_
    fin_cases x
    · show 0 * 8 + (y 0).val = (y 0).val
      omega
    · show 0 * 32768 + (y 1).val = (y 1).val
      omega
    · show 0 * 128 + (y 2).val = (y 2).val
      omega
  · funext y; show V m c main_v5 ((((cfg0.win 1).rect t).emb) y) = _; refine congrArg _ (funext fun x => Fin.ext ?_)
    refine (Pipeline.Window.rect_emb_val _ t y x).trans ?_
    fin_cases x
    · show 0 * 8 + (y 0).val = (y 0).val
      omega
    · show 0 * 32768 + (y 1).val = (y 1).val
      omega
    · show 0 * 1 + (y 2).val = (y 2).val
      omega
  · funext y; show V m c main_v7 ((((cfg0.win 2).rect t).emb) y) = _; refine congrArg _ (funext fun x => Fin.ext ?_)
    refine (Pipeline.Window.rect_emb_val _ t y x).trans ?_
    fin_cases x <;> exact Nat.zero_add _
  · funext y; show V m c main_v9 ((((cfg0.win 3).rect t).emb) y) = _; refine congrArg _ (funext fun x => Fin.ext ?_)
    refine (Pipeline.Window.rect_emb_val _ t y x).trans ?_
    fin_cases x <;> exact Nat.zero_add _
  · funext y; show V m c main_v11 ((((cfg0.win 4).rect t).emb) y) = _; refine congrArg _ (funext fun x => Fin.ext ?_)
    refine (Pipeline.Window.rect_emb_val _ t y x).trans ?_
    fin_cases x <;> exact Nat.zero_add _
  · funext y; show V m c main_v12 ((((cfg0.win 5).rect t).emb) y) = _; refine congrArg _ (funext fun x => Fin.ext ?_)
    refine (Pipeline.Window.rect_emb_val _ t y x).trans ?_
    fin_cases x <;> exact Nat.zero_add _
  · funext y; show V m c main_v20 ((((cfg0.win 6).rect t).emb) y) = _; refine congrArg _ (funext fun x => Fin.ext ?_)
    refine (Pipeline.Window.rect_emb_val _ t y x).trans ?_
    fin_cases x
    · show 0 * 8 + (y 0).val = (y 0).val
      omega
    · show 0 * 32768 + (y 1).val = (y 1).val
      omega
    · show 0 * 1 + (y 2).val = (y 2).val
      omega
  · funext y; show V m c main_v15 ((((cfg0.win 7).rect t).emb) y) = _; refine congrArg _ (funext fun x => Fin.ext ?_)
    refine (Pipeline.Window.rect_emb_val _ t y x).trans ?_
    fin_cases x <;> exact Nat.zero_add _
end Cert.ReferenceIdeal.Gen
-- ==== Proof.R.Final.lean ====
module
public import proofs.«01_k».proof.Proof.R.Reads
public import proofs.«01_k».proof.Proof.M.Spec
@[expose] public section
/-!
# The reference's two results, whole
-/
set_option maxRecDepth 16384
noncomputable section
namespace Cert.ReferenceIdeal.Gen
open Idealize.ShloMosaic Idealize.ShloMosaic.TcCoe Idealize.ShloMosaic.Tactic Idealize.SL Idealize.SL.Sem
variable (m : (ℓ : Loc nD τ sig) → Buf (Elt Ideal) ℓ)

/-! ## The rearranged arguments at the places a result entry reads -/
theorem hp_div (b : Fin 4) (H : Fin 16) : (⟨(hp b H).val / 2, by have := (hp b H).isLt; omega⟩ : Fin 4) = b := Fin.ext (by
  show (b.val * 2 + H.val / 8) / 2 = b.val; omega)
theorem hp_mod (b : Fin 4) (H : Fin 16) : (⟨(hp b H).val % 2, by omega⟩ : Fin 2) = ⟨H.val / 8, by omega⟩ := Fin.ext (by
  show (b.val * 2 + H.val / 8) % 2 = H.val / 8; omega)
theorem qr_div (p : Fin 4096) (H : Fin 16) : (⟨(qr p H).val / 8, by have := (qr p H).isLt; omega⟩ : Fin 4096) = p := Fin.ext (by
  show (p.val * 8 + H.val % 8) / 8 = p.val; omega)
theorem hq_mod (b : Fin 4) (p : Fin 4096) (H : Fin 16) : (⟨(hp b H).val % 2 * 8 + (qr p H).val % 8, by omega⟩ : Fin 16) = H := Fin.ext (by
  show (b.val * 2 + H.val / 8) % 2 * 8 + (p.val * 8 + H.val % 8) % 8 = H.val; omega)

theorem e0 (c : Dev nD) (b : Fin 4) (p : Fin 4096) (H : Fin 16) (d : Fin 128) : V m c main_v2 (ix3 (hp b H) (qr p H) d) = A0 m c (ix4 b p H d) := by
  rw [V_v2, v2_at, hp_div, qr_div, hq_mod]
theorem e1 (c : Dev nD) (b : Fin 4) (p : Fin 4096) (H : Fin 16) (d : Fin 1) : V m c main_v5 (ix3 (hp b H) (qr p H) d) = A1 m c (ix3 b p H) := by
  rw [V_v5, v5_at, hp_div, qr_div, hq_mod]
theorem e2 (c : Dev nD) (b : Fin 4) (H : Fin 16) (r : Fin 4096) (d : Fin 128) : V m c main_v7 (ix3 (hp b H) r d) = A2 m c (ix4 b r ⟨H.val / 8, by omega⟩ d) := by
  rw [V_v7, v7_at, hp_div, hp_mod]
theorem e3 (c : Dev nD) (b : Fin 4) (H : Fin 16) (r : Fin 4096) (u : Fin 1) : V m c main_v9 (ix3 (hp b H) u r) = A3 m c (ix3 b r ⟨H.val / 8, by omega⟩) := by
  rw [V_v9, v9_at, hp_div, hp_mod]
theorem e4 (c : Dev nD) (b : Fin 4) (H : Fin 16) (r : Fin 4096) (d : Fin 128) : V m c main_v11 (ix3 (hp b H) r d) = A4 m c (ix4 b r ⟨H.val / 8, by omega⟩ d) := by
  rw [V_v11, v7_at, hp_div, hp_mod]
theorem e5 (c : Dev nD) (b : Fin 4) (H : Fin 16) (u v : Fin 1) : V m c main_v12 (ix3 (hp b H) u v) = A5 m c (ix2 b ⟨H.val / 8, by omega⟩) := by
  rw [V_v12, v12_at, hp_div, hp_mod]
theorem e6 (c : Dev nD) (b : Fin 4) (p : Fin 4096) (H : Fin 16) (d : Fin 1) : V m c main_v20 (ix3 (hp b H) (qr p H) d) = A6 m c (ix2 b p) := by
  rw [V_v20, v20_at, hp_div, qr_div]
theorem e7 (c : Dev nD) (b : Fin 4) (H : Fin 16) (r : Fin 4096) (u : Fin 1) : V m c main_v15 (ix3 (hp b H) u r) = A6 m c (ix2 b r) := by
  rw [V_v15, v15_at, hp_div]

theorem sX_eq (c : Dev nD) (b : Fin 4) (p : Fin 4096) (H : Fin 16) (r : Fin 4096) :
    sX (V m c main_v2) (V m c main_v5) (V m c main_v7) (V m c main_v9) (hp b H) (qr p H) r = Col.sS (A0 m c) (A1 m c) (A2 m c) (A3 m c) b p H r := by
  unfold sX Col.sS
  rw [e1, e3]
  refine congrArg (fun z : EReal => z * _ * _ * Col.SC) (Finset.sum_congr rfl fun d _ => ?_)
  rw [e0, e2]

theorem visX_iff (c : Dev nD) (b : Fin 4) (p : Fin 4096) (H : Fin 16) (r : Fin 4096) :
    visX (V m c main_v20) (V m c main_v15) (hp b H) (qr p H) r ↔ Col.visS (A6 m c) b p r := by
  unfold visX Col.visS
  rw [e6, e7]
  have : (qr p H).val / 8 = p.val := congrArg Fin.val (qr_div p H)
  rw [this]

/-! ## The results -/
/-- The first result. -/
def outAll (c : Dev nD) : Vec Ideal S4x4096x16x128 .bf16 := fun y =>
  Col.outS (A0 m c) (A1 m c) (A2 m c) (A3 m c) (A4 m c) (A5 m c) (A6 m c) (y 0) (y 1) (y 2) (y 3)
/-- The second result. -/
def lseAll (c : Dev nD) : Vec Ideal S4x4096x16 .f32 := fun y => Col.lseS (A0 m c) (A1 m c) (A2 m c) (A3 m c) (A6 m c) (y 0) (y 1) (y 2)

theorem eta4 (y : S4x4096x16x128.Idx) : y = ix4 (y 0) (y 1) (y 2) (y 3) := by funext x; fin_cases x <;> rfl
theorem eta3 (y : S4x4096x16.Idx) : y = ix3 (y 0) (y 1) (y 2) := by funext x; fin_cases x <;> rfl

theorem after8_eq (c : Dev nD) (t : Fin cfg0.N) : (dats m 0 c).after 8 t = outAll m c := by
  obtain ⟨w0, w1, w2, w3, w4, w5, w6, w7⟩ := iblk_whole m c t
  rw [after0_8, w0, w1, w2, w3, w4, w5, w6, w7]
  funext y
  obtain ⟨b, p, H, d, rfl⟩ : ∃ (b : Fin 4) (p : Fin 4096) (H : Fin 16) (d : Fin 128), y = (ix4 b p H d : S4x4096x16x128.Idx) := ⟨_, _, _, _, eta4 y⟩
  refine (out0_8_at _ _ _ _ _ _ _ _ b p H d).trans ?_
  exact Col.outR_congr (i := _) (i' := _) (fun r => sX_eq m c b p H r) (fun r => e4 m c b H r d) (fun r => visX_iff m c b p H r) (e5 m c b H 0 0)

theorem after9_eq (c : Dev nD) (t : Fin cfg0.N) : (dats m 0 c).after 9 t = lseAll m c := by
  obtain ⟨w0, w1, w2, w3, w4, w5, w6, w7⟩ := iblk_whole m c t
  rw [after0_9, w0, w1, w2, w3, w4, w5, w6, w7]
  funext y
  obtain ⟨b, p, H, rfl⟩ : ∃ (b : Fin 4) (p : Fin 4096) (H : Fin 16), y = (ix3 b p H : S4x4096x16.Idx) := ⟨_, _, _, eta3 y⟩
  refine (out0_9_at _ _ _ _ _ _ _ _ b p H).trans ?_
  exact Col.lseR_congr (i := _) (i' := _) (fun r => sX_eq m c b p H r) (fun r => visX_iff m c b p H r)

theorem whole8 : (cfg0.win 8).WholeAt t0_0 := by decide +kernel
theorem whole9 : (cfg0.win 9).WholeAt t0_0 := by decide +kernel

theorem arr8 (c : Dev nD) : (dats m 0 c).arrAt 8 cfg0.N = outAll m c :=
  (dats m 0 c).arrAt_eq_of_after_last 8 t0_0 whole8 (outAll m c) fun j => congrFun (after8_eq m c t0_0) _
theorem arr9 (c : Dev nD) : (dats m 0 c).arrAt 9 cfg0.N = lseAll m c :=
  (dats m 0 c).arrAt_eq_of_after_last 9 t0_0 whole9 (lseAll m c) fun j => congrFun (after9_eq m c t0_0) _
end Cert.ReferenceIdeal.Gen
-- ==== Proof.M.Alg.lean ====
module
public import proofs.«01_k».proof.Defs
public import proofs.«01_k».proof.Proof.M.KFinal
public import proofs.«01_k».proof.Proof.M.Pre
public import proofs.«01_k».proof.Proof.R.Final
@[expose] public section
/-!
# The two programs return the same results
-/
set_option maxRecDepth 16384
noncomputable section
namespace Cert.KernelIdeal.Gen
open Idealize.ShloMosaic Idealize.ShloMosaic.TcCoe Idealize.ShloMosaic.Tactic Idealize.SL Idealize.SL.Sem

theorem hx_of (m : (ℓ : Loc nD τ sig) → Buf (Elt Ideal) ℓ) (hP : Cert.Pre_KernelIdeal_laid_out m) (c : Dev nD) (b : Fin 4) (t : ℕ) (ht : t + 1 < 4096) :
    (A6 m c (ix2 b ⟨t, Nat.lt_of_succ_lt ht⟩)).toInt ≤ (A6 m c (ix2 b ⟨t + 1, ht⟩)).toInt :=
  Cert.Pre_laid_out.sorted _ _ _ _ _ _ _ (hP c).2 b t ht

theorem hq_of (m : (ℓ : Loc nD τ sig) → Buf (Elt Ideal) ℓ) (hP : Cert.Pre_KernelIdeal_laid_out m) (c : Dev nD) (b : Fin 4) (p : Fin 4096) (H : Fin 16) :
    (0 : EReal) < A1 m c (ix3 b p H) :=
  Cert.Pre_laid_out.scale_pos _ _ _ _ _ _ _ (hP c).1 b p H

/-- The kernel's run: both results, entry by entry. -/
theorem run_values (m : (ℓ : Loc nD τ sig) → Buf (Elt Ideal) ℓ) (ρ : Dev nD → PrngReg) (hP : Cert.Pre_KernelIdeal_laid_out m) :
    θ_run defs (onTc (τ := τ) (main (F := Ideal))) ⟨m, fun _ => 0, ρ⟩ (fun r => ∀ c : Dev nD,
      r.2.mem ((c.tc : Thread nD τ).loc main_v17_0) = G7 m c ∧ r.2.mem ((c.tc : Thread nD τ).loc main_v20) = L20 m c) :=
  (θ_run defs _ _).mono (fun r h c => ⟨((h.1 c).1 7).trans (arr7 m (hx_of m hP) (hq_of m hP) trivial c),
    ((h.1 c).2 main_v20 (Pipeline.mem_restRefs_of (win := spec0) main_v20 (by decide) (by decide))).trans (tail20 m (hx_of m hP) (hq_of m hP) trivial c)⟩)
    (run_main_quiescentV m ρ trivial (hyps m) (hypsV m trivial))

end Cert.KernelIdeal.Gen

namespace Cert.Proof
open Idealize.ShloMosaic Idealize.ShloMosaic.TcCoe Idealize.SL Idealize.SL.Sem

theorem algebraic : Cert.algebraic_KernelIdeal_ReferenceIdeal_pre_laid_out := by
  intro m g m' g' hP hA
  refine ⟨fun c => Cert.KernelIdeal.Gen.G7 m c, fun c => Cert.KernelIdeal.Gen.L20 m c, ?_, ?_⟩
  · refine (θ_run Cert.KernelIdeal.defs _ _).mono (fun r h c => ?_)
      (θ_run_and (Cert.KernelIdeal.Gen.run_values m g hP) (Cert.KernelIdeal.Gen.unchanged m g trivial (Cert.KernelIdeal.Gen.hyps m)))
    exact ⟨(h.1 c).1, (h.1 c).2, h.2 c⟩
  · refine (θ_run Cert.ReferenceIdeal.defs _ _).mono (fun r h c => ?_) (Cert.ReferenceIdeal.Value.run_blocks m' g')
    obtain ⟨h0, h1, hk⟩ := h c
    obtain ⟨a0, a1, a2, a3, a4, a5, a6⟩ := hA c
    refine ⟨(h0.trans (Cert.ReferenceIdeal.Gen.arr8 m' c)).trans ?_, (h1.trans (Cert.ReferenceIdeal.Gen.arr9 m' c)).trans ?_, hk⟩
    · unfold Cert.ReferenceIdeal.Gen.outAll Cert.ReferenceIdeal.Gen.A0 Cert.ReferenceIdeal.Gen.A1 Cert.ReferenceIdeal.Gen.A2 Cert.ReferenceIdeal.Gen.A3 Cert.ReferenceIdeal.Gen.A4 Cert.ReferenceIdeal.Gen.A5 Cert.ReferenceIdeal.Gen.A6
      rw [a0, a1, a2, a3, a4, a5, a6]
      rfl
    · unfold Cert.ReferenceIdeal.Gen.lseAll Cert.ReferenceIdeal.Gen.A0 Cert.ReferenceIdeal.Gen.A1 Cert.ReferenceIdeal.Gen.A2 Cert.ReferenceIdeal.Gen.A3 Cert.ReferenceIdeal.Gen.A6
      rw [a0, a1, a2, a3, a6]
      rfl

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Frame
public import proofs.«01_k».proof.Proof.Gen.ReferenceIdeal.Value
public import proofs.«01_k».proof.Proof.Gen.Pre_laid_out
public import proofs.«01_k».proof.Proof.P.Table
public import proofs.«01_k».proof.Proof.I.Table
public import proofs.«01_k».proof.Proof.M.Alg
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_laid_out.Gen.facts,
  fun m ρ _ => Cert.Kernel.Gen.frame m ρ trivial (Cert.Kernel.Gen.hyps m),
  fun m ρ _ => Cert.KernelIdeal.Gen.frame m ρ trivial (Cert.KernelIdeal.Gen.hyps m),
  fun m ρ _ => Cert.KernelIdeal.Gen.frame m ρ trivial (Cert.KernelIdeal.Gen.hyps m),
  fun m ρ _ => Cert.ReferenceIdeal.Gen.frame m ρ,
  fun m ρ _ => Cert.ReferenceIdeal.Gen.frame m ρ,
  trivial, algebraic⟩

end Cert.Proof

end
